-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def Pre_ScanFinal (m : (ℓ : Loc Cert.ScanFinal.nD Cert.ScanFinal.τ Cert.ScanFinal.sig) → Buf (Elt Bits) ℓ) : Prop :=
  True

def Pre_ScanFinalIdeal (m : (ℓ : Loc Cert.ScanFinalIdeal.nD Cert.ScanFinalIdeal.τ Cert.ScanFinalIdeal.sig) → Buf (Elt Ideal) ℓ) : Prop :=
  True

def Pre_ScanFinalReferenceIdeal (m : (ℓ : Loc Cert.ScanFinalReferenceIdeal.nD Cert.ScanFinalReferenceIdeal.τ Cert.ScanFinalReferenceIdeal.sig) → Buf (Elt Ideal) ℓ) : Prop :=
  True

def Pre_Tok (m : (ℓ : Loc Cert.Tok.nD Cert.Tok.τ Cert.Tok.sig) → Buf (Elt Bits) ℓ) : Prop :=
  True

def Pre_TokIdeal (m : (ℓ : Loc Cert.TokIdeal.nD Cert.TokIdeal.τ Cert.TokIdeal.sig) → Buf (Elt Ideal) ℓ) : Prop :=
  True

def Pre_TokReferenceIdeal (m : (ℓ : Loc Cert.TokReferenceIdeal.nD Cert.TokReferenceIdeal.τ Cert.TokReferenceIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8))
      ∧ r.2.sem = fun _ => 0)

def quiescent_ScanFinal [hScanFinal : Cert.ScanFinal.Facts] : Prop :=
  ∀ (m : (ℓ : Loc Cert.ScanFinal.nD Cert.ScanFinal.τ Cert.ScanFinal.sig) → Buf (Elt Bits) ℓ) (g : Dev Cert.ScanFinal.nD → PrngReg), Pre_ScanFinal m →
    θ_run (Cert.ScanFinal.defs (F := Bits)) (onTc (τ := Cert.ScanFinal.τ) (Cert.ScanFinal.main (F := Bits))) ⟨m, fun _ => 0, g⟩ (fun r => (∀ c : Dev Cert.ScanFinal.nD,
      r.2.mem ((c.tc : Thread Cert.ScanFinal.nD Cert.ScanFinal.τ).loc Cert.ScanFinal.main_arg0) = m ((c.tc : Thread Cert.ScanFinal.nD Cert.ScanFinal.τ).loc Cert.ScanFinal.main_arg0)
      ∧ r.2.mem ((c.tc : Thread Cert.ScanFinal.nD Cert.ScanFinal.τ).loc Cert.ScanFinal.main_arg1) = m ((c.tc : Thread Cert.ScanFinal.nD Cert.ScanFinal.τ).loc Cert.ScanFinal.main_arg1)
      ∧ r.2.mem ((c.tc : Thread Cert.ScanFinal.nD Cert.ScanFinal.τ).loc Cert.ScanFinal.main_arg2) = m ((c.tc : Thread Cert.ScanFinal.nD Cert.ScanFinal.τ).loc Cert.ScanFinal.main_arg2)
      ∧ r.2.mem ((c.tc : Thread Cert.ScanFinal.nD Cert.ScanFinal.τ).loc Cert.ScanFinal.main_arg3) = m ((c.tc : Thread Cert.ScanFinal.nD Cert.ScanFinal.τ).loc Cert.ScanFinal.main_arg3)
      ∧ r.2.mem ((c.tc : Thread Cert.ScanFinal.nD Cert.ScanFinal.τ).loc Cert.ScanFinal.main_arg4) = m ((c.tc : Thread Cert.ScanFinal.nD Cert.ScanFinal.τ).loc Cert.ScanFinal.main_arg4)
      ∧ r.2.mem ((c.tc : Thread Cert.ScanFinal.nD Cert.ScanFinal.τ).loc Cert.ScanFinal.main_arg5) = m ((c.tc : Thread Cert.ScanFinal.nD Cert.ScanFinal.τ).loc Cert.ScanFinal.main_arg5)
      ∧ r.2.mem ((c.tc : Thread Cert.ScanFinal.nD Cert.ScanFinal.τ).loc Cert.ScanFinal.main_arg6) = m ((c.tc : Thread Cert.ScanFinal.nD Cert.ScanFinal.τ).loc Cert.ScanFinal.main_arg6)
      ∧ r.2.mem ((c.tc : Thread Cert.ScanFinal.nD Cert.ScanFinal.τ).loc Cert.ScanFinal.main_arg7) = m ((c.tc : Thread Cert.ScanFinal.nD Cert.ScanFinal.τ).loc Cert.ScanFinal.main_arg7)
      ∧ r.2.mem ((c.tc : Thread Cert.ScanFinal.nD Cert.ScanFinal.τ).loc Cert.ScanFinal.main_arg8) = m ((c.tc : Thread Cert.ScanFinal.nD Cert.ScanFinal.τ).loc Cert.ScanFinal.main_arg8))
      ∧ r.2.sem = fun _ => 0)

def quiescent_ScanFinalIdeal [hScanFinalIdeal : Cert.ScanFinalIdeal.Facts] : Prop :=
  ∀ (m : (ℓ : Loc Cert.ScanFinalIdeal.nD Cert.ScanFinalIdeal.τ Cert.ScanFinalIdeal.sig) → Buf (Elt Ideal) ℓ) (g : Dev Cert.ScanFinalIdeal.nD → PrngReg), Pre_ScanFinalIdeal m →
    θ_run (Cert.ScanFinalIdeal.defs (F := Ideal)) (onTc (τ := Cert.ScanFinalIdeal.τ) (Cert.ScanFinalIdeal.main (F := Ideal))) ⟨m, fun _ => 0, g⟩ (fun r => (∀ c : Dev Cert.ScanFinalIdeal.nD,
      r.2.mem ((c.tc : Thread Cert.ScanFinalIdeal.nD Cert.ScanFinalIdeal.τ).loc Cert.ScanFinalIdeal.main_arg0) = m ((c.tc : Thread Cert.ScanFinalIdeal.nD Cert.ScanFinalIdeal.τ).loc Cert.ScanFinalIdeal.main_arg0)
      ∧ r.2.mem ((c.tc : Thread Cert.ScanFinalIdeal.nD Cert.ScanFinalIdeal.τ).loc Cert.ScanFinalIdeal.main_arg1) = m ((c.tc : Thread Cert.ScanFinalIdeal.nD Cert.ScanFinalIdeal.τ).loc Cert.ScanFinalIdeal.main_arg1)
      ∧ r.2.mem ((c.tc : Thread Cert.ScanFinalIdeal.nD Cert.ScanFinalIdeal.τ).loc Cert.ScanFinalIdeal.main_arg2) = m ((c.tc : Thread Cert.ScanFinalIdeal.nD Cert.ScanFinalIdeal.τ).loc Cert.ScanFinalIdeal.main_arg2)
      ∧ r.2.mem ((c.tc : Thread Cert.ScanFinalIdeal.nD Cert.ScanFinalIdeal.τ).loc Cert.ScanFinalIdeal.main_arg3) = m ((c.tc : Thread Cert.ScanFinalIdeal.nD Cert.ScanFinalIdeal.τ).loc Cert.ScanFinalIdeal.main_arg3)
      ∧ r.2.mem ((c.tc : Thread Cert.ScanFinalIdeal.nD Cert.ScanFinalIdeal.τ).loc Cert.ScanFinalIdeal.main_arg4) = m ((c.tc : Thread Cert.ScanFinalIdeal.nD Cert.ScanFinalIdeal.τ).loc Cert.ScanFinalIdeal.main_arg4)
      ∧ r.2.mem ((c.tc : Thread Cert.ScanFinalIdeal.nD Cert.ScanFinalIdeal.τ).loc Cert.ScanFinalIdeal.main_arg5) = m ((c.tc : Thread Cert.ScanFinalIdeal.nD Cert.ScanFinalIdeal.τ).loc Cert.ScanFinalIdeal.main_arg5)
      ∧ r.2.mem ((c.tc : Thread Cert.ScanFinalIdeal.nD Cert.ScanFinalIdeal.τ).loc Cert.ScanFinalIdeal.main_arg6) = m ((c.tc : Thread Cert.ScanFinalIdeal.nD Cert.ScanFinalIdeal.τ).loc Cert.ScanFinalIdeal.main_arg6)
      ∧ r.2.mem ((c.tc : Thread Cert.ScanFinalIdeal.nD Cert.ScanFinalIdeal.τ).loc Cert.ScanFinalIdeal.main_arg7) = m ((c.tc : Thread Cert.ScanFinalIdeal.nD Cert.ScanFinalIdeal.τ).loc Cert.ScanFinalIdeal.main_arg7)
      ∧ r.2.mem ((c.tc : Thread Cert.ScanFinalIdeal.nD Cert.ScanFinalIdeal.τ).loc Cert.ScanFinalIdeal.main_arg8) = m ((c.tc : Thread Cert.ScanFinalIdeal.nD Cert.ScanFinalIdeal.τ).loc Cert.ScanFinalIdeal.main_arg8))
      ∧ r.2.sem = fun _ => 0)

def quiescent_ScanFinalReferenceIdeal [hScanFinalReferenceIdeal : Cert.ScanFinalReferenceIdeal.Facts] : Prop :=
  ∀ (m : (ℓ : Loc Cert.ScanFinalReferenceIdeal.nD Cert.ScanFinalReferenceIdeal.τ Cert.ScanFinalReferenceIdeal.sig) → Buf (Elt Ideal) ℓ) (g : Dev Cert.ScanFinalReferenceIdeal.nD → PrngReg), Pre_ScanFinalReferenceIdeal m →
    θ_run (Cert.ScanFinalReferenceIdeal.defs (F := Ideal)) (onTc (τ := Cert.ScanFinalReferenceIdeal.τ) (Cert.ScanFinalReferenceIdeal.main (F := Ideal))) ⟨m, fun _ => 0, g⟩ (fun r => (∀ c : Dev Cert.ScanFinalReferenceIdeal.nD,
      r.2.mem ((c.tc : Thread Cert.ScanFinalReferenceIdeal.nD Cert.ScanFinalReferenceIdeal.τ).loc Cert.ScanFinalReferenceIdeal.main_arg0) = m ((c.tc : Thread Cert.ScanFinalReferenceIdeal.nD Cert.ScanFinalReferenceIdeal.τ).loc Cert.ScanFinalReferenceIdeal.main_arg0)
      ∧ r.2.mem ((c.tc : Thread Cert.ScanFinalReferenceIdeal.nD Cert.ScanFinalReferenceIdeal.τ).loc Cert.ScanFinalReferenceIdeal.main_arg1) = m ((c.tc : Thread Cert.ScanFinalReferenceIdeal.nD Cert.ScanFinalReferenceIdeal.τ).loc Cert.ScanFinalReferenceIdeal.main_arg1)
      ∧ r.2.mem ((c.tc : Thread Cert.ScanFinalReferenceIdeal.nD Cert.ScanFinalReferenceIdeal.τ).loc Cert.ScanFinalReferenceIdeal.main_arg2) = m ((c.tc : Thread Cert.ScanFinalReferenceIdeal.nD Cert.ScanFinalReferenceIdeal.τ).loc Cert.ScanFinalReferenceIdeal.main_arg2)
      ∧ r.2.mem ((c.tc : Thread Cert.ScanFinalReferenceIdeal.nD Cert.ScanFinalReferenceIdeal.τ).loc Cert.ScanFinalReferenceIdeal.main_arg3) = m ((c.tc : Thread Cert.ScanFinalReferenceIdeal.nD Cert.ScanFinalReferenceIdeal.τ).loc Cert.ScanFinalReferenceIdeal.main_arg3)
      ∧ r.2.mem ((c.tc : Thread Cert.ScanFinalReferenceIdeal.nD Cert.ScanFinalReferenceIdeal.τ).loc Cert.ScanFinalReferenceIdeal.main_arg4) = m ((c.tc : Thread Cert.ScanFinalReferenceIdeal.nD Cert.ScanFinalReferenceIdeal.τ).loc Cert.ScanFinalReferenceIdeal.main_arg4)
      ∧ r.2.mem ((c.tc : Thread Cert.ScanFinalReferenceIdeal.nD Cert.ScanFinalReferenceIdeal.τ).loc Cert.ScanFinalReferenceIdeal.main_arg5) = m ((c.tc : Thread Cert.ScanFinalReferenceIdeal.nD Cert.ScanFinalReferenceIdeal.τ).loc Cert.ScanFinalReferenceIdeal.main_arg5)
      ∧ r.2.mem ((c.tc : Thread Cert.ScanFinalReferenceIdeal.nD Cert.ScanFinalReferenceIdeal.τ).loc Cert.ScanFinalReferenceIdeal.main_arg6) = m ((c.tc : Thread Cert.ScanFinalReferenceIdeal.nD Cert.ScanFinalReferenceIdeal.τ).loc Cert.ScanFinalReferenceIdeal.main_arg6)
      ∧ r.2.mem ((c.tc : Thread Cert.ScanFinalReferenceIdeal.nD Cert.ScanFinalReferenceIdeal.τ).loc Cert.ScanFinalReferenceIdeal.main_arg7) = m ((c.tc : Thread Cert.ScanFinalReferenceIdeal.nD Cert.ScanFinalReferenceIdeal.τ).loc Cert.ScanFinalReferenceIdeal.main_arg7)
      ∧ r.2.mem ((c.tc : Thread Cert.ScanFinalReferenceIdeal.nD Cert.ScanFinalReferenceIdeal.τ).loc Cert.ScanFinalReferenceIdeal.main_arg8) = m ((c.tc : Thread Cert.ScanFinalReferenceIdeal.nD Cert.ScanFinalReferenceIdeal.τ).loc Cert.ScanFinalReferenceIdeal.main_arg8))
      ∧ r.2.sem = fun _ => 0)

def quiescent_Tok [hTok : Cert.Tok.Facts] : Prop :=
  ∀ (m : (ℓ : Loc Cert.Tok.nD Cert.Tok.τ Cert.Tok.sig) → Buf (Elt Bits) ℓ) (g : Dev Cert.Tok.nD → PrngReg), Pre_Tok m →
    θ_run (Cert.Tok.defs (F := Bits)) (onTc (τ := Cert.Tok.τ) (Cert.Tok.main (F := Bits))) ⟨m, fun _ => 0, g⟩ (fun r => (∀ c : Dev Cert.Tok.nD,
      r.2.mem ((c.tc : Thread Cert.Tok.nD Cert.Tok.τ).loc Cert.Tok.main_arg0) = m ((c.tc : Thread Cert.Tok.nD Cert.Tok.τ).loc Cert.Tok.main_arg0)
      ∧ r.2.mem ((c.tc : Thread Cert.Tok.nD Cert.Tok.τ).loc Cert.Tok.main_arg1) = m ((c.tc : Thread Cert.Tok.nD Cert.Tok.τ).loc Cert.Tok.main_arg1)
      ∧ r.2.mem ((c.tc : Thread Cert.Tok.nD Cert.Tok.τ).loc Cert.Tok.main_arg2) = m ((c.tc : Thread Cert.Tok.nD Cert.Tok.τ).loc Cert.Tok.main_arg2)
      ∧ r.2.mem ((c.tc : Thread Cert.Tok.nD Cert.Tok.τ).loc Cert.Tok.main_arg3) = m ((c.tc : Thread Cert.Tok.nD Cert.Tok.τ).loc Cert.Tok.main_arg3)
      ∧ r.2.mem ((c.tc : Thread Cert.Tok.nD Cert.Tok.τ).loc Cert.Tok.main_arg4) = m ((c.tc : Thread Cert.Tok.nD Cert.Tok.τ).loc Cert.Tok.main_arg4)
      ∧ r.2.mem ((c.tc : Thread Cert.Tok.nD Cert.Tok.τ).loc Cert.Tok.main_arg5) = m ((c.tc : Thread Cert.Tok.nD Cert.Tok.τ).loc Cert.Tok.main_arg5)
      ∧ r.2.mem ((c.tc : Thread Cert.Tok.nD Cert.Tok.τ).loc Cert.Tok.main_arg6) = m ((c.tc : Thread Cert.Tok.nD Cert.Tok.τ).loc Cert.Tok.main_arg6)
      ∧ r.2.mem ((c.tc : Thread Cert.Tok.nD Cert.Tok.τ).loc Cert.Tok.main_arg7) = m ((c.tc : Thread Cert.Tok.nD Cert.Tok.τ).loc Cert.Tok.main_arg7)
      ∧ r.2.mem ((c.tc : Thread Cert.Tok.nD Cert.Tok.τ).loc Cert.Tok.main_arg8) = m ((c.tc : Thread Cert.Tok.nD Cert.Tok.τ).loc Cert.Tok.main_arg8))
      ∧ r.2.sem = fun _ => 0)

def quiescent_TokIdeal [hTokIdeal : Cert.TokIdeal.Facts] : Prop :=
  ∀ (m : (ℓ : Loc Cert.TokIdeal.nD Cert.TokIdeal.τ Cert.TokIdeal.sig) → Buf (Elt Ideal) ℓ) (g : Dev Cert.TokIdeal.nD → PrngReg), Pre_TokIdeal m →
    θ_run (Cert.TokIdeal.defs (F := Ideal)) (onTc (τ := Cert.TokIdeal.τ) (Cert.TokIdeal.main (F := Ideal))) ⟨m, fun _ => 0, g⟩ (fun r => (∀ c : Dev Cert.TokIdeal.nD,
      r.2.mem ((c.tc : Thread Cert.TokIdeal.nD Cert.TokIdeal.τ).loc Cert.TokIdeal.main_arg0) = m ((c.tc : Thread Cert.TokIdeal.nD Cert.TokIdeal.τ).loc Cert.TokIdeal.main_arg0)
      ∧ r.2.mem ((c.tc : Thread Cert.TokIdeal.nD Cert.TokIdeal.τ).loc Cert.TokIdeal.main_arg1) = m ((c.tc : Thread Cert.TokIdeal.nD Cert.TokIdeal.τ).loc Cert.TokIdeal.main_arg1)
      ∧ r.2.mem ((c.tc : Thread Cert.TokIdeal.nD Cert.TokIdeal.τ).loc Cert.TokIdeal.main_arg2) = m ((c.tc : Thread Cert.TokIdeal.nD Cert.TokIdeal.τ).loc Cert.TokIdeal.main_arg2)
      ∧ r.2.mem ((c.tc : Thread Cert.TokIdeal.nD Cert.TokIdeal.τ).loc Cert.TokIdeal.main_arg3) = m ((c.tc : Thread Cert.TokIdeal.nD Cert.TokIdeal.τ).loc Cert.TokIdeal.main_arg3)
      ∧ r.2.mem ((c.tc : Thread Cert.TokIdeal.nD Cert.TokIdeal.τ).loc Cert.TokIdeal.main_arg4) = m ((c.tc : Thread Cert.TokIdeal.nD Cert.TokIdeal.τ).loc Cert.TokIdeal.main_arg4)
      ∧ r.2.mem ((c.tc : Thread Cert.TokIdeal.nD Cert.TokIdeal.τ).loc Cert.TokIdeal.main_arg5) = m ((c.tc : Thread Cert.TokIdeal.nD Cert.TokIdeal.τ).loc Cert.TokIdeal.main_arg5)
      ∧ r.2.mem ((c.tc : Thread Cert.TokIdeal.nD Cert.TokIdeal.τ).loc Cert.TokIdeal.main_arg6) = m ((c.tc : Thread Cert.TokIdeal.nD Cert.TokIdeal.τ).loc Cert.TokIdeal.main_arg6)
      ∧ r.2.mem ((c.tc : Thread Cert.TokIdeal.nD Cert.TokIdeal.τ).loc Cert.TokIdeal.main_arg7) = m ((c.tc : Thread Cert.TokIdeal.nD Cert.TokIdeal.τ).loc Cert.TokIdeal.main_arg7)
      ∧ r.2.mem ((c.tc : Thread Cert.TokIdeal.nD Cert.TokIdeal.τ).loc Cert.TokIdeal.main_arg8) = m ((c.tc : Thread Cert.TokIdeal.nD Cert.TokIdeal.τ).loc Cert.TokIdeal.main_arg8))
      ∧ r.2.sem = fun _ => 0)

def quiescent_TokReferenceIdeal [hTokReferenceIdeal : Cert.TokReferenceIdeal.Facts] : Prop :=
  ∀ (m : (ℓ : Loc Cert.TokReferenceIdeal.nD Cert.TokReferenceIdeal.τ Cert.TokReferenceIdeal.sig) → Buf (Elt Ideal) ℓ) (g : Dev Cert.TokReferenceIdeal.nD → PrngReg), Pre_TokReferenceIdeal m →
    θ_run (Cert.TokReferenceIdeal.defs (F := Ideal)) (onTc (τ := Cert.TokReferenceIdeal.τ) (Cert.TokReferenceIdeal.main (F := Ideal))) ⟨m, fun _ => 0, g⟩ (fun r => (∀ c : Dev Cert.TokReferenceIdeal.nD,
      r.2.mem ((c.tc : Thread Cert.TokReferenceIdeal.nD Cert.TokReferenceIdeal.τ).loc Cert.TokReferenceIdeal.main_arg0) = m ((c.tc : Thread Cert.TokReferenceIdeal.nD Cert.TokReferenceIdeal.τ).loc Cert.TokReferenceIdeal.main_arg0)
      ∧ r.2.mem ((c.tc : Thread Cert.TokReferenceIdeal.nD Cert.TokReferenceIdeal.τ).loc Cert.TokReferenceIdeal.main_arg1) = m ((c.tc : Thread Cert.TokReferenceIdeal.nD Cert.TokReferenceIdeal.τ).loc Cert.TokReferenceIdeal.main_arg1)
      ∧ r.2.mem ((c.tc : Thread Cert.TokReferenceIdeal.nD Cert.TokReferenceIdeal.τ).loc Cert.TokReferenceIdeal.main_arg2) = m ((c.tc : Thread Cert.TokReferenceIdeal.nD Cert.TokReferenceIdeal.τ).loc Cert.TokReferenceIdeal.main_arg2)
      ∧ r.2.mem ((c.tc : Thread Cert.TokReferenceIdeal.nD Cert.TokReferenceIdeal.τ).loc Cert.TokReferenceIdeal.main_arg3) = m ((c.tc : Thread Cert.TokReferenceIdeal.nD Cert.TokReferenceIdeal.τ).loc Cert.TokReferenceIdeal.main_arg3)
      ∧ r.2.mem ((c.tc : Thread Cert.TokReferenceIdeal.nD Cert.TokReferenceIdeal.τ).loc Cert.TokReferenceIdeal.main_arg4) = m ((c.tc : Thread Cert.TokReferenceIdeal.nD Cert.TokReferenceIdeal.τ).loc Cert.TokReferenceIdeal.main_arg4)
      ∧ r.2.mem ((c.tc : Thread Cert.TokReferenceIdeal.nD Cert.TokReferenceIdeal.τ).loc Cert.TokReferenceIdeal.main_arg5) = m ((c.tc : Thread Cert.TokReferenceIdeal.nD Cert.TokReferenceIdeal.τ).loc Cert.TokReferenceIdeal.main_arg5)
      ∧ r.2.mem ((c.tc : Thread Cert.TokReferenceIdeal.nD Cert.TokReferenceIdeal.τ).loc Cert.TokReferenceIdeal.main_arg6) = m ((c.tc : Thread Cert.TokReferenceIdeal.nD Cert.TokReferenceIdeal.τ).loc Cert.TokReferenceIdeal.main_arg6)
      ∧ r.2.mem ((c.tc : Thread Cert.TokReferenceIdeal.nD Cert.TokReferenceIdeal.τ).loc Cert.TokReferenceIdeal.main_arg7) = m ((c.tc : Thread Cert.TokReferenceIdeal.nD Cert.TokReferenceIdeal.τ).loc Cert.TokReferenceIdeal.main_arg7)
      ∧ r.2.mem ((c.tc : Thread Cert.TokReferenceIdeal.nD Cert.TokReferenceIdeal.τ).loc Cert.TokReferenceIdeal.main_arg8) = m ((c.tc : Thread Cert.TokReferenceIdeal.nD Cert.TokReferenceIdeal.τ).loc Cert.TokReferenceIdeal.main_arg8))
      ∧ r.2.sem = fun _ => 0)

def preserves_Scan_ScanIdeal : Prop :=
  IdealRules.named_const.Statement Cert.ScanIdeal.κ "minus_log2e" .f32 0xBFB8AA3B#32 ((-((Real.log 2)⁻¹) : ℝ) : EReal)

def algebraic_ScanIdeal_ScanReferenceIdeal [hScanIdeal : Cert.ScanIdeal.Facts] [hScanReferenceIdeal : Cert.ScanReferenceIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)
      ∧ m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6)
      ∧ m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)
      ∧ m' ((c.tc : Thread Cert.ScanReferenceIdeal.nD Cert.ScanReferenceIdeal.τ).loc Cert.ScanReferenceIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v5)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v5) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v20) = v0 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8))

def preserves_ScanFinal_ScanFinalIdeal : Prop :=
  IdealRules.named_const.Statement Cert.ScanFinalIdeal.κ "minus_log2e" .f32 0xBFB8AA3B#32 ((-((Real.log 2)⁻¹) : ℝ) : EReal)

def algebraic_ScanFinalIdeal_ScanFinalReferenceIdeal [hScanFinalIdeal : Cert.ScanFinalIdeal.Facts] [hScanFinalReferenceIdeal : Cert.ScanFinalReferenceIdeal.Facts] : Prop :=
  ∀ (m : (ℓ : Loc Cert.ScanFinalIdeal.nD Cert.ScanFinalIdeal.τ Cert.ScanFinalIdeal.sig) → Buf (Elt Ideal) ℓ) (g : Dev Cert.ScanFinalIdeal.nD → PrngReg)
    (m' : (ℓ : Loc Cert.ScanFinalReferenceIdeal.nD Cert.ScanFinalReferenceIdeal.τ Cert.ScanFinalReferenceIdeal.sig) → Buf (Elt Ideal) ℓ) (g' : Dev Cert.ScanFinalReferenceIdeal.nD → PrngReg), Pre_ScanFinalIdeal m →
    (∀ c : Dev Cert.ScanFinalIdeal.nD,
      m' ((c.tc : Thread Cert.ScanFinalReferenceIdeal.nD Cert.ScanFinalReferenceIdeal.τ).loc Cert.ScanFinalReferenceIdeal.main_arg0) = m ((c.tc : Thread Cert.ScanFinalIdeal.nD Cert.ScanFinalIdeal.τ).loc Cert.ScanFinalIdeal.main_arg0)
      ∧ m' ((c.tc : Thread Cert.ScanFinalReferenceIdeal.nD Cert.ScanFinalReferenceIdeal.τ).loc Cert.ScanFinalReferenceIdeal.main_arg1) = m ((c.tc : Thread Cert.ScanFinalIdeal.nD Cert.ScanFinalIdeal.τ).loc Cert.ScanFinalIdeal.main_arg1)
      ∧ m' ((c.tc : Thread Cert.ScanFinalReferenceIdeal.nD Cert.ScanFinalReferenceIdeal.τ).loc Cert.ScanFinalReferenceIdeal.main_arg2) = m ((c.tc : Thread Cert.ScanFinalIdeal.nD Cert.ScanFinalIdeal.τ).loc Cert.ScanFinalIdeal.main_arg2)
      ∧ m' ((c.tc : Thread Cert.ScanFinalReferenceIdeal.nD Cert.ScanFinalReferenceIdeal.τ).loc Cert.ScanFinalReferenceIdeal.main_arg3) = m ((c.tc : Thread Cert.ScanFinalIdeal.nD Cert.ScanFinalIdeal.τ).loc Cert.ScanFinalIdeal.main_arg3)
      ∧ m' ((c.tc : Thread Cert.ScanFinalReferenceIdeal.nD Cert.ScanFinalReferenceIdeal.τ).loc Cert.ScanFinalReferenceIdeal.main_arg4) = m ((c.tc : Thread Cert.ScanFinalIdeal.nD Cert.ScanFinalIdeal.τ).loc Cert.ScanFinalIdeal.main_arg4)
      ∧ m' ((c.tc : Thread Cert.ScanFinalReferenceIdeal.nD Cert.ScanFinalReferenceIdeal.τ).loc Cert.ScanFinalReferenceIdeal.main_arg5) = m ((c.tc : Thread Cert.ScanFinalIdeal.nD Cert.ScanFinalIdeal.τ).loc Cert.ScanFinalIdeal.main_arg5)
      ∧ m' ((c.tc : Thread Cert.ScanFinalReferenceIdeal.nD Cert.ScanFinalReferenceIdeal.τ).loc Cert.ScanFinalReferenceIdeal.main_arg6) = m ((c.tc : Thread Cert.ScanFinalIdeal.nD Cert.ScanFinalIdeal.τ).loc Cert.ScanFinalIdeal.main_arg6)
      ∧ m' ((c.tc : Thread Cert.ScanFinalReferenceIdeal.nD Cert.ScanFinalReferenceIdeal.τ).loc Cert.ScanFinalReferenceIdeal.main_arg7) = m ((c.tc : Thread Cert.ScanFinalIdeal.nD Cert.ScanFinalIdeal.τ).loc Cert.ScanFinalIdeal.main_arg7)
      ∧ m' ((c.tc : Thread Cert.ScanFinalReferenceIdeal.nD Cert.ScanFinalReferenceIdeal.τ).loc Cert.ScanFinalReferenceIdeal.main_arg8) = m ((c.tc : Thread Cert.ScanFinalIdeal.nD Cert.ScanFinalIdeal.τ).loc Cert.ScanFinalIdeal.main_arg8)) →
    ∃ (v0 : (c : Dev Cert.ScanFinalIdeal.nD) → Buf (Elt Ideal) ((c.tc : Thread Cert.ScanFinalIdeal.nD Cert.ScanFinalIdeal.τ).loc Cert.ScanFinalIdeal.main_v5)),
      θ_run (Cert.ScanFinalIdeal.defs (F := Ideal)) (onTc (τ := Cert.ScanFinalIdeal.τ) (Cert.ScanFinalIdeal.main (F := Ideal))) ⟨m, fun _ => 0, g⟩ (fun r => ∀ c : Dev Cert.ScanFinalIdeal.nD,
          r.2.mem ((c.tc : Thread Cert.ScanFinalIdeal.nD Cert.ScanFinalIdeal.τ).loc Cert.ScanFinalIdeal.main_v5) = v0 c
          ∧ r.2.mem ((c.tc : Thread Cert.ScanFinalIdeal.nD Cert.ScanFinalIdeal.τ).loc Cert.ScanFinalIdeal.main_arg0) = m ((c.tc : Thread Cert.ScanFinalIdeal.nD Cert.ScanFinalIdeal.τ).loc Cert.ScanFinalIdeal.main_arg0)
          ∧ r.2.mem ((c.tc : Thread Cert.ScanFinalIdeal.nD Cert.ScanFinalIdeal.τ).loc Cert.ScanFinalIdeal.main_arg1) = m ((c.tc : Thread Cert.ScanFinalIdeal.nD Cert.ScanFinalIdeal.τ).loc Cert.ScanFinalIdeal.main_arg1)
          ∧ r.2.mem ((c.tc : Thread Cert.ScanFinalIdeal.nD Cert.ScanFinalIdeal.τ).loc Cert.ScanFinalIdeal.main_arg2) = m ((c.tc : Thread Cert.ScanFinalIdeal.nD Cert.ScanFinalIdeal.τ).loc Cert.ScanFinalIdeal.main_arg2)
          ∧ r.2.mem ((c.tc : Thread Cert.ScanFinalIdeal.nD Cert.ScanFinalIdeal.τ).loc Cert.ScanFinalIdeal.main_arg3) = m ((c.tc : Thread Cert.ScanFinalIdeal.nD Cert.ScanFinalIdeal.τ).loc Cert.ScanFinalIdeal.main_arg3)
          ∧ r.2.mem ((c.tc : Thread Cert.ScanFinalIdeal.nD Cert.ScanFinalIdeal.τ).loc Cert.ScanFinalIdeal.main_arg4) = m ((c.tc : Thread Cert.ScanFinalIdeal.nD Cert.ScanFinalIdeal.τ).loc Cert.ScanFinalIdeal.main_arg4)
          ∧ r.2.mem ((c.tc : Thread Cert.ScanFinalIdeal.nD Cert.ScanFinalIdeal.τ).loc Cert.ScanFinalIdeal.main_arg5) = m ((c.tc : Thread Cert.ScanFinalIdeal.nD Cert.ScanFinalIdeal.τ).loc Cert.ScanFinalIdeal.main_arg5)
          ∧ r.2.mem ((c.tc : Thread Cert.ScanFinalIdeal.nD Cert.ScanFinalIdeal.τ).loc Cert.ScanFinalIdeal.main_arg6) = m ((c.tc : Thread Cert.ScanFinalIdeal.nD Cert.ScanFinalIdeal.τ).loc Cert.ScanFinalIdeal.main_arg6)
          ∧ r.2.mem ((c.tc : Thread Cert.ScanFinalIdeal.nD Cert.ScanFinalIdeal.τ).loc Cert.ScanFinalIdeal.main_arg7) = m ((c.tc : Thread Cert.ScanFinalIdeal.nD Cert.ScanFinalIdeal.τ).loc Cert.ScanFinalIdeal.main_arg7)
          ∧ r.2.mem ((c.tc : Thread Cert.ScanFinalIdeal.nD Cert.ScanFinalIdeal.τ).loc Cert.ScanFinalIdeal.main_arg8) = m ((c.tc : Thread Cert.ScanFinalIdeal.nD Cert.ScanFinalIdeal.τ).loc Cert.ScanFinalIdeal.main_arg8))
      ∧ θ_run (Cert.ScanFinalReferenceIdeal.defs (F := Ideal)) (onTc (τ := Cert.ScanFinalReferenceIdeal.τ) (Cert.ScanFinalReferenceIdeal.main (F := Ideal))) ⟨m', fun _ => 0, g'⟩ (fun r => ∀ c : Dev Cert.ScanFinalReferenceIdeal.nD,
          r.2.mem ((c.tc : Thread Cert.ScanFinalReferenceIdeal.nD Cert.ScanFinalReferenceIdeal.τ).loc Cert.ScanFinalReferenceIdeal.main_v33) = v0 c
          ∧ r.2.mem ((c.tc : Thread Cert.ScanFinalReferenceIdeal.nD Cert.ScanFinalReferenceIdeal.τ).loc Cert.ScanFinalReferenceIdeal.main_arg0) = m' ((c.tc : Thread Cert.ScanFinalReferenceIdeal.nD Cert.ScanFinalReferenceIdeal.τ).loc Cert.ScanFinalReferenceIdeal.main_arg0)
          ∧ r.2.mem ((c.tc : Thread Cert.ScanFinalReferenceIdeal.nD Cert.ScanFinalReferenceIdeal.τ).loc Cert.ScanFinalReferenceIdeal.main_arg1) = m' ((c.tc : Thread Cert.ScanFinalReferenceIdeal.nD Cert.ScanFinalReferenceIdeal.τ).loc Cert.ScanFinalReferenceIdeal.main_arg1)
          ∧ r.2.mem ((c.tc : Thread Cert.ScanFinalReferenceIdeal.nD Cert.ScanFinalReferenceIdeal.τ).loc Cert.ScanFinalReferenceIdeal.main_arg2) = m' ((c.tc : Thread Cert.ScanFinalReferenceIdeal.nD Cert.ScanFinalReferenceIdeal.τ).loc Cert.ScanFinalReferenceIdeal.main_arg2)
          ∧ r.2.mem ((c.tc : Thread Cert.ScanFinalReferenceIdeal.nD Cert.ScanFinalReferenceIdeal.τ).loc Cert.ScanFinalReferenceIdeal.main_arg3) = m' ((c.tc : Thread Cert.ScanFinalReferenceIdeal.nD Cert.ScanFinalReferenceIdeal.τ).loc Cert.ScanFinalReferenceIdeal.main_arg3)
          ∧ r.2.mem ((c.tc : Thread Cert.ScanFinalReferenceIdeal.nD Cert.ScanFinalReferenceIdeal.τ).loc Cert.ScanFinalReferenceIdeal.main_arg4) = m' ((c.tc : Thread Cert.ScanFinalReferenceIdeal.nD Cert.ScanFinalReferenceIdeal.τ).loc Cert.ScanFinalReferenceIdeal.main_arg4)
          ∧ r.2.mem ((c.tc : Thread Cert.ScanFinalReferenceIdeal.nD Cert.ScanFinalReferenceIdeal.τ).loc Cert.ScanFinalReferenceIdeal.main_arg5) = m' ((c.tc : Thread Cert.ScanFinalReferenceIdeal.nD Cert.ScanFinalReferenceIdeal.τ).loc Cert.ScanFinalReferenceIdeal.main_arg5)
          ∧ r.2.mem ((c.tc : Thread Cert.ScanFinalReferenceIdeal.nD Cert.ScanFinalReferenceIdeal.τ).loc Cert.ScanFinalReferenceIdeal.main_arg6) = m' ((c.tc : Thread Cert.ScanFinalReferenceIdeal.nD Cert.ScanFinalReferenceIdeal.τ).loc Cert.ScanFinalReferenceIdeal.main_arg6)
          ∧ r.2.mem ((c.tc : Thread Cert.ScanFinalReferenceIdeal.nD Cert.ScanFinalReferenceIdeal.τ).loc Cert.ScanFinalReferenceIdeal.main_arg7) = m' ((c.tc : Thread Cert.ScanFinalReferenceIdeal.nD Cert.ScanFinalReferenceIdeal.τ).loc Cert.ScanFinalReferenceIdeal.main_arg7)
          ∧ r.2.mem ((c.tc : Thread Cert.ScanFinalReferenceIdeal.nD Cert.ScanFinalReferenceIdeal.τ).loc Cert.ScanFinalReferenceIdeal.main_arg8) = m' ((c.tc : Thread Cert.ScanFinalReferenceIdeal.nD Cert.ScanFinalReferenceIdeal.τ).loc Cert.ScanFinalReferenceIdeal.main_arg8))

def preserves_Tok_TokIdeal : Prop :=
  True

def algebraic_TokIdeal_TokReferenceIdeal [hTokIdeal : Cert.TokIdeal.Facts] [hTokReferenceIdeal : Cert.TokReferenceIdeal.Facts] : Prop :=
  ∀ (m : (ℓ : Loc Cert.TokIdeal.nD Cert.TokIdeal.τ Cert.TokIdeal.sig) → Buf (Elt Ideal) ℓ) (g : Dev Cert.TokIdeal.nD → PrngReg)
    (m' : (ℓ : Loc Cert.TokReferenceIdeal.nD Cert.TokReferenceIdeal.τ Cert.TokReferenceIdeal.sig) → Buf (Elt Ideal) ℓ) (g' : Dev Cert.TokReferenceIdeal.nD → PrngReg), Pre_TokIdeal m →
    (∀ c : Dev Cert.TokIdeal.nD,
      m' ((c.tc : Thread Cert.TokReferenceIdeal.nD Cert.TokReferenceIdeal.τ).loc Cert.TokReferenceIdeal.main_arg0) = m ((c.tc : Thread Cert.TokIdeal.nD Cert.TokIdeal.τ).loc Cert.TokIdeal.main_arg0)
      ∧ m' ((c.tc : Thread Cert.TokReferenceIdeal.nD Cert.TokReferenceIdeal.τ).loc Cert.TokReferenceIdeal.main_arg1) = m ((c.tc : Thread Cert.TokIdeal.nD Cert.TokIdeal.τ).loc Cert.TokIdeal.main_arg1)
      ∧ m' ((c.tc : Thread Cert.TokReferenceIdeal.nD Cert.TokReferenceIdeal.τ).loc Cert.TokReferenceIdeal.main_arg2) = m ((c.tc : Thread Cert.TokIdeal.nD Cert.TokIdeal.τ).loc Cert.TokIdeal.main_arg2)
      ∧ m' ((c.tc : Thread Cert.TokReferenceIdeal.nD Cert.TokReferenceIdeal.τ).loc Cert.TokReferenceIdeal.main_arg3) = m ((c.tc : Thread Cert.TokIdeal.nD Cert.TokIdeal.τ).loc Cert.TokIdeal.main_arg3)
      ∧ m' ((c.tc : Thread Cert.TokReferenceIdeal.nD Cert.TokReferenceIdeal.τ).loc Cert.TokReferenceIdeal.main_arg4) = m ((c.tc : Thread Cert.TokIdeal.nD Cert.TokIdeal.τ).loc Cert.TokIdeal.main_arg4)
      ∧ m' ((c.tc : Thread Cert.TokReferenceIdeal.nD Cert.TokReferenceIdeal.τ).loc Cert.TokReferenceIdeal.main_arg5) = m ((c.tc : Thread Cert.TokIdeal.nD Cert.TokIdeal.τ).loc Cert.TokIdeal.main_arg5)
      ∧ m' ((c.tc : Thread Cert.TokReferenceIdeal.nD Cert.TokReferenceIdeal.τ).loc Cert.TokReferenceIdeal.main_arg6) = m ((c.tc : Thread Cert.TokIdeal.nD Cert.TokIdeal.τ).loc Cert.TokIdeal.main_arg6)
      ∧ m' ((c.tc : Thread Cert.TokReferenceIdeal.nD Cert.TokReferenceIdeal.τ).loc Cert.TokReferenceIdeal.main_arg7) = m ((c.tc : Thread Cert.TokIdeal.nD Cert.TokIdeal.τ).loc Cert.TokIdeal.main_arg7)
      ∧ m' ((c.tc : Thread Cert.TokReferenceIdeal.nD Cert.TokReferenceIdeal.τ).loc Cert.TokReferenceIdeal.main_arg8) = m ((c.tc : Thread Cert.TokIdeal.nD Cert.TokIdeal.τ).loc Cert.TokIdeal.main_arg8)) →
    ∃ (v0 : (c : Dev Cert.TokIdeal.nD) → Buf (Elt Ideal) ((c.tc : Thread Cert.TokIdeal.nD Cert.TokIdeal.τ).loc Cert.TokIdeal.main_v11_0)) (v1 : (c : Dev Cert.TokIdeal.nD) → Buf (Elt Ideal) ((c.tc : Thread Cert.TokIdeal.nD Cert.TokIdeal.τ).loc Cert.TokIdeal.main_v11_1)) (v2 : (c : Dev Cert.TokIdeal.nD) → Buf (Elt Ideal) ((c.tc : Thread Cert.TokIdeal.nD Cert.TokIdeal.τ).loc Cert.TokIdeal.main_v11_2)) (v3 : (c : Dev Cert.TokIdeal.nD) → Buf (Elt Ideal) ((c.tc : Thread Cert.TokIdeal.nD Cert.TokIdeal.τ).loc Cert.TokIdeal.main_v11_3)) (v4 : (c : Dev Cert.TokIdeal.nD) → Buf (Elt Ideal) ((c.tc : Thread Cert.TokIdeal.nD Cert.TokIdeal.τ).loc Cert.TokIdeal.main_v11_4)),
      θ_run (Cert.TokIdeal.defs (F := Ideal)) (onTc (τ := Cert.TokIdeal.τ) (Cert.TokIdeal.main (F := Ideal))) ⟨m, fun _ => 0, g⟩ (fun r => ∀ c : Dev Cert.TokIdeal.nD,
          r.2.mem ((c.tc : Thread Cert.TokIdeal.nD Cert.TokIdeal.τ).loc Cert.TokIdeal.main_v11_0) = v0 c
          ∧ r.2.mem ((c.tc : Thread Cert.TokIdeal.nD Cert.TokIdeal.τ).loc Cert.TokIdeal.main_v11_1) = v1 c
          ∧ r.2.mem ((c.tc : Thread Cert.TokIdeal.nD Cert.TokIdeal.τ).loc Cert.TokIdeal.main_v11_2) = v2 c
          ∧ r.2.mem ((c.tc : Thread Cert.TokIdeal.nD Cert.TokIdeal.τ).loc Cert.TokIdeal.main_v11_3) = v3 c
          ∧ r.2.mem ((c.tc : Thread Cert.TokIdeal.nD Cert.TokIdeal.τ).loc Cert.TokIdeal.main_v11_4) = v4 c
          ∧ r.2.mem ((c.tc : Thread Cert.TokIdeal.nD Cert.TokIdeal.τ).loc Cert.TokIdeal.main_arg0) = m ((c.tc : Thread Cert.TokIdeal.nD Cert.TokIdeal.τ).loc Cert.TokIdeal.main_arg0)
          ∧ r.2.mem ((c.tc : Thread Cert.TokIdeal.nD Cert.TokIdeal.τ).loc Cert.TokIdeal.main_arg1) = m ((c.tc : Thread Cert.TokIdeal.nD Cert.TokIdeal.τ).loc Cert.TokIdeal.main_arg1)
          ∧ r.2.mem ((c.tc : Thread Cert.TokIdeal.nD Cert.TokIdeal.τ).loc Cert.TokIdeal.main_arg2) = m ((c.tc : Thread Cert.TokIdeal.nD Cert.TokIdeal.τ).loc Cert.TokIdeal.main_arg2)
          ∧ r.2.mem ((c.tc : Thread Cert.TokIdeal.nD Cert.TokIdeal.τ).loc Cert.TokIdeal.main_arg3) = m ((c.tc : Thread Cert.TokIdeal.nD Cert.TokIdeal.τ).loc Cert.TokIdeal.main_arg3)
          ∧ r.2.mem ((c.tc : Thread Cert.TokIdeal.nD Cert.TokIdeal.τ).loc Cert.TokIdeal.main_arg4) = m ((c.tc : Thread Cert.TokIdeal.nD Cert.TokIdeal.τ).loc Cert.TokIdeal.main_arg4)
          ∧ r.2.mem ((c.tc : Thread Cert.TokIdeal.nD Cert.TokIdeal.τ).loc Cert.TokIdeal.main_arg5) = m ((c.tc : Thread Cert.TokIdeal.nD Cert.TokIdeal.τ).loc Cert.TokIdeal.main_arg5)
          ∧ r.2.mem ((c.tc : Thread Cert.TokIdeal.nD Cert.TokIdeal.τ).loc Cert.TokIdeal.main_arg6) = m ((c.tc : Thread Cert.TokIdeal.nD Cert.TokIdeal.τ).loc Cert.TokIdeal.main_arg6)
          ∧ r.2.mem ((c.tc : Thread Cert.TokIdeal.nD Cert.TokIdeal.τ).loc Cert.TokIdeal.main_arg7) = m ((c.tc : Thread Cert.TokIdeal.nD Cert.TokIdeal.τ).loc Cert.TokIdeal.main_arg7)
          ∧ r.2.mem ((c.tc : Thread Cert.TokIdeal.nD Cert.TokIdeal.τ).loc Cert.TokIdeal.main_arg8) = m ((c.tc : Thread Cert.TokIdeal.nD Cert.TokIdeal.τ).loc Cert.TokIdeal.main_arg8))
      ∧ θ_run (Cert.TokReferenceIdeal.defs (F := Ideal)) (onTc (τ := Cert.TokReferenceIdeal.τ) (Cert.TokReferenceIdeal.main (F := Ideal))) ⟨m', fun _ => 0, g'⟩ (fun r => ∀ c : Dev Cert.TokReferenceIdeal.nD,
          r.2.mem ((c.tc : Thread Cert.TokReferenceIdeal.nD Cert.TokReferenceIdeal.τ).loc Cert.TokReferenceIdeal.main_v65) = v0 c
          ∧ r.2.mem ((c.tc : Thread Cert.TokReferenceIdeal.nD Cert.TokReferenceIdeal.τ).loc Cert.TokReferenceIdeal.main_v67) = v1 c
          ∧ r.2.mem ((c.tc : Thread Cert.TokReferenceIdeal.nD Cert.TokReferenceIdeal.τ).loc Cert.TokReferenceIdeal.main_v68) = v2 c
          ∧ r.2.mem ((c.tc : Thread Cert.TokReferenceIdeal.nD Cert.TokReferenceIdeal.τ).loc Cert.TokReferenceIdeal.main_v73) = v3 c
          ∧ r.2.mem ((c.tc : Thread Cert.TokReferenceIdeal.nD Cert.TokReferenceIdeal.τ).loc Cert.TokReferenceIdeal.main_v64) = v4 c
          ∧ r.2.mem ((c.tc : Thread Cert.TokReferenceIdeal.nD Cert.TokReferenceIdeal.τ).loc Cert.TokReferenceIdeal.main_arg0) = m' ((c.tc : Thread Cert.TokReferenceIdeal.nD Cert.TokReferenceIdeal.τ).loc Cert.TokReferenceIdeal.main_arg0)
          ∧ r.2.mem ((c.tc : Thread Cert.TokReferenceIdeal.nD Cert.TokReferenceIdeal.τ).loc Cert.TokReferenceIdeal.main_arg1) = m' ((c.tc : Thread Cert.TokReferenceIdeal.nD Cert.TokReferenceIdeal.τ).loc Cert.TokReferenceIdeal.main_arg1)
          ∧ r.2.mem ((c.tc : Thread Cert.TokReferenceIdeal.nD Cert.TokReferenceIdeal.τ).loc Cert.TokReferenceIdeal.main_arg2) = m' ((c.tc : Thread Cert.TokReferenceIdeal.nD Cert.TokReferenceIdeal.τ).loc Cert.TokReferenceIdeal.main_arg2)
          ∧ r.2.mem ((c.tc : Thread Cert.TokReferenceIdeal.nD Cert.TokReferenceIdeal.τ).loc Cert.TokReferenceIdeal.main_arg3) = m' ((c.tc : Thread Cert.TokReferenceIdeal.nD Cert.TokReferenceIdeal.τ).loc Cert.TokReferenceIdeal.main_arg3)
          ∧ r.2.mem ((c.tc : Thread Cert.TokReferenceIdeal.nD Cert.TokReferenceIdeal.τ).loc Cert.TokReferenceIdeal.main_arg4) = m' ((c.tc : Thread Cert.TokReferenceIdeal.nD Cert.TokReferenceIdeal.τ).loc Cert.TokReferenceIdeal.main_arg4)
          ∧ r.2.mem ((c.tc : Thread Cert.TokReferenceIdeal.nD Cert.TokReferenceIdeal.τ).loc Cert.TokReferenceIdeal.main_arg5) = m' ((c.tc : Thread Cert.TokReferenceIdeal.nD Cert.TokReferenceIdeal.τ).loc Cert.TokReferenceIdeal.main_arg5)
          ∧ r.2.mem ((c.tc : Thread Cert.TokReferenceIdeal.nD Cert.TokReferenceIdeal.τ).loc Cert.TokReferenceIdeal.main_arg6) = m' ((c.tc : Thread Cert.TokReferenceIdeal.nD Cert.TokReferenceIdeal.τ).loc Cert.TokReferenceIdeal.main_arg6)
          ∧ r.2.mem ((c.tc : Thread Cert.TokReferenceIdeal.nD Cert.TokReferenceIdeal.τ).loc Cert.TokReferenceIdeal.main_arg7) = m' ((c.tc : Thread Cert.TokReferenceIdeal.nD Cert.TokReferenceIdeal.τ).loc Cert.TokReferenceIdeal.main_arg7)
          ∧ r.2.mem ((c.tc : Thread Cert.TokReferenceIdeal.nD Cert.TokReferenceIdeal.τ).loc Cert.TokReferenceIdeal.main_arg8) = m' ((c.tc : Thread Cert.TokReferenceIdeal.nD Cert.TokReferenceIdeal.τ).loc Cert.TokReferenceIdeal.main_arg8))

def Claim : Prop :=
  ∃ (hScan : Cert.Scan.Facts) (hScanIdeal : Cert.ScanIdeal.Facts) (hScanReferenceIdeal : Cert.ScanReferenceIdeal.Facts) (hScanFinal : Cert.ScanFinal.Facts) (hScanFinalIdeal : Cert.ScanFinalIdeal.Facts) (hScanFinalReferenceIdeal : Cert.ScanFinalReferenceIdeal.Facts) (hTok : Cert.Tok.Facts) (hTokIdeal : Cert.TokIdeal.Facts) (hTokReferenceIdeal : Cert.TokReferenceIdeal.Facts),
    quiescent_Scan (hScan := hScan)
    ∧ quiescent_ScanIdeal (hScanIdeal := hScanIdeal)
    ∧ quiescent_ScanReferenceIdeal (hScanReferenceIdeal := hScanReferenceIdeal)
    ∧ quiescent_ScanFinal (hScanFinal := hScanFinal)
    ∧ quiescent_ScanFinalIdeal (hScanFinalIdeal := hScanFinalIdeal)
    ∧ quiescent_ScanFinalReferenceIdeal (hScanFinalReferenceIdeal := hScanFinalReferenceIdeal)
    ∧ quiescent_Tok (hTok := hTok)
    ∧ quiescent_TokIdeal (hTokIdeal := hTokIdeal)
    ∧ quiescent_TokReferenceIdeal (hTokReferenceIdeal := hTokReferenceIdeal)
    ∧ preserves_Scan_ScanIdeal
    ∧ algebraic_ScanIdeal_ScanReferenceIdeal (hScanIdeal := hScanIdeal) (hScanReferenceIdeal := hScanReferenceIdeal)
    ∧ preserves_ScanFinal_ScanFinalIdeal
    ∧ algebraic_ScanFinalIdeal_ScanFinalReferenceIdeal (hScanFinalIdeal := hScanFinalIdeal) (hScanFinalReferenceIdeal := hScanFinalReferenceIdeal)
    ∧ preserves_Tok_TokIdeal
    ∧ algebraic_TokIdeal_TokReferenceIdeal (hTokIdeal := hTokIdeal) (hTokReferenceIdeal := hTokReferenceIdeal)
-- ==== Scan.lean ====
abbrev S4x1024x1024 : Shape := ⟨3, ![4, 1024, 1024]⟩
abbrev S4x1024x2048 : Shape := ⟨3, ![4, 1024, 2048]⟩
abbrev S4x32x1024 : Shape := ⟨3, ![4, 32, 1024]⟩
abbrev S2048x16 : Shape := ⟨2, ![2048, 16]⟩
abbrev S1024x2048 : Shape := ⟨2, ![1024, 2048]⟩
abbrev S1024 : Shape := ⟨1, ![1024]⟩
abbrev S1x1024 : Shape := ⟨2, ![1, 1024]⟩
abbrev S16x2048 : Shape := ⟨2, ![16, 2048]⟩
abbrev S2048x1024 : Shape := ⟨2, ![2048, 1024]⟩
abbrev S1x256x2048 : Shape := ⟨3, ![1, 256, 2048]⟩
abbrev S1x32x256 : Shape := ⟨3, ![1, 32, 256]⟩
abbrev S1x256x1024 : Shape := ⟨3, ![1, 256, 1024]⟩
abbrev S256x2048 : Shape := ⟨2, ![256, 2048]⟩
abbrev S32x256 : Shape := ⟨2, ![32, 256]⟩
abbrev S16x1024 : Shape := ⟨2, ![16, 1024]⟩
abbrev S1x8x1024 : Shape := ⟨3, ![1, 8, 1024]⟩
abbrev S8x1024 : Shape := ⟨2, ![8, 1024]⟩
abbrev S32x1 : Shape := ⟨2, ![32, 1]⟩
abbrev S16x1 : Shape := ⟨2, ![16, 1]⟩
abbrev S256x1024 : Shape := ⟨2, ![256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S4x1024x1024, .f32⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .bf16⟩
  | .hbm, ⟨5, _⟩ => ⟨S4x32x1024, .f32⟩
  | .hbm, ⟨6, _⟩ => ⟨S2048x16, .f32⟩
  | .hbm, ⟨7, _⟩ => ⟨S1024x2048, .f32⟩
  | .hbm, ⟨8, _⟩ => ⟨S1024, .f32⟩
  | .hbm, ⟨9, _⟩ => ⟨S1x1024, .f32⟩
  | .hbm, ⟨10, _⟩ => ⟨S2048x16, .f32⟩
  | .hbm, ⟨11, _⟩ => ⟨S16x2048, .f32⟩
  | .hbm, ⟨12, _⟩ => ⟨S2048x1024, .f32⟩
  | .hbm, ⟨13, _⟩ => ⟨S2048x1024, .bf16⟩
  | .hbm, ⟨14, _⟩ => ⟨S4x1024x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x32x256, .f32⟩
  | .local _ .vmem, ⟨9, _⟩ => ⟨S1x32x256, .f32⟩
  | .local _ .vmem, ⟨10, _⟩ => ⟨S16x2048, .f32⟩
  | .local _ .vmem, ⟨11, _⟩ => ⟨S2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x2048, .f32⟩
  | .local _ .vmem, ⟨18, _⟩ => ⟨S16x2048, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_7 : BitVec 32 := 0#32
  let c32_i32 : BitVec 32 := 32#32
  let v11 : BitVec 32 := Scalar.addi c0_i32_7 c32_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c8_i32 : BitVec 32 := 8#32
  let v46 : BitVec 32 := Scalar.muli arg14 c8_i32
  v46
def k0_off1 (k0_t1 : Fin k0_t1_loop.trips) : Fin 3 → Nat :=
  let c0_38 : Index := 0#32
  let c0_i32_7 : BitVec 32 := 0#32
  let c1_i32 : BitVec 32 := 1#32
  let arg14 : BitVec 32 := Scf.iv c0_i32_7 c1_i32 k0_t1
  let c8_i32 : BitVec 32 := 8#32
  let v46 : BitVec 32 := Scalar.muli arg14 c8_i32
  let v47 : BitVec 32 := v46
  let v48 : Index := Scalar.indexCast v47
  let c0_39 : Index := 0#32
  ![0, v48.toNat, 0]
def k0_off2 (k0_t1 : Fin k0_t1_loop.trips) : Fin 2 → Nat :=
  let c0_i32_7 : BitVec 32 := 0#32
  let c1_i32 : BitVec 32 := 1#32
  let arg14 : BitVec 32 := Scf.iv c0_i32_7 c1_i32 k0_t1
  let c8_i32 : BitVec 32 := 8#32
  let v46 : BitVec 32 := Scalar.muli arg14 c8_i32
  let v47 : BitVec 32 := v46
  let v235 : Index := Scalar.indexCast v47
  let c0_50 : Index := 0#32
  ![v235.toNat, 0]
@[reducible] def k0_t2_loop : Scf.Loop 32 :=
  let c0_i32_15 : BitVec 32 := 0#32
  let c32_i32_16 : BitVec 32 := 32#32
  let v23 : BitVec 32 := Scalar.addi c0_i32_15 c32_i32_16
  let c1_i32_17 : BitVec 32 := 1#32
  ⟨c0_i32_15, v23, c1_i32_17⟩
def k0_mult2 (k0_t2 : Fin k0_t2_loop.trips) : BitVec 32 :=
  let c0_i32_15 : BitVec 32 := 0#32
  let c1_i32_17 : BitVec 32 := 1#32
  let arg14 : BitVec 32 := Scf.iv c0_i32_15 c1_i32_17 k0_t2
  let c8_i32 : BitVec 32 := 8#32
  let v46 : BitVec 32 := Scalar.muli arg14 c8_i32
  v46
def k0_off3 (k0_t2 : Fin k0_t2_loop.trips) : Fin 3 → Nat :=
  let c0_38 : Index := 0#32
  let c0_i32_15 : BitVec 32 := 0#32
  let c1_i32_17 : BitVec 32 := 1#32
  let arg14 : BitVec 32 := Scf.iv c0_i32_15 c1_i32_17 k0_t2
  let c8_i32 : BitVec 32 := 8#32
  let v46 : BitVec 32 := Scalar.muli arg14 c8_i32
  let v47 : BitVec 32 := v46
  let v48 : Index := Scalar.indexCast v47
  let c1024_39 : Index := 1024#32
  ![0, v48.toNat, 1024]
def k0_off4 (k0_t2 : Fin k0_t2_loop.trips) : Fin 2 → Nat :=
  let c0_i32_15 : BitVec 32 := 0#32
  let c1_i32_17 : BitVec 32 := 1#32
  let arg14 : BitVec 32 := Scf.iv c0_i32_15 c1_i32_17 k0_t2
  let c8_i32 : BitVec 32 := 8#32
  let v46 : BitVec 32 := Scalar.muli arg14 c8_i32
  let v47 : BitVec 32 := v46
  let v235 : Index := Scalar.indexCast v47
  let c1024_50 : Index := 1024#32
  ![v235.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ScanIdeal.lean ====
variable {F : FTy → Type} [FloatOps F] [Named F]
def κ : String → Option EReal := fun
  | "minus_log2e" => some ((-((Real.log 2)⁻¹) : ℝ) : EReal)
  | _ => none
-- ==== ScanReferenceIdeal.lean ====
abbrev S4x1024x1024 : Shape := ⟨3, ![4, 1024, 1024]⟩
abbrev S4x1024x2048 : Shape := ⟨3, ![4, 1024, 2048]⟩
abbrev S4x32x1024 : Shape := ⟨3, ![4, 32, 1024]⟩
abbrev S2048x16 : Shape := ⟨2, ![2048, 16]⟩
abbrev S1024x2048 : Shape := ⟨2, ![1024, 2048]⟩
abbrev S1024 : Shape := ⟨1, ![1024]⟩
abbrev S4x16x1024 : Shape := ⟨3, ![4, 16, 1024]⟩
abbrev S_ : Shape := ⟨0, ![]⟩
abbrev S4x2048x16 : Shape := ⟨3, ![4, 2048, 16]⟩
abbrev S1024x4x2048 : Shape := ⟨3, ![1024, 4, 2048]⟩
abbrev S1024x4x16 : Shape := ⟨3, ![1024, 4, 16]⟩
abbrev S1x4x2048 : Shape := ⟨3, ![1, 4, 2048]⟩
abbrev S4x2048 : Shape := ⟨2, ![4, 2048]⟩
abbrev S1x4x16 : Shape := ⟨3, ![1, 4, 16]⟩
abbrev S4x16 : Shape := ⟨2, ![4, 16]⟩
abbrev S4x2048x1 : Shape := ⟨3, ![4, 2048, 1]⟩
abbrev S1x2048x16 : Shape := ⟨3, ![1, 2048, 16]⟩
abbrev S4x1x16 : Shape := ⟨3, ![4, 1, 16]⟩
abbrev S2048x1024 : Shape := ⟨2, ![2048, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .bf16⟩
  | .hbm, ⟨5, _⟩ => ⟨S4x32x1024, .f32⟩
  | .hbm, ⟨6, _⟩ => ⟨S2048x16, .f32⟩
  | .hbm, ⟨7, _⟩ => ⟨S1024x2048, .f32⟩
  | .hbm, ⟨8, _⟩ => ⟨S1024, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .hbm, ⟨13, _⟩ => ⟨S4x16x1024, .f32⟩
  | .hbm, ⟨14, _⟩ => ⟨S4x16x1024, .f32⟩
  | .hbm, ⟨15, _⟩ => ⟨S2048x16, .f32⟩
  | .hbm, ⟨16, _⟩ => ⟨S2048x16, .f32⟩
  | .hbm, ⟨17, _⟩ => ⟨S_, .f32⟩
  | .hbm, ⟨18, _⟩ => ⟨S4x2048x16, .f32⟩
  | .hbm, ⟨19, _⟩ => ⟨S1024x4x2048, .f32⟩
  | .hbm, ⟨20, _⟩ => ⟨S1024x4x16, .f32⟩
  | .hbm, ⟨21, _⟩ => ⟨S1024x4x16, .f32⟩
  | .hbm, ⟨22, _⟩ => ⟨S1024x4x2048, .f32⟩
  | .hbm, ⟨23, _⟩ => ⟨S_, .f32⟩
  | .hbm, ⟨24, _⟩ => ⟨S1024x4x2048, .f32⟩
  | .hbm, ⟨25, _⟩ => ⟨S_, .i32⟩
  | .hbm, ⟨26, _⟩ => ⟨S1024x4x2048, .f32⟩
  | .hbm, ⟨27, _⟩ => ⟨S1024x4x16, .f32⟩
  | .hbm, ⟨28, _⟩ => ⟨S1024x4x16, .f32⟩
  | .hbm, ⟨29, _⟩ => ⟨S1024x4x2048, .f32⟩
  | .hbm, ⟨30, _⟩ => ⟨S2048x16, .f32⟩
  | .hbm, ⟨31, _⟩ => ⟨S_, .i32⟩
  | .hbm, ⟨32, _⟩ => ⟨S4x2048x16, .f32⟩
  | .hbm, ⟨33, _⟩ => ⟨S1024x4x2048, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1x4x2048, .f32⟩
  | .hbm, ⟨39, _⟩ => ⟨S4x2048, .f32⟩
  | .hbm, ⟨40, _⟩ => ⟨S_, .i32⟩
  | .hbm, ⟨41, _⟩ => ⟨S_, .i32⟩
  | .hbm, ⟨42, _⟩ => ⟨S1x4x16, .f32⟩
  | .hbm, ⟨43, _⟩ => ⟨S4x16, .f32⟩
  | .hbm, ⟨44, _⟩ => ⟨S_, .i32⟩
  | .hbm, ⟨45, _⟩ => ⟨S_, .i32⟩
  | .hbm, ⟨46, _⟩ => ⟨S1x4x16, .f32⟩
  | .hbm, ⟨47, _⟩ => ⟨S4x16, .f32⟩
  | .hbm, ⟨48, _⟩ => ⟨S_, .i32⟩
  | .hbm, ⟨49, _⟩ => ⟨S_, .i32⟩
  | .hbm, ⟨50, _⟩ => ⟨S1x4x2048, .f32⟩
  | .hbm, ⟨51, _⟩ => ⟨S4x2048, .f32⟩
  | .hbm, ⟨52, _⟩ => ⟨S4x2048x1, .f32⟩
  | .hbm, ⟨53, _⟩ => ⟨S1x2048x16, .f32⟩
  | .hbm, ⟨54, _⟩ => ⟨S4x2048x16, .f32⟩
  | .hbm, ⟨55, _⟩ => ⟨S4x2048x16, .f32⟩
  | .hbm, ⟨56, _⟩ => ⟨S4x2048x16, .f32⟩
  | .hbm, ⟨57, _⟩ => ⟨S4x2048x16, .f32⟩
  | .hbm, ⟨58, _⟩ => ⟨S4x2048x16, .f32⟩
  | .hbm, ⟨59, _⟩ => ⟨S4x2048x1, .f32⟩
  | .hbm, ⟨60, _⟩ => ⟨S4x1x16, .f32⟩
  | .hbm, ⟨61, _⟩ => ⟨S4x2048x16, .f32⟩
  | .hbm, ⟨62, _⟩ => ⟨S4x2048x16, .f32⟩
  | .hbm, ⟨63, _⟩ => ⟨S4x2048x16, .f32⟩
  | .hbm, ⟨64, _⟩ => ⟨S4x2048x16, .f32⟩
  | .hbm, ⟨65, _⟩ => ⟨S4x1x16, .f32⟩
  | .hbm, ⟨66, _⟩ => ⟨S4x2048x16, .f32⟩
  | .hbm, ⟨67, _⟩ => ⟨S4x2048x16, .f32⟩
  | .hbm, ⟨68, _⟩ => ⟨S_, .f32⟩
  | .hbm, ⟨69, _⟩ => ⟨S4x2048, .f32⟩
  | .hbm, ⟨70, _⟩ => ⟨S1x4x2048, .f32⟩
  | .hbm, ⟨71, _⟩ => ⟨S_, .i32⟩
  | .hbm, ⟨72, _⟩ => ⟨S_, .i32⟩
  | .hbm, ⟨73, _⟩ => ⟨S1024x4x2048, .f32⟩
  | .hbm, ⟨74, _⟩ => ⟨S_, .i32⟩
  | .hbm, ⟨75, _⟩ => ⟨S_, .i32⟩
  | .hbm, ⟨76, _⟩ => ⟨S4x1024x2048, .f32⟩
  | .hbm, ⟨77, _⟩ => ⟨S4x1024x2048, .f32⟩
  | .hbm, ⟨78, _⟩ => ⟨S4x1024x2048, .f32⟩
  | .hbm, ⟨79, _⟩ => ⟨S2048x1024, .f32⟩
  | .hbm, ⟨80, _⟩ => ⟨S4x1024x1024, .f32⟩
  | .hbm, ⟨81, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_while0c_c_8 : Ref sig .tc := ⟨.hbm, 34, rfl⟩
abbrev main_while0c_v21 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v21 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_v0 : Ref sig .tc := ⟨.hbm, 42, rfl⟩
abbrev main_while0b_v22 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_v0 : Ref sig .tc := ⟨.hbm, 46, rfl⟩
abbrev main_while0b_v23 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v24 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_v33 : Ref sig .tc := ⟨.hbm, 60, rfl⟩
abbrev main_while0b_v34 : Ref sig .tc := ⟨.hbm, 61, rfl⟩
abbrev main_while0b_v35 : Ref sig .tc := ⟨.hbm, 62, rfl⟩
abbrev main_while0b_v36 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_cst_8 : Ref sig .tc := ⟨.hbm, 68, rfl⟩
abbrev main_while0b_v41 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_v42 : Ref sig .tc := ⟨.hbm, 73, rfl⟩
abbrev main_while0b_c_9 : Ref sig .tc := ⟨.hbm, 74, rfl⟩
abbrev main_while0b_v43 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩

abbrev nD : Nat := 1
abbrev τ : Topo := Topo.v7x

variable {F : FTy → Type} [FloatOps F]

abbrev main_while0_count : Scf.Loop 32 := ⟨0#32, 1024#32, 1#32⟩
-- ==== ScanFinal.lean ====
abbrev S4x1024x1024 : Shape := ⟨3, ![4, 1024, 1024]⟩
abbrev S4x1024x2048 : Shape := ⟨3, ![4, 1024, 2048]⟩
abbrev S4x32x1024 : Shape := ⟨3, ![4, 32, 1024]⟩
abbrev S2048x16 : Shape := ⟨2, ![2048, 16]⟩
abbrev S1024x2048 : Shape := ⟨2, ![1024, 2048]⟩
abbrev S1024 : Shape := ⟨1, ![1024]⟩
abbrev S1x1024 : Shape := ⟨2, ![1, 1024]⟩
abbrev S16x2048 : Shape := ⟨2, ![16, 2048]⟩
abbrev S2048x1024 : Shape := ⟨2, ![2048, 1024]⟩
abbrev S1x256x2048 : Shape := ⟨3, ![1, 256, 2048]⟩
abbrev S1x32x256 : Shape := ⟨3, ![1, 32, 256]⟩
abbrev S1x256x1024 : Shape := ⟨3, ![1, 256, 1024]⟩
abbrev S256x2048 : Shape := ⟨2, ![256, 2048]⟩
abbrev S32x256 : Shape := ⟨2, ![32, 256]⟩
abbrev S16x1024 : Shape := ⟨2, ![16, 1024]⟩
abbrev S1x8x1024 : Shape := ⟨3, ![1, 8, 1024]⟩
abbrev S8x1024 : Shape := ⟨2, ![8, 1024]⟩
abbrev S32x1 : Shape := ⟨2, ![32, 1]⟩
abbrev S16x1 : Shape := ⟨2, ![16, 1]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 19
  | .smem => 0
  | _ => 0

abbrev bufTy : (tb : Table) → Fin (tcTables nBuf tb) → BufTy
  | .hbm, ⟨0, _⟩ => ⟨S4x1024x1024, .f32⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .bf16⟩
  | .hbm, ⟨5, _⟩ => ⟨S4x32x1024, .f32⟩
  | .hbm, ⟨6, _⟩ => ⟨S2048x16, .f32⟩
  | .hbm, ⟨7, _⟩ => ⟨S1024x2048, .f32⟩
  | .hbm, ⟨8, _⟩ => ⟨S1024, .f32⟩
  | .hbm, ⟨9, _⟩ => ⟨S1x1024, .f32⟩
  | .hbm, ⟨10, _⟩ => ⟨S2048x16, .f32⟩
  | .hbm, ⟨11, _⟩ => ⟨S16x2048, .f32⟩
  | .hbm, ⟨12, _⟩ => ⟨S2048x1024, .f32⟩
  | .hbm, ⟨13, _⟩ => ⟨S2048x1024, .bf16⟩
  | .hbm, ⟨14, _⟩ => ⟨S4x1024x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x32x256, .f32⟩
  | .local _ .vmem, ⟨9, _⟩ => ⟨S1x32x256, .f32⟩
  | .local _ .vmem, ⟨10, _⟩ => ⟨S16x2048, .f32⟩
  | .local _ .vmem, ⟨11, _⟩ => ⟨S2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x2048, .f32⟩
  | .local _ .vmem, ⟨18, _⟩ => ⟨S16x2048, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_7 : BitVec 32 := 0#32
  let c32_i32 : BitVec 32 := 32#32
  let v11 : BitVec 32 := Scalar.addi c0_i32_7 c32_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c8_i32 : BitVec 32 := 8#32
  let v60 : BitVec 32 := Scalar.muli arg14 c8_i32
  v60
def k0_off1 (k0_t1 : Fin k0_t1_loop.trips) : Fin 3 → Nat :=
  let c0_43 : Index := 0#32
  let c0_i32_7 : BitVec 32 := 0#32
  let c1_i32 : BitVec 32 := 1#32
  let arg14 : BitVec 32 := Scf.iv c0_i32_7 c1_i32 k0_t1
  let c8_i32 : BitVec 32 := 8#32
  let v60 : BitVec 32 := Scalar.muli arg14 c8_i32
  let v61 : BitVec 32 := v60
  let v62 : Index := Scalar.indexCast v61
  let c0_44 : Index := 0#32
  ![0, v62.toNat, 0]
def k0_off2 (k0_t1 : Fin k0_t1_loop.trips) : Fin 2 → Nat :=
  let c0_i32_7 : BitVec 32 := 0#32
  let c1_i32 : BitVec 32 := 1#32
  let arg14 : BitVec 32 := Scf.iv c0_i32_7 c1_i32 k0_t1
  let c8_i32 : BitVec 32 := 8#32
  let v60 : BitVec 32 := Scalar.muli arg14 c8_i32
  let v61 : BitVec 32 := v60
  let v249 : Index := Scalar.indexCast v61
  let c0_55 : Index := 0#32
  ![v249.toNat, 0]
@[reducible] def k0_t2_loop : Scf.Loop 32 :=
  let c0_i32_15 : BitVec 32 := 0#32
  let c32_i32_16 : BitVec 32 := 32#32
  let v23 : BitVec 32 := Scalar.addi c0_i32_15 c32_i32_16
  let c1_i32_17 : BitVec 32 := 1#32
  ⟨c0_i32_15, v23, c1_i32_17⟩
def k0_mult2 (k0_t2 : Fin k0_t2_loop.trips) : BitVec 32 :=
  let c0_i32_15 : BitVec 32 := 0#32
  let c1_i32_17 : BitVec 32 := 1#32
  let arg14 : BitVec 32 := Scf.iv c0_i32_15 c1_i32_17 k0_t2
  let c8_i32 : BitVec 32 := 8#32
  let v60 : BitVec 32 := Scalar.muli arg14 c8_i32
  v60
def k0_off3 (k0_t2 : Fin k0_t2_loop.trips) : Fin 3 → Nat :=
  let c0_43 : Index := 0#32
  let c0_i32_15 : BitVec 32 := 0#32
  let c1_i32_17 : BitVec 32 := 1#32
  let arg14 : BitVec 32 := Scf.iv c0_i32_15 c1_i32_17 k0_t2
  let c8_i32 : BitVec 32 := 8#32
  let v60 : BitVec 32 := Scalar.muli arg14 c8_i32
  let v61 : BitVec 32 := v60
  let v62 : Index := Scalar.indexCast v61
  let c1024_44 : Index := 1024#32
  ![0, v62.toNat, 1024]
def k0_off4 (k0_t2 : Fin k0_t2_loop.trips) : Fin 2 → Nat :=
  let c0_i32_15 : BitVec 32 := 0#32
  let c1_i32_17 : BitVec 32 := 1#32
  let arg14 : BitVec 32 := Scf.iv c0_i32_15 c1_i32_17 k0_t2
  let c8_i32 : BitVec 32 := 8#32
  let v60 : BitVec 32 := Scalar.muli arg14 c8_i32
  let v61 : BitVec 32 := v60
  let v249 : Index := Scalar.indexCast v61
  let c1024_55 : Index := 1024#32
  ![v249.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ScanFinalIdeal.lean ====
variable {F : FTy → Type} [FloatOps F] [Named F]
def κ : String → Option EReal := fun
  | "minus_log2e" => some ((-((Real.log 2)⁻¹) : ℝ) : EReal)
  | _ => none
-- ==== ScanFinalReferenceIdeal.lean ====
abbrev S4x1024x1024 : Shape := ⟨3, ![4, 1024, 1024]⟩
abbrev S4x1024x2048 : Shape := ⟨3, ![4, 1024, 2048]⟩
abbrev S4x32x1024 : Shape := ⟨3, ![4, 32, 1024]⟩
abbrev S2048x16 : Shape := ⟨2, ![2048, 16]⟩
abbrev S1024x2048 : Shape := ⟨2, ![1024, 2048]⟩
abbrev S1024 : Shape := ⟨1, ![1024]⟩
abbrev S4x16x1024 : Shape := ⟨3, ![4, 16, 1024]⟩
abbrev S_ : Shape := ⟨0, ![]⟩
abbrev S4x2048x16 : Shape := ⟨3, ![4, 2048, 16]⟩
abbrev S1024x4x2048 : Shape := ⟨3, ![1024, 4, 2048]⟩
abbrev S1024x4x16 : Shape := ⟨3, ![1024, 4, 16]⟩
abbrev S1x4x2048 : Shape := ⟨3, ![1, 4, 2048]⟩
abbrev S4x2048 : Shape := ⟨2, ![4, 2048]⟩
abbrev S1x4x16 : Shape := ⟨3, ![1, 4, 16]⟩
abbrev S4x16 : Shape := ⟨2, ![4, 16]⟩
abbrev S4x2048x1 : Shape := ⟨3, ![4, 2048, 1]⟩
abbrev S1x2048x16 : Shape := ⟨3, ![1, 2048, 16]⟩
abbrev S4x1x16 : Shape := ⟨3, ![4, 1, 16]⟩
abbrev S2048x1024 : Shape := ⟨2, ![2048, 1024]⟩
abbrev S4x1024 : Shape := ⟨2, ![4, 1024]⟩
abbrev S4x1024x1 : Shape := ⟨3, ![4, 1024, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .bf16⟩
  | .hbm, ⟨5, _⟩ => ⟨S4x32x1024, .f32⟩
  | .hbm, ⟨6, _⟩ => ⟨S2048x16, .f32⟩
  | .hbm, ⟨7, _⟩ => ⟨S1024x2048, .f32⟩
  | .hbm, ⟨8, _⟩ => ⟨S1024, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .hbm, ⟨13, _⟩ => ⟨S4x16x1024, .f32⟩
  | .hbm, ⟨14, _⟩ => ⟨S4x16x1024, .f32⟩
  | .hbm, ⟨15, _⟩ => ⟨S2048x16, .f32⟩
  | .hbm, ⟨16, _⟩ => ⟨S2048x16, .f32⟩
  | .hbm, ⟨17, _⟩ => ⟨S_, .f32⟩
  | .hbm, ⟨18, _⟩ => ⟨S4x2048x16, .f32⟩
  | .hbm, ⟨19, _⟩ => ⟨S1024x4x2048, .f32⟩
  | .hbm, ⟨20, _⟩ => ⟨S1024x4x16, .f32⟩
  | .hbm, ⟨21, _⟩ => ⟨S1024x4x16, .f32⟩
  | .hbm, ⟨22, _⟩ => ⟨S1024x4x2048, .f32⟩
  | .hbm, ⟨23, _⟩ => ⟨S_, .f32⟩
  | .hbm, ⟨24, _⟩ => ⟨S1024x4x2048, .f32⟩
  | .hbm, ⟨25, _⟩ => ⟨S_, .i32⟩
  | .hbm, ⟨26, _⟩ => ⟨S1024x4x2048, .f32⟩
  | .hbm, ⟨27, _⟩ => ⟨S1024x4x16, .f32⟩
  | .hbm, ⟨28, _⟩ => ⟨S1024x4x16, .f32⟩
  | .hbm, ⟨29, _⟩ => ⟨S1024x4x2048, .f32⟩
  | .hbm, ⟨30, _⟩ => ⟨S2048x16, .f32⟩
  | .hbm, ⟨31, _⟩ => ⟨S_, .i32⟩
  | .hbm, ⟨32, _⟩ => ⟨S4x2048x16, .f32⟩
  | .hbm, ⟨33, _⟩ => ⟨S1024x4x2048, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1x4x2048, .f32⟩
  | .hbm, ⟨39, _⟩ => ⟨S4x2048, .f32⟩
  | .hbm, ⟨40, _⟩ => ⟨S_, .i32⟩
  | .hbm, ⟨41, _⟩ => ⟨S_, .i32⟩
  | .hbm, ⟨42, _⟩ => ⟨S1x4x16, .f32⟩
  | .hbm, ⟨43, _⟩ => ⟨S4x16, .f32⟩
  | .hbm, ⟨44, _⟩ => ⟨S_, .i32⟩
  | .hbm, ⟨45, _⟩ => ⟨S_, .i32⟩
  | .hbm, ⟨46, _⟩ => ⟨S1x4x16, .f32⟩
  | .hbm, ⟨47, _⟩ => ⟨S4x16, .f32⟩
  | .hbm, ⟨48, _⟩ => ⟨S_, .i32⟩
  | .hbm, ⟨49, _⟩ => ⟨S_, .i32⟩
  | .hbm, ⟨50, _⟩ => ⟨S1x4x2048, .f32⟩
  | .hbm, ⟨51, _⟩ => ⟨S4x2048, .f32⟩
  | .hbm, ⟨52, _⟩ => ⟨S4x2048x1, .f32⟩
  | .hbm, ⟨53, _⟩ => ⟨S1x2048x16, .f32⟩
  | .hbm, ⟨54, _⟩ => ⟨S4x2048x16, .f32⟩
  | .hbm, ⟨55, _⟩ => ⟨S4x2048x16, .f32⟩
  | .hbm, ⟨56, _⟩ => ⟨S4x2048x16, .f32⟩
  | .hbm, ⟨57, _⟩ => ⟨S4x2048x16, .f32⟩
  | .hbm, ⟨58, _⟩ => ⟨S4x2048x16, .f32⟩
  | .hbm, ⟨59, _⟩ => ⟨S4x2048x1, .f32⟩
  | .hbm, ⟨60, _⟩ => ⟨S4x1x16, .f32⟩
  | .hbm, ⟨61, _⟩ => ⟨S4x2048x16, .f32⟩
  | .hbm, ⟨62, _⟩ => ⟨S4x2048x16, .f32⟩
  | .hbm, ⟨63, _⟩ => ⟨S4x2048x16, .f32⟩
  | .hbm, ⟨64, _⟩ => ⟨S4x2048x16, .f32⟩
  | .hbm, ⟨65, _⟩ => ⟨S4x1x16, .f32⟩
  | .hbm, ⟨66, _⟩ => ⟨S4x2048x16, .f32⟩
  | .hbm, ⟨67, _⟩ => ⟨S4x2048x16, .f32⟩
  | .hbm, ⟨68, _⟩ => ⟨S_, .f32⟩
  | .hbm, ⟨69, _⟩ => ⟨S4x2048, .f32⟩
  | .hbm, ⟨70, _⟩ => ⟨S1x4x2048, .f32⟩
  | .hbm, ⟨71, _⟩ => ⟨S_, .i32⟩
  | .hbm, ⟨72, _⟩ => ⟨S_, .i32⟩
  | .hbm, ⟨73, _⟩ => ⟨S1024x4x2048, .f32⟩
  | .hbm, ⟨74, _⟩ => ⟨S_, .i32⟩
  | .hbm, ⟨75, _⟩ => ⟨S_, .i32⟩
  | .hbm, ⟨76, _⟩ => ⟨S4x1024x2048, .f32⟩
  | .hbm, ⟨77, _⟩ => ⟨S4x1024x2048, .f32⟩
  | .hbm, ⟨78, _⟩ => ⟨S4x1024x2048, .f32⟩
  | .hbm, ⟨79, _⟩ => ⟨S2048x1024, .f32⟩
  | .hbm, ⟨80, _⟩ => ⟨S4x1024x1024, .f32⟩
  | .hbm, ⟨81, _⟩ => ⟨S4x1024x1024, .f32⟩
  | .hbm, ⟨82, _⟩ => ⟨S4x1024x1024, .f32⟩
  | .hbm, ⟨83, _⟩ => ⟨S_, .f32⟩
  | .hbm, ⟨84, _⟩ => ⟨S4x1024, .f32⟩
  | .hbm, ⟨85, _⟩ => ⟨S4x1024x1, .f32⟩
  | .hbm, ⟨86, _⟩ => ⟨S_, .f32⟩
  | .hbm, ⟨87, _⟩ => ⟨S4x1024x1, .f32⟩
  | .hbm, ⟨88, _⟩ => ⟨S4x1024x1, .f32⟩
  | .hbm, ⟨89, _⟩ => ⟨S_, .f32⟩
  | .hbm, ⟨90, _⟩ => ⟨S4x1024x1, .f32⟩
  | .hbm, ⟨91, _⟩ => ⟨S4x1024x1, .f32⟩
  | .hbm, ⟨92, _⟩ => ⟨S4x1024x1, .f32⟩
  | .hbm, ⟨93, _⟩ => ⟨S4x1024x1024, .f32⟩
  | .hbm, ⟨94, _⟩ => ⟨S4x1024x1024, .f32⟩
  | .hbm, ⟨95, _⟩ => ⟨S1x1x1024, .f32⟩
  | .hbm, ⟨96, _⟩ => ⟨S4x1024x1024, .f32⟩
  | .hbm, ⟨97, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_while0c_c_11 : Ref sig .tc := ⟨.hbm, 34, rfl⟩
abbrev main_while0c_v34 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v34 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_v0 : Ref sig .tc := ⟨.hbm, 42, rfl⟩
abbrev main_while0b_v35 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_v0 : Ref sig .tc := ⟨.hbm, 46, rfl⟩
abbrev main_while0b_v36 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_v40 : Ref sig .tc := ⟨.hbm, 54, rfl⟩
abbrev main_while0b_v41 : Ref sig .tc := ⟨.hbm, 55, rfl⟩
abbrev main_while0b_v42 : Ref sig .tc := ⟨.hbm, 56, rfl⟩
abbrev main_while0b_v43 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_v47 : Ref sig .tc := ⟨.hbm, 61, rfl⟩
abbrev main_while0b_v48 : Ref sig .tc := ⟨.hbm, 62, rfl⟩
abbrev main_while0b_v49 : Ref sig .tc := ⟨.hbm, 63, rfl⟩
abbrev main_while0b_v50 : Ref sig .tc := ⟨.hbm, 64, rfl⟩
abbrev main_while0b_v51 : Ref sig .tc := ⟨.hbm, 65, rfl⟩
abbrev main_while0b_v52 : Ref sig .tc := ⟨.hbm, 66, rfl⟩
abbrev main_while0b_v53 : Ref sig .tc := ⟨.hbm, 67, rfl⟩
abbrev main_while0b_cst_11 : Ref sig .tc := ⟨.hbm, 68, rfl⟩
abbrev main_while0b_v54 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_v55 : Ref sig .tc := ⟨.hbm, 73, rfl⟩
abbrev main_while0b_c_12 : Ref sig .tc := ⟨.hbm, 74, rfl⟩
abbrev main_while0b_v56 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_1 : Ref sig .tc := ⟨.hbm, 83, rfl⟩
abbrev main_v22 : Ref sig .tc := ⟨.hbm, 84, rfl⟩
abbrev main_v23 : Ref sig .tc := ⟨.hbm, 85, rfl⟩
abbrev main_cst_2 : Ref sig .tc := ⟨.hbm, 86, rfl⟩
abbrev main_v24 : Ref sig .tc := ⟨.hbm, 87, rfl⟩
abbrev main_v25 : Ref sig .tc := ⟨.hbm, 88, rfl⟩
abbrev main_cst_3 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩

abbrev nD : Nat := 1
abbrev τ : Topo := Topo.v7x

variable {F : FTy → Type} [FloatOps F]

abbrev main_while0_count : Scf.Loop 32 := ⟨0#32, 1024#32, 1#32⟩
-- ==== Tok.lean ====
abbrev S4x1024x1024 : Shape := ⟨3, ![4, 1024, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S1024 : Shape := ⟨1, ![1024]⟩
abbrev S1024x4096 : Shape := ⟨2, ![1024, 4096]⟩
abbrev S4x2048 : Shape := ⟨2, ![4, 2048]⟩
abbrev S1x2048 : Shape := ⟨2, ![1, 2048]⟩
abbrev S2048x96 : Shape := ⟨2, ![2048, 96]⟩
abbrev S_ : Shape := ⟨0, ![]⟩
abbrev S2048x128 : Shape := ⟨2, ![2048, 128]⟩
abbrev S64x2048 : Shape := ⟨2, ![64, 2048]⟩
abbrev S1x1024 : Shape := ⟨2, ![1, 1024]⟩
abbrev S4x1024x2048 : Shape := ⟨3, ![4, 1024, 2048]⟩
abbrev S4x32x1024 : Shape := ⟨3, ![4, 32, 1024]⟩
abbrev S1x256x1024 : Shape := ⟨3, ![1, 256, 1024]⟩
abbrev S1x256x2048 : Shape := ⟨3, ![1, 256, 2048]⟩
abbrev S1x32x256 : Shape := ⟨3, ![1, 32, 256]⟩
abbrev S1x8x1024 : Shape := ⟨3, ![1, 8, 1024]⟩
abbrev S8x1024 : Shape := ⟨2, ![8, 1024]⟩
abbrev S256x1024 : Shape := ⟨2, ![256, 1024]⟩
abbrev S264x1024 : Shape := ⟨2, ![264, 1024]⟩
abbrev S264 : Shape := ⟨1, ![264]⟩
abbrev S264x1 : Shape := ⟨2, ![264, 1]⟩
abbrev S264x4096 : Shape := ⟨2, ![264, 4096]⟩
abbrev S256x2048 : Shape := ⟨2, ![256, 2048]⟩
abbrev S8x2048 : Shape := ⟨2, ![8, 2048]⟩
abbrev S264x2048 : Shape := ⟨2, ![264, 2048]⟩
abbrev S256x128 : Shape := ⟨2, ![256, 128]⟩
abbrev S256x64 : Shape := ⟨2, ![256, 64]⟩
abbrev S256x32 : Shape := ⟨2, ![256, 32]⟩
abbrev S256x256 : Shape := ⟨2, ![256, 256]⟩
abbrev S32x256 : Shape := ⟨2, ![32, 256]⟩

abbrev nBuf : Space → Nat
  | .hbm => 27
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4096x1024, .f32⟩
  | .hbm, ⟨2, _⟩ => ⟨S2048x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S2048, .f32⟩
  | .hbm, ⟨8, _⟩ => ⟨S1024, .f32⟩
  | .hbm, ⟨9, _⟩ => ⟨S1024x4096, .f32⟩
  | .hbm, ⟨10, _⟩ => ⟨S1024x4096, .bf16⟩
  | .hbm, ⟨11, _⟩ => ⟨S4x2048, .f32⟩
  | .hbm, ⟨12, _⟩ => ⟨S1x2048, .f32⟩
  | .hbm, ⟨13, _⟩ => ⟨S2048x96, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S64x2048, .f32⟩
  | .hbm, ⟨19, _⟩ => ⟨S1x2048, .f32⟩
  | .hbm, ⟨20, _⟩ => ⟨S1x2048, .f32⟩
  | .hbm, ⟨21, _⟩ => ⟨S1x1024, .f32⟩
  | .hbm, ⟨22, _⟩ => ⟨S4x1024x2048, .bf16⟩
  | .hbm, ⟨23, _⟩ => ⟨S4x1024x2048, .bf16⟩
  | .hbm, ⟨24, _⟩ => ⟨S4x1024x2048, .bf16⟩
  | .hbm, ⟨25, _⟩ => ⟨S4x1024x2048, .bf16⟩
  | .hbm, ⟨26, _⟩ => ⟨S4x32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x4096, .bf16⟩
  | .local _ .vmem, ⟨6, _⟩ => ⟨S4x2048, .f32⟩
  | .local _ .vmem, ⟨7, _⟩ => ⟨S1x2048, .f32⟩
  | .local _ .vmem, ⟨8, _⟩ => ⟨S2048x128, .bf16⟩
  | .local _ .vmem, ⟨9, _⟩ => ⟨S64x2048, .f32⟩
  | .local _ .vmem, ⟨10, _⟩ => ⟨S1x2048, .f32⟩
  | .local _ .vmem, ⟨11, _⟩ => ⟨S1x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x32x256, .f32⟩
  | .local _ .vmem, ⟨21, _⟩ => ⟨S1x32x256, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== TokReferenceIdeal.lean ====
abbrev S4x1024x1024 : Shape := ⟨3, ![4, 1024, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S1024 : Shape := ⟨1, ![1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S1024x4096 : Shape := ⟨2, ![1024, 4096]⟩
abbrev S4x1024x4096 : Shape := ⟨3, ![4, 1024, 4096]⟩
abbrev S4x1024x2048 : Shape := ⟨3, ![4, 1024, 2048]⟩
abbrev S4x1027x2048 : Shape := ⟨3, ![4, 1027, 2048]⟩
abbrev S2048x1 : Shape := ⟨2, ![2048, 1]⟩
abbrev S1x1x2048 : Shape := ⟨3, ![1, 1, 2048]⟩
abbrev S2048x96 : Shape := ⟨2, ![2048, 96]⟩
abbrev S4x1024x96 : Shape := ⟨3, ![4, 1024, 96]⟩
abbrev S4x1024x64 : Shape := ⟨3, ![4, 1024, 64]⟩
abbrev S4x1024x16 : Shape := ⟨3, ![4, 1024, 16]⟩
abbrev S64x2048 : Shape := ⟨2, ![64, 2048]⟩
abbrev S4x1024x32 : Shape := ⟨3, ![4, 1024, 32]⟩
abbrev S4x32x1024 : Shape := ⟨3, ![4, 32, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4096x1024, .f32⟩
  | .hbm, ⟨2, _⟩ => ⟨S2048x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S2048, .f32⟩
  | .hbm, ⟨8, _⟩ => ⟨S1024, .f32⟩
  | .hbm, ⟨9, _⟩ => ⟨S4x1024x1024, .f32⟩
  | .hbm, ⟨10, _⟩ => ⟨S_, .f32⟩
  | .hbm, ⟨11, _⟩ => ⟨S4x1024, .f32⟩
  | .hbm, ⟨12, _⟩ => ⟨S4x1024x1, .f32⟩
  | .hbm, ⟨13, _⟩ => ⟨S_, .f32⟩
  | .hbm, ⟨14, _⟩ => ⟨S4x1024x1, .f32⟩
  | .hbm, ⟨15, _⟩ => ⟨S4x1024x1, .f32⟩
  | .hbm, ⟨16, _⟩ => ⟨S_, .f32⟩
  | .hbm, ⟨17, _⟩ => ⟨S4x1024x1, .f32⟩
  | .hbm, ⟨18, _⟩ => ⟨S4x1024x1, .f32⟩
  | .hbm, ⟨19, _⟩ => ⟨S4x1024x1, .f32⟩
  | .hbm, ⟨20, _⟩ => ⟨S4x1024x1024, .f32⟩
  | .hbm, ⟨21, _⟩ => ⟨S4x1024x1024, .f32⟩
  | .hbm, ⟨22, _⟩ => ⟨S1x1x1024, .f32⟩
  | .hbm, ⟨23, _⟩ => ⟨S4x1024x1024, .f32⟩
  | .hbm, ⟨24, _⟩ => ⟨S4x1024x1024, .f32⟩
  | .hbm, ⟨25, _⟩ => ⟨S1024x4096, .f32⟩
  | .hbm, ⟨26, _⟩ => ⟨S4x1024x4096, .f32⟩
  | .hbm, ⟨27, _⟩ => ⟨S4x1024x2048, .f32⟩
  | .hbm, ⟨28, _⟩ => ⟨S4x1024x2048, .f32⟩
  | .hbm, ⟨29, _⟩ => ⟨S_, .i32⟩
  | .hbm, ⟨30, _⟩ => ⟨S_, .f32⟩
  | .hbm, ⟨31, _⟩ => ⟨S4x1027x2048, .f32⟩
  | .hbm, ⟨32, _⟩ => ⟨S4x1024x2048, .f32⟩
  | .hbm, ⟨33, _⟩ => ⟨S2048x1, .f32⟩
  | .hbm, ⟨34, _⟩ => ⟨S2048, .f32⟩
  | .hbm, ⟨35, _⟩ => ⟨S1x1x2048, .f32⟩
  | .hbm, ⟨36, _⟩ => ⟨S4x1024x2048, .f32⟩
  | .hbm, ⟨37, _⟩ => ⟨S4x1024x2048, .f32⟩
  | .hbm, ⟨38, _⟩ => ⟨S_, .f32⟩
  | .hbm, ⟨39, _⟩ => ⟨S4x1024x2048, .f32⟩
  | .hbm, ⟨40, _⟩ => ⟨S4x1024x2048, .f32⟩
  | .hbm, ⟨41, _⟩ => ⟨S4x1024x2048, .f32⟩
  | .hbm, ⟨42, _⟩ => ⟨S2048x1, .f32⟩
  | .hbm, ⟨43, _⟩ => ⟨S2048, .f32⟩
  | .hbm, ⟨44, _⟩ => ⟨S1x1x2048, .f32⟩
  | .hbm, ⟨45, _⟩ => ⟨S4x1024x2048, .f32⟩
  | .hbm, ⟨46, _⟩ => ⟨S4x1024x2048, .f32⟩
  | .hbm, ⟨47, _⟩ => ⟨S4x1024x2048, .f32⟩
  | .hbm, ⟨48, _⟩ => ⟨S4x1024x2048, .f32⟩
  | .hbm, ⟨49, _⟩ => ⟨S2048x1, .f32⟩
  | .hbm, ⟨50, _⟩ => ⟨S2048, .f32⟩
  | .hbm, ⟨51, _⟩ => ⟨S1x1x2048, .f32⟩
  | .hbm, ⟨52, _⟩ => ⟨S4x1024x2048, .f32⟩
  | .hbm, ⟨53, _⟩ => ⟨S4x1024x2048, .f32⟩
  | .hbm, ⟨54, _⟩ => ⟨S4x1024x2048, .f32⟩
  | .hbm, ⟨55, _⟩ => ⟨S4x1024x2048, .f32⟩
  | .hbm, ⟨56, _⟩ => ⟨S2048x1, .f32⟩
  | .hbm, ⟨57, _⟩ => ⟨S2048, .f32⟩
  | .hbm, ⟨58, _⟩ => ⟨S1x1x2048, .f32⟩
  | .hbm, ⟨59, _⟩ => ⟨S4x1024x2048, .f32⟩
  | .hbm, ⟨60, _⟩ => ⟨S4x1024x2048, .f32⟩
  | .hbm, ⟨61, _⟩ => ⟨S4x1024x2048, .f32⟩
  | .hbm, ⟨62, _⟩ => ⟨S1x1x2048, .f32⟩
  | .hbm, ⟨63, _⟩ => ⟨S4x1024x2048, .f32⟩
  | .hbm, ⟨64, _⟩ => ⟨S4x1024x2048, .f32⟩
  | .hbm, ⟨65, _⟩ => ⟨S4x1024x2048, .f32⟩
  | .hbm, ⟨66, _⟩ => ⟨S4x1024x2048, .f32⟩
  | .hbm, ⟨67, _⟩ => ⟨S_, .f32⟩
  | .hbm, ⟨68, _⟩ => ⟨S4x1024x2048, .f32⟩
  | .hbm, ⟨69, _⟩ => ⟨S4x1024x2048, .f32⟩
  | .hbm, ⟨70, _⟩ => ⟨S_, .f32⟩
  | .hbm, ⟨71, _⟩ => ⟨S4x1024x2048, .f32⟩
  | .hbm, ⟨72, _⟩ => ⟨S4x1024x2048, .f32⟩
  | .hbm, ⟨73, _⟩ => ⟨S4x1024x2048, .f32⟩
  | .hbm, ⟨74, _⟩ => ⟨S2048x96, .f32⟩
  | .hbm, ⟨75, _⟩ => ⟨S4x1024x96, .f32⟩
  | .hbm, ⟨76, _⟩ => ⟨S4x1024x64, .f32⟩
  | .hbm, ⟨77, _⟩ => ⟨S4x1024x16, .f32⟩
  | .hbm, ⟨78, _⟩ => ⟨S4x1024x16, .f32⟩
  | .hbm, ⟨79, _⟩ => ⟨S64x2048, .f32⟩
  | .hbm, ⟨80, _⟩ => ⟨S4x1024x2048, .f32⟩
  | .hbm, ⟨81, _⟩ => ⟨S1x1x2048, .f32⟩
  | .hbm, ⟨82, _⟩ => ⟨S4x1024x2048, .f32⟩
  | .hbm, ⟨83, _⟩ => ⟨S4x1024x2048, .f32⟩
  | .hbm, ⟨84, _⟩ => ⟨S_, .f32⟩
  | .hbm, ⟨85, _⟩ => ⟨S4x1024x2048, .f32⟩
  | .hbm, ⟨86, _⟩ => ⟨S4x1024x2048, .f32⟩
  | .hbm, ⟨87, _⟩ => ⟨S4x1024x2048, .f32⟩
  | .hbm, ⟨88, _⟩ => ⟨S4x1024x2048, .f32⟩
  | .hbm, ⟨89, _⟩ => ⟨S4x1024x2048, .i1⟩
  | .hbm, ⟨90, _⟩ => ⟨S4x1024x2048, .f32⟩
  | .hbm, ⟨91, _⟩ => ⟨S4x1024x2048, .f32⟩
  | .hbm, ⟨92, _⟩ => ⟨S4x1024x2048, .f32⟩
  | .hbm, ⟨93, _⟩ => ⟨S4x1024x2048, .f32⟩
  | .hbm, ⟨94, _⟩ => ⟨S4x1024x2048, .f32⟩
  | .hbm, ⟨95, _⟩ => ⟨S4x1024x2048, .f32⟩
  | .hbm, ⟨96, _⟩ => ⟨S4x1024x2048, .f32⟩
  | .hbm, ⟨97, _⟩ => ⟨S4x1024x2048, .f32⟩
  | .hbm, ⟨98, _⟩ => ⟨S4x1024x2048, .f32⟩
  | .hbm, ⟨99, _⟩ => ⟨S4x1024x2048, .f32⟩
  | .hbm, ⟨100, _⟩ => ⟨S_, .f32⟩
  | .hbm, ⟨101, _⟩ => ⟨S4x1024x2048, .f32⟩
  | .hbm, ⟨102, _⟩ => ⟨S4x1024x2048, .f32⟩
  | .hbm, ⟨103, _⟩ => ⟨S_, .f32⟩
  | .hbm, ⟨104, _⟩ => ⟨S4x1024x2048, .f32⟩
  | .hbm, ⟨105, _⟩ => ⟨S4x1024x2048, .f32⟩
  | .hbm, ⟨106, _⟩ => ⟨S4x1024x2048, .f32⟩
  | .hbm, ⟨107, _⟩ => ⟨S4x1024x32, .f32⟩
  | .hbm, ⟨108, _⟩ => ⟨S4x32x1024, .f32⟩
  | .hbm, ⟨109, _⟩ => ⟨S4x1024x2048, .bf16⟩
  | .hbm, ⟨110, _⟩ => ⟨S4x1024x2048, .f32⟩
  | .hbm, ⟨111, _⟩ => ⟨S4x1024x2048, .bf16⟩
  | .hbm, ⟨112, _⟩ => ⟨S4x1024x2048, .bf16⟩
  | .hbm, ⟨113, _⟩ => ⟨S1x1x2048, .f32⟩
  | .hbm, ⟨114, _⟩ => ⟨S4x1024x2048, .f32⟩
  | .hbm, ⟨115, _⟩ => ⟨S4x1024x2048, .f32⟩
  | .hbm, ⟨116, _⟩ => ⟨S4x1024x2048, .f32⟩
  | .hbm, ⟨117, _⟩ => ⟨S4x1024x2048, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v61 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩

abbrev nD : Nat := 1
abbrev τ : Topo := Topo.v7x

variable {F : FTy → Type} [FloatOps F]
-- ==== Proof.ScanIdealRun.lean ====
module

public import proofs.«01_k».proof.Proof.Gen.ScanIdeal.Frame
public import proofs.«01_k».proof.Proof.Gen.ScanIdeal.Loops

@[expose] public section

set_option maxRecDepth 16384

noncomputable section

namespace Cert.ScanIdeal.Body

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch: the point is the first of its batch row. -/
abbrev cond0 (i : grid0.Coords) : Prop := (Scalar.cmpi .ne (Scalar.extui (Scalar.cmpi .eq (BitVec.ofNat 32 (i 1).val) 0#32)) 0#32) = 1#1

set_option maxHeartbeats 4000000 in
/-- The body's run at a point that starts a batch row. -/
def runA (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32)
    (y12 : BufTy.Contents (Elt F) arg12.view.ty) (xs : Vec F S16x2048 .f32) :
    Σ' (L11 : List (View.Piece (Elt F) S1x256x1024 .f32)) (L12 : List (View.Piece (Elt F) S256x2048 .f32)), { L13 : List (View.Piece (Elt F) S16x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} y12) ∗ owns (c : Thread nD τ) arg13 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) y12 L12) ∗ (∃ f, arg13.view.loc (c : Thread nD τ) ↦[arg13.view.set]{fullShare} arg13.view.writes (Elt F) f L13)) -∗ K ⟨⟩))
          ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mamba_scan_eq_skeleton]; unfold cc0_mamba_scan_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    sl_exec (disch := first | sl_exact hc0)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]; · iexists _; iexact H11
    isplitl [H12]; · iexact H12
    iexists _; iexact H13

set_option maxHeartbeats 4000000 in
/-- The body's run at a point that continues a batch row. -/
def runB (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32)
    (y12 : BufTy.Contents (Elt F) arg12.view.ty) (xs : Vec F S16x2048 .f32) :
    Σ' (L11 : List (View.Piece (Elt F) S1x256x1024 .f32)) (L12 : List (View.Piece (Elt F) S256x2048 .f32)), { L13 : List (View.Piece (Elt F) S16x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} y12) ∗ owns (c : Thread nD τ) arg13 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) y12 L12) ∗ (∃ f, arg13.view.loc (c : Thread nD τ) ↦[arg13.view.set]{fullShare} arg13.view.writes (Elt F) f L13)) -∗ K ⟨⟩))
          ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mamba_scan_eq_skeleton]; unfold cc0_mamba_scan_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    sl_exec (disch := first | sl_exact hc0)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]; · iexists _; iexact H11
    isplitl [H12]; · iexact H12
    iexists _; iexact H13

end Cert.ScanIdeal.Body

end
-- ==== Proof.ScanIdealFn.lean ====
module

public import proofs.«01_k».proof.Proof.ScanIdealRun

@[expose] public section

set_option maxRecDepth 16384

noncomputable section

namespace Cert.ScanIdeal.Body

open Cert.ScanIdeal Cert.ScanIdeal.Gen
open Idealize.ShloMosaic Idealize.ShloMosaic.TcCoe

variable {F : FTy → Type} [FloatOps F] [Named F]

/-- What the loop carries: the state of 1024 lanes and the table of `B` and `C`, rotated. -/
abbrev Acc (F : FTy → Type) := FVec F S16x1024 .bf16 × FVec F S32x256 .f32

/-- Eight rows of the first half of the lanes, as trip `k` loads them. -/
abbrev rows1 (x : Vec F S1x256x2048 .bf16) (k : Fin k0_t1_loop.trips) : Vec F S1x8x1024 .bf16 :=
  View.ld x (Rect.unit (s := S1x256x2048) (k0_off1 k) S1x8x1024.size (k0_off1_inb k))

/-- Eight rows of the second half of the lanes. -/
abbrev rows2 (x : Vec F S1x256x2048 .bf16) (k : Fin k0_t2_loop.trips) : Vec F S1x8x1024 .bf16 :=
  View.ld x (Rect.unit (s := S1x256x2048) (k0_off3 k) S1x8x1024.size (k0_off3_inb k))

section first
variable (a : Vec F S16x1024 .f32) (d x : Vec F S1x8x1024 .bf16) (s : Acc F)
def s1_1 : FVec F S16x1024 .bf16 := k0_pay9 (k0_pay64 a) s.1 s.2 d x
def s1_3 : FVec F S16x1024 .bf16 := k0_pay16 (k0_pay64 a) s.2 (k0_pay2 d) (k0_pay3 x) (s1_1 a d x s)
def s1_6 : FVec F S16x1024 .bf16 := k0_pay29 (k0_pay64 a) s.2 (k0_pay2 d) (k0_pay3 x) (s1_3 a d x s) (k0_pay18 (k0_pay3 x)) (k0_pay20 s.2) (k0_pay22 (k0_pay64 a) (k0_pay2 d))
/-- The state after the eight rows of a trip of the first loop. -/
def next1 : FVec F S16x1024 .bf16 := k0_pay67 a s.2 (k0_pay3 x) (s1_6 a d x s) (k0_pay31 (k0_pay2 d))
/-- The eight rows of results a trip of the first loop stores. -/
def out1 : FVec F S8x1024 .f32 :=
  k0_pay68 a s.2 (k0_pay3 x) (k0_pay7 (k0_pay64 a) s.1 s.2 d x) (k0_pay11 (k0_pay10 (k0_pay64 a) s.1 s.2 d x))
    (k0_pay14 (k0_pay64 a) s.2 (k0_pay2 d) (k0_pay3 x) (s1_1 a d x s))
    (k0_pay17 (k0_pay64 a) s.2 (k0_pay2 d) (k0_pay3 x) (s1_1 a d x s))
    (k0_pay24 (s1_3 a d x s) (k0_pay18 (k0_pay3 x)) (k0_pay20 s.2) (k0_pay21 s.2) (k0_pay22 (k0_pay64 a) (k0_pay2 d)))
    (k0_pay27 (k0_pay64 a) s.2 (k0_pay2 d) (k0_pay3 x) (s1_3 a d x s) (k0_pay18 (k0_pay3 x)) (k0_pay20 s.2) (k0_pay22 (k0_pay64 a) (k0_pay2 d)))
    (s1_6 a d x s)
    (k0_pay30 (k0_pay64 a) s.2 (k0_pay2 d) (k0_pay3 x) (s1_3 a d x s) (k0_pay18 (k0_pay3 x)) (k0_pay20 s.2) (k0_pay22 (k0_pay64 a) (k0_pay2 d)))
    (k0_pay31 (k0_pay2 d))
end first

section second
variable (a : Vec F S16x1024 .f32) (d x : Vec F S1x8x1024 .bf16) (s : Acc F)
def s2_1 : FVec F S16x1024 .bf16 := k0_pay39 (k0_pay70 a) s.1 s.2 d x
def s2_3 : FVec F S16x1024 .bf16 := k0_pay46 (k0_pay70 a) s.2 (k0_pay32 d) (k0_pay33 x) (s2_1 a d x s)
def s2_6 : FVec F S16x1024 .bf16 := k0_pay59 (k0_pay70 a) s.2 (k0_pay32 d) (k0_pay33 x) (s2_3 a d x s) (k0_pay48 (k0_pay33 x)) (k0_pay50 s.2) (k0_pay52 (k0_pay70 a) (k0_pay32 d))
/-- The state after the eight rows of a trip of the second loop. -/
def next2 : FVec F S16x1024 .bf16 := k0_pay73 a s.2 (k0_pay33 x) (s2_6 a d x s) (k0_pay61 (k0_pay32 d))
/-- The eight rows of results a trip of the second loop stores. -/
def out2 : FVec F S8x1024 .f32 :=
  k0_pay74 a s.2 (k0_pay33 x) (k0_pay37 (k0_pay70 a) s.1 s.2 d x) (k0_pay41 (k0_pay40 (k0_pay70 a) s.1 s.2 d x))
    (k0_pay44 (k0_pay70 a) s.2 (k0_pay32 d) (k0_pay33 x) (s2_1 a d x s))
    (k0_pay47 (k0_pay70 a) s.2 (k0_pay32 d) (k0_pay33 x) (s2_1 a d x s))
    (k0_pay54 (s2_3 a d x s) (k0_pay48 (k0_pay33 x)) (k0_pay50 s.2) (k0_pay51 s.2) (k0_pay52 (k0_pay70 a) (k0_pay32 d)))
    (k0_pay57 (k0_pay70 a) s.2 (k0_pay32 d) (k0_pay33 x) (s2_3 a d x s) (k0_pay48 (k0_pay33 x)) (k0_pay50 s.2) (k0_pay52 (k0_pay70 a) (k0_pay32 d)))
    (s2_6 a d x s)
    (k0_pay60 (k0_pay70 a) s.2 (k0_pay32 d) (k0_pay33 x) (s2_3 a d x s) (k0_pay48 (k0_pay33 x)) (k0_pay50 s.2) (k0_pay52 (k0_pay70 a) (k0_pay32 d)))
    (k0_pay61 (k0_pay32 d))

theorem next2_eq : next2 a d x s = next1 a d x s := rfl
theorem out2_eq : out2 a d x s = out1 a d x s := rfl
end second

/-- The states of the first loop: what it carries before trip `n`, and the rows stored so far, the last first. -/
def run1 (x2 x3 : Vec F S1x256x2048 .bf16) (t : Vec F S1x32x256 .f32) (a : Vec F S16x1024 .f32) (s : Acc F) : ℕ → Acc F × List (View.Piece (Elt F) S256x2048 .f32)
  | 0 => (s, [])
  | n + 1 =>
    if h : n < k0_t1_loop.trips then
      ((next1 a (rows1 x2 ⟨n, h⟩) (rows1 x3 ⟨n, h⟩) (run1 x2 x3 t a s n).1, k0_pay4 (k0_pay63 t) 0#32 1#32 ⟨n, h⟩),
        ⟨Rect.unit (s := S256x2048) (k0_off2 ⟨n, h⟩) S8x1024.size (k0_off2_inb ⟨n, h⟩), out1 a (rows1 x2 ⟨n, h⟩) (rows1 x3 ⟨n, h⟩) (run1 x2 x3 t a s n).1⟩ :: (run1 x2 x3 t a s n).2)
    else run1 x2 x3 t a s n

/-- The states of the second loop. -/
def run2 (x2 x3 : Vec F S1x256x2048 .bf16) (t : Vec F S1x32x256 .f32) (a : Vec F S16x1024 .f32) (s : Acc F) : ℕ → Acc F × List (View.Piece (Elt F) S256x2048 .f32)
  | 0 => (s, [])
  | n + 1 =>
    if h : n < k0_t2_loop.trips then
      ((next2 a (rows2 x2 ⟨n, h⟩) (rows2 x3 ⟨n, h⟩) (run2 x2 x3 t a s n).1, k0_pay34 (k0_pay63 t) 0#32 1#32 ⟨n, h⟩),
        ⟨Rect.unit (s := S256x2048) (k0_off4 ⟨n, h⟩) S8x1024.size (k0_off4_inb ⟨n, h⟩), out2 a (rows2 x2 ⟨n, h⟩) (rows2 x3 ⟨n, h⟩) (run2 x2 x3 t a s n).1⟩ :: (run2 x2 x3 t a s n).2)
    else run2 x2 x3 t a s n

section memrefs
variable (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole)
  (x2 x3 : Vec F S1x256x2048 .bf16) (t : Vec F S1x32x256 .f32) (a : Vec F S16x1024 .f32)

theorem trip1_eq (X2 : BufTy.Contents (Elt F) arg2.view.ty) (X3 : BufTy.Contents (Elt F) arg3.view.ty) (k : Fin k0_t1_loop.trips) (s : Acc F) :
    (tripR_k0_t1 Variants.none c none i arg2 harg2 arg3 harg3 arg4 harg4 arg5 harg5 arg6 harg6 arg7 harg7 arg8 harg8 arg9 harg9 arg10 harg10 arg11 harg11 arg12 harg12 arg13 harg13 t a X2 X3 k s
        = (next1 a (rows1 (arg2.view.read (Elt F) X2) k) (rows1 (arg3.view.read (Elt F) X3) k) s, k0_pay4 (k0_pay63 t) 0#32 1#32 k))
    ∧ tripL_k0_t1 Variants.none c none i arg2 harg2 arg3 harg3 arg4 harg4 arg5 harg5 arg6 harg6 arg7 harg7 arg8 harg8 arg9 harg9 arg10 harg10 arg11 harg11 arg12 harg12 arg13 harg13 t a X2 X3 k s
        = [⟨Rect.unit (s := S256x2048) (k0_off2 k) S8x1024.size (k0_off2_inb k), out1 a (rows1 (arg2.view.read (Elt F) X2) k) (rows1 (arg3.view.read (Elt F) X3) k) s⟩] := by
  unfold tripR_k0_t1 tripL_k0_t1 trip_k0_t1
  exact ⟨rfl, rfl⟩

theorem trip2_eq (X2 : BufTy.Contents (Elt F) arg2.view.ty) (X3 : BufTy.Contents (Elt F) arg3.view.ty) (k : Fin k0_t2_loop.trips) (s : Acc F) :
    (tripR_k0_t2 Variants.none c none i arg2 harg2 arg3 harg3 arg4 harg4 arg5 harg5 arg6 harg6 arg7 harg7 arg8 harg8 arg9 harg9 arg10 harg10 arg11 harg11 arg12 harg12 arg13 harg13 t a X2 X3 k s
        = (next2 a (rows2 (arg2.view.read (Elt F) X2) k) (rows2 (arg3.view.read (Elt F) X3) k) s, k0_pay34 (k0_pay63 t) 0#32 1#32 k))
    ∧ tripL_k0_t2 Variants.none c none i arg2 harg2 arg3 harg3 arg4 harg4 arg5 harg5 arg6 harg6 arg7 harg7 arg8 harg8 arg9 harg9 arg10 harg10 arg11 harg11 arg12 harg12 arg13 harg13 t a X2 X3 k s
        = [⟨Rect.unit (s := S256x2048) (k0_off4 k) S8x1024.size (k0_off4_inb k), out2 a (rows2 (arg2.view.read (Elt F) X2) k) (rows2 (arg3.view.read (Elt F) X3) k) s⟩] := by
  unfold tripR_k0_t2 tripL_k0_t2 trip_k0_t2
  exact ⟨rfl, rfl⟩

/-- The first loop's states are the functions above of the blocks' contents alone. -/
theorem st1_eq (s : Acc F) (n : ℕ) :
    st_k0_t1 Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s n
      = run1 x2 x3 t a s n := by
  induction n with
  | zero => rfl
  | succ n ih =>
    rw [run1]
    split
    · rename_i h
      have e := st_k0_t1_succ Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s ⟨n, h⟩
      obtain ⟨eR, eL⟩ := trip1_eq c i arg2 harg2 arg3 harg3 arg4 harg4 arg5 harg5 arg6 harg6 arg7 harg7 arg8 harg8 arg9 harg9 arg10 harg10 arg11 harg11 arg12 harg12 arg13 harg13 t a (harg2.unread x2) (harg3.unread x3) ⟨n, h⟩ (run1 x2 x3 t a s n).1
      rw [harg2.read_unread, harg3.read_unread] at eR eL
      rw [ih, eR, eL] at e
      exact e
    · rename_i h
      rw [st_k0_t1.eq_2]; unfold st_k0_t1Step; rw [dif_neg h, ih]

/-- The second loop's states likewise. -/
theorem st2_eq (s : Acc F) (n : ℕ) :
    st_k0_t2 Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s n
      = run2 x2 x3 t a s n := by
  induction n with
  | zero => rfl
  | succ n ih =>
    rw [run2]
    split
    · rename_i h
      have e := st_k0_t2_succ Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s ⟨n, h⟩
      obtain ⟨eR, eL⟩ := trip2_eq c i arg2 harg2 arg3 harg3 arg4 harg4 arg5 harg5 arg6 harg6 arg7 harg7 arg8 harg8 arg9 harg9 arg10 harg10 arg11 harg11 arg12 harg12 arg13 harg13 t a (harg2.unread x2) (harg3.unread x3) ⟨n, h⟩ (run2 x2 x3 t a s n).1
      rw [harg2.read_unread, harg3.read_unread] at eR eL
      rw [ih, eR, eL] at e
      exact e
    · rename_i h
      rw [st_k0_t2.eq_2]; unfold st_k0_t2Step; rw [dif_neg h, ih]
end memrefs

end Cert.ScanIdeal.Body

end
-- ==== Proof.ScanIdealRows.lean ====
module

public import proofs.«01_k».proof.Proof.ScanIdealFn
public import Idealize.ShloMosaic.Lib.Pointwise
public import Idealize.ShloMosaic.PureOps.IdealRules

@[expose] public section

set_option maxRecDepth 16384

noncomputable section

namespace Cert.ScanIdeal.Body

open Cert.ScanIdeal Cert.ScanIdeal.Gen
open Idealize.ShloMosaic Idealize.ShloMosaic.TcCoe

/-- The recurrence of one channel and one state index: `s ↦ a j * s + b j`, `n` times from `s`. -/
def chain (a b : ℕ → EReal) (s : EReal) : ℕ → EReal
  | 0 => s
  | n + 1 => a n * chain a b s n + b n

theorem chain_add (a b : ℕ → EReal) (s : EReal) (m : ℕ) : ∀ n, chain a b s (m + n) = chain (fun j => a (m + j)) (fun j => b (m + j)) (chain a b s m) n
  | 0 => rfl
  | n + 1 => by rw [← Nat.add_assoc]; simp only [chain, chain_add a b s m n]

theorem chain_congr {a a' b b' : ℕ → EReal} {s s' : EReal} : ∀ {n : ℕ}, (∀ j < n, a j = a' j) → (∀ j < n, b j = b' j) → s = s' → chain a b s n = chain a' b' s' n
  | 0, _, _, h => h
  | n + 1, ha, hb, h => by
    simp only [chain, ha n (Nat.lt_succ_self n), hb n (Nat.lt_succ_self n)]
    rw [chain_congr (fun j hj => ha j (by omega)) (fun j hj => hb j (by omega)) h]

/-- A function of `Fin N` on all naturals, 0 beyond. -/
def ext {N : ℕ} (f : Fin N → EReal) (j : ℕ) : EReal := if h : j < N then f ⟨j, h⟩ else 0

theorem ext_lt {N : ℕ} (f : Fin N → EReal) {j : ℕ} (h : j < N) : ext f j = f ⟨j, h⟩ := dif_pos h

/-- The kernel's named constant denotes minus the logarithm of e to base 2, -1/log 2. -/
def negLog2e : EReal := ((-((Real.log 2)⁻¹) : ℝ) : EReal)

theorem minus_log2e : Named.named (F := Ideal) Cert.ScanIdeal.κ "minus_log2e" (φ := .f32) 0xBFB8AA3B#32 = negLog2e :=
  IdealRules.named_const.ideal_named_scalar _ _ _ _ rfl

variable (a : FVec Ideal S16x1024 .f32) (d x : FVec Ideal S1x8x1024 .bf16) (s : Acc Ideal)

/-- The decay of row `j` of the eight. -/
def rowA (n : Fin 16) (l : Fin 1024) : ℕ → EReal := ext fun j : Fin 8 => Ideal.exp2 (d (ix3 0 j l) * (negLog2e * a (ix2 n l)))
/-- What row `j` of the eight adds to the state. -/
def rowB (n : Fin 16) (l : Fin 1024) : ℕ → EReal := ext fun j : Fin 8 => x (ix3 0 j l) * s.2 (ix2 ⟨n.val, by omega⟩ ⟨j.val, by omega⟩)

/-- The state after a trip is eight steps of the recurrence. -/
theorem next1_apply (n : Fin 16) (l : Fin 1024) :
    next1 a d x s (ix2 n l) = chain (rowA a d n l) (rowB x s n l) (s.1 (ix2 n l)) 8 := by
  pointwise [next1, s1_6, s1_3, s1_1, k0_pay2, k0_pay3, k0_pay5, k0_pay6, k0_pay8, k0_pay9, k0_pay12, k0_pay13, k0_pay15, k0_pay16, k0_pay18, k0_pay19, k0_pay20, k0_pay22, k0_pay23, k0_pay25, k0_pay26, k0_pay28, k0_pay29, k0_pay31, k0_pay64, k0_pay66, k0_pay67, minus_log2e]
  simp only [chain, rowA, rowB, ext_lt _ (show 0 < 8 by decide), ext_lt _ (show 1 < 8 by decide), ext_lt _ (show 2 < 8 by decide), ext_lt _ (show 3 < 8 by decide), ext_lt _ (show 4 < 8 by decide), ext_lt _ (show 5 < 8 by decide), ext_lt _ (show 6 < 8 by decide), ext_lt _ (show 7 < 8 by decide)]
  rfl

/-- Row `r` of a trip's results: the sum over the state index of the state after that row times `C`. -/
theorem out1_apply (r : Fin 8) (l : Fin 1024) :
    out1 a d x s (ix2 r l) = ∑ n : Fin 16, chain (rowA a d n l) (rowB x s n l) (s.1 (ix2 n l)) (r.val + 1) * s.2 (ix2 ⟨16 + n.val, by omega⟩ ⟨r.val, by omega⟩) := by
  fin_cases r
  all_goals
    pointwise [out1, s1_6, s1_3, s1_1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay64, k0_pay66, k0_pay67, k0_pay68, minus_log2e]
    simp only [chain, rowA, rowB, ext_lt _ (show 0 < 8 by decide), ext_lt _ (show 1 < 8 by decide), ext_lt _ (show 2 < 8 by decide), ext_lt _ (show 3 < 8 by decide), ext_lt _ (show 4 < 8 by decide), ext_lt _ (show 5 < 8 by decide), ext_lt _ (show 6 < 8 by decide), ext_lt _ (show 7 < 8 by decide)]
    rfl

/-- The next trip's table: rotated so that column `r` is column `8 (k + 1) + r` of the block's. -/
theorem pay4_apply (t : FVec Ideal S1x32x256 .f32) (k : Fin k0_t1_loop.trips) (q : Fin 32) (j : Fin 256) :
    k0_pay4 (k0_pay63 t) 0#32 1#32 k (ix2 q j) = t (ix3 0 q ⟨(j.val + 8 * (k.val + 1)) % 256, Nat.mod_lt _ (by decide)⟩) := by
  pointwise [k0_pay4, k0_pay63]
  have h : (Scalar.subi (248#32) (Scalar.muli (Scf.iv 0#32 1#32 k.val) 8#32)).toNat = 248 - 8 * k.val := by
    revert k; decide +kernel
  have hk : k.val < 32 := lt_of_lt_of_eq k.isLt (by decide +kernel)
  rw [h]
  exact congrArg t (congrArg (ix3 0 q) (Fin.ext (by show _ % 256 = _ % 256; omega)))

end Cert.ScanIdeal.Body
-- ==== Proof.ScanIdealTriple.lean ====
module

public import proofs.«01_k».proof.Proof.ScanIdealFn
public import Idealize.ShloMosaic.Lib.Pipeline.ValueKit
public import Idealize.ShloMosaic.Lib.VecWindow
public import Idealize.ShloMosaic.Lib.Pipeline.ReadBack

@[expose] public section

set_option maxRecDepth 16384

noncomputable section

namespace Cert.ScanIdeal.Body

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off2_eq : ∀ k : Fin k0_t1_loop.trips, k0_off2 k = ![8 * k.val, 0] := by decide +kernel
theorem off4_eq : ∀ k : Fin k0_t2_loop.trips, k0_off4 k = ![8 * k.val, 1024] := by decide +kernel
theorem trips1 : k0_t1_loop.trips = 32 := by decide +kernel
theorem trips2 : k0_t2_loop.trips = 32 := by decide +kernel

/-- The rows stored before trip `n` cover the first half of rows `0..8n`. -/
theorem run1_cover (x2 x3 : Vec F S1x256x2048 .bf16) (t : Vec F S1x32x256 .f32) (a : Vec F S16x1024 .f32) (s : Acc F) :
    ∀ n ≤ 32, ∀ y : S256x2048.Idx, (y 0).val < 8 * n → (y 1).val < 1024 → ∃ p ∈ (run1 x2 x3 t a s n).2, y ∈ p.1.set := by
  intro n
  induction n with
  | zero => intro _ y h; omega
  | succ n ih =>
    intro hn y h0 h1
    have h : n < k0_t1_loop.trips := by rw [trips1]; omega
    rw [run1, dif_pos h]
    by_cases hy : (y 0).val < 8 * n
    · obtain ⟨p, hp, hpy⟩ := ih (by omega) y hy h1
      exact ⟨p, List.mem_cons_of_mem _ hp, hpy⟩
    · refine ⟨_, List.mem_cons_self, ?_⟩
      rw [Rect.mem_set_unit, off2_eq]
      intro b
      match b with
      | ⟨0, _⟩ => exact ⟨by show 8 * n ≤ (y 0).val; omega, by show (y 0).val < 8 * n + 8; omega⟩
      | ⟨1, _⟩ => exact ⟨Nat.zero_le _, by show (y 1).val < 0 + 1024; omega⟩

/-- The rows the second loop stored before trip `n` cover the second half of rows `0..8n`. -/
theorem run2_cover (x2 x3 : Vec F S1x256x2048 .bf16) (t : Vec F S1x32x256 .f32) (a : Vec F S16x1024 .f32) (s : Acc F) :
    ∀ n ≤ 32, ∀ y : S256x2048.Idx, (y 0).val < 8 * n → 1024 ≤ (y 1).val → ∃ p ∈ (run2 x2 x3 t a s n).2, y ∈ p.1.set := by
  intro n
  induction n with
  | zero => intro _ y h; omega
  | succ n ih =>
    intro hn y h0 h1
    have h : n < k0_t2_loop.trips := by rw [trips2]; omega
    rw [run2, dif_pos h]
    by_cases hy : (y 0).val < 8 * n
    · obtain ⟨p, hp, hpy⟩ := ih (by omega) y hy h1
      exact ⟨p, List.mem_cons_of_mem _ hp, hpy⟩
    · refine ⟨_, List.mem_cons_self, ?_⟩
      rw [Rect.mem_set_unit, off4_eq]
      intro b
      have h2 : (y 1).val < 2048 := (y 1).isLt
      match b with
      | ⟨0, _⟩ => exact ⟨by show 8 * n ≤ (y 0).val; omega, by show (y 0).val < 8 * n + 8; omega⟩
      | ⟨1, _⟩ => exact ⟨by show 1024 ≤ (y 1).val; omega, by show (y 1).val < 1024 + 1024; omega⟩

/-- The first and the second 1024 lanes. -/
abbrev half1 (x : Vec F S16x2048 .f32) : Vec F S16x1024 .f32 := View.ld x (Rect.unit (s := S16x2048) ![0, 0] S16x1024.size inb_S16x2048_S16x1024_0_0)
abbrev half2 (x : Vec F S16x2048 .f32) : Vec F S16x1024 .f32 := View.ld x (Rect.unit (s := S16x2048) ![0, 1024] S16x1024.size inb_S16x2048_S16x1024_0_1024)

/-- What the two loops leave, from the block's contents and the carried state. -/
abbrev fin1 (x2 x3 : Vec F S1x256x2048 .bf16) (x6 : Vec F S1x32x256 .f32) (x7 s : Vec F S16x2048 .f32) :=
  run1 x2 x3 x6 (half1 x7) (k0_pay65 (half1 s), k0_pay63 x6) 32
abbrev fin2 (x2 x3 : Vec F S1x256x2048 .bf16) (x6 : Vec F S1x32x256 .f32) (x7 s : Vec F S16x2048 .f32) :=
  run2 x2 x3 x6 (half2 x7) (k0_pay71 (half2 s), k0_pay63 x6) 32

/-- The 256 rows of results. -/
def yF (x2 x3 : Vec F S1x256x2048 .bf16) (x6 : Vec F S1x32x256 .f32) (x7 s : Vec F S16x2048 .f32) : Vec F S256x2048 .f32 :=
  View.canon ((fin2 x2 x3 x6 x7 s).2 ++ (fin1 x2 x3 x6 x7 s).2)

/-- The state left. -/
def stF (x2 x3 : Vec F S1x256x2048 .bf16) (x6 : Vec F S1x32x256 .f32) (x7 s : Vec F S16x2048 .f32) : Vec F S16x2048 .f32 :=
  View.canon [⟨Rect.unit (s := S16x2048) ![0, 1024] S16x1024.size inb_S16x2048_S16x1024_0_1024, k0_pay75 (fin2 x2 x3 x6 x7 s).1.1⟩,
    ⟨Rect.unit (s := S16x2048) ![0, 0] S16x1024.size inb_S16x2048_S16x1024_0_0, k0_pay69 (fin1 x2 x3 x6 x7 s).1.1⟩]

/-- The output block. -/
def outF (x2 x3 x4 x5 : Vec F S1x256x2048 .bf16) (x6 : Vec F S1x32x256 .f32) (x7 : Vec F S16x2048 .f32) (x8 : Vec F S2048x1024 .bf16) (x9 : Vec F S1x256x1024 .f32) (s : Vec F S16x2048 .f32) : Vec F S1x256x1024 .f32 :=
  k0_pay1 (yF x2 x3 x6 x7 s) x4 x5 x8 x9

theorem y_cover (x2 x3 : Vec F S1x256x2048 .bf16) (x6 : Vec F S1x32x256 .f32) (x7 s : Vec F S16x2048 .f32) (y : S256x2048.Idx) :
    ∃ p ∈ (fin2 x2 x3 x6 x7 s).2 ++ (fin1 x2 x3 x6 x7 s).2, y ∈ p.1.set := by
  have h0 : (y 0).val < 256 := (y 0).isLt
  by_cases h : (y 1).val < 1024
  · obtain ⟨p, hp, hy⟩ := run1_cover x2 x3 x6 (half1 x7) (k0_pay65 (half1 s), k0_pay63 x6) 32 le_rfl y (by omega) h
    exact ⟨p, List.mem_append_right _ hp, hy⟩
  · obtain ⟨p, hp, hy⟩ := run2_cover x2 x3 x6 (half2 x7) (k0_pay71 (half2 s), k0_pay63 x6) 32 le_rfl y (by omega) (by omega)
    exact ⟨p, List.mem_append_left _ hp, hy⟩

/-- At an index that one of the later stores covers, the earlier stores do not matter. -/
theorem canon_append_left {Val : EltTy → Type} [∀ e, Nonempty (Val e)] {S : Shape} {e : EltTy} (L' L : List (View.Piece Val S e)) (y : S.Idx) (h : ∃ p ∈ L', y ∈ p.1.set) :
    View.canon (L' ++ L) y = View.canon L' y := by
  induction L' with
  | nil => obtain ⟨p, hp, _⟩ := h; cases hp
  | cons p T ih =>
    obtain ⟨r, w⟩ := p
    by_cases hy : y ∈ r.set
    · obtain ⟨x, rfl⟩ := r.exists_idx_of_mem hy
      exact (View.canon_cons_emb r w (T ++ L) x).trans (View.canon_cons_emb r w T x).symm
    · obtain ⟨q, hq, hqy⟩ := h
      rw [List.cons_append, View.canon_cons_of_not_mem _ _ hy, View.canon_cons_of_not_mem _ _ hy]
      rcases List.mem_cons.mp hq with rfl | hq
      · exact absurd hqy hy
      · exact ih ⟨q, hq, hqy⟩

/-- The two halves cover the state. -/
theorem st_cover (w2 w1 : S16x1024.Idx → Elt F .f32) (y : S16x2048.Idx) :
    ∃ p ∈ ([⟨Rect.unit (s := S16x2048) ![0, 1024] S16x1024.size inb_S16x2048_S16x1024_0_1024, w2⟩,
        ⟨Rect.unit (s := S16x2048) ![0, 0] S16x1024.size inb_S16x2048_S16x1024_0_0, w1⟩] : List (View.Piece (Elt F) S16x2048 .f32)), y ∈ p.1.set := by
  have h0 : (y 0).val < 16 := (y 0).isLt
  have h1 : (y 1).val < 2048 := (y 1).isLt
  by_cases h : (y 1).val < 1024
  · refine ⟨_, List.mem_cons_of_mem _ List.mem_cons_self, ?_⟩
    rw [Rect.mem_set_unit]
    intro b
    match b with
    | ⟨0, _⟩ => exact ⟨Nat.zero_le _, by show (y 0).val < 0 + 16; omega⟩
    | ⟨1, _⟩ => exact ⟨Nat.zero_le _, by show (y 1).val < 0 + 1024; omega⟩
  · refine ⟨_, List.mem_cons_self, ?_⟩
    rw [Rect.mem_set_unit]
    intro b
    match b with
    | ⟨0, _⟩ => exact ⟨Nat.zero_le _, by show (y 0).val < 0 + 16; omega⟩
    | ⟨1, _⟩ => exact ⟨by show 1024 ≤ (y 1).val; omega, by show (y 1).val < 1024 + 1024; omega⟩

theorem runA_out (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg11.view.ty) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).1) = outF x2 x3 x4 x5 x6 x7 x8 x9 (k0_pay62 (F := F)) := by
  unfold runA
  dsimp only
  refine (View.read_writes_full arg11.view f inb_S1x256x1024_S1x256x1024_0_0_0 _ _).trans ?_
  simp only [runA.sl.r, runA.sl.v29, runA.sl.v9, runA.sl.v21, runA.sl.H13_2, runA.sl.H13_1]
  simp (disch := decide) only [st1_eq, st2_eq, View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact congrArg (fun y => k0_pay1 y x4 x5 x8 x9) (View.read_writes_eq_canon arg12.view y12 _ (y_cover x2 x3 x6 x7 (k0_pay62 (F := F))))

theorem runA_st (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg13.view.ty) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).2.2.1) = stF x2 x3 x6 x7 (k0_pay62 (F := F)) := by
  unfold runA
  dsimp only
  simp only [runA.sl.r, runA.sl.v29, runA.sl.v9, runA.sl.v21, runA.sl.H13_2, runA.sl.H13_1]
  simp (disch := decide) only [View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  rw [View.read_writes_eq_canon arg13.view]
  · exact funext fun y => canon_append_left [_, _] _ y (st_cover _ _ y)
  · intro y
    obtain ⟨p, hp, hy⟩ := st_cover (k0_pay75 (fin2 x2 x3 x6 x7 (k0_pay62 (F := F))).1.1) (k0_pay69 (fin1 x2 x3 x6 x7 (k0_pay62 (F := F))).1.1) y
    exact ⟨p, List.mem_append_left _ hp, hy⟩

theorem runB_out (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg11.view.ty) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).1) = outF x2 x3 x4 x5 x6 x7 x8 x9 xs := by
  unfold runB
  dsimp only
  refine (View.read_writes_full arg11.view f inb_S1x256x1024_S1x256x1024_0_0_0 _ _).trans ?_
  simp only [runB.sl.r, runB.sl.v29, runB.sl.v21]
  simp (disch := decide) only [st1_eq, st2_eq, View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact congrArg (fun y => k0_pay1 y x4 x5 x8 x9) (View.read_writes_eq_canon arg12.view y12 _ (y_cover x2 x3 x6 x7 xs))

theorem runB_st (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg13.view.ty) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).2.2.1) = stF x2 x3 x6 x7 xs := by
  unfold runB
  dsimp only
  simp only [runB.sl.r, runB.sl.v29, runB.sl.v21]
  simp (disch := decide) only [View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact View.read_writes_eq_canon arg13.view f _ fun y => st_cover _ _ y

/-- The body at a point that starts a batch row: from the blocks it leaves the output block and the state above, from a zero state. -/
theorem tripleA (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (xs : Vec F S16x2048 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF x2 x3 x4 x5 x6 x7 x8 x9 (k0_pay62 (F := F))) ∗ (∃ d, owns (c : Thread nD τ) arg12 fullShare d) ∗ owns (c : Thread nD τ) arg13 fullShare (stF x2 x3 x6 x7 (k0_pay62 (F := F)))) -∗ K ⟨⟩))
      ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K := by
  rw [show (fun d : Vec F S256x2048 .f32 => owns (c : Thread nD τ) arg12 fullShare d) = fun d => iprop(∃ f, ⌜arg12.view.read (Elt F) f = d⌝ ∗ (arg12.view.loc (c : Thread nD τ) ↦[arg12.view.set]{fullShare} f)) from rfl]
  iintro ⟨H2, H3, H4, H5, H6, H7, H8, H9, H10, H11, ⟨%d12, %f12, -, H12⟩, H13, Hk⟩
  iapply (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, ⟨%f11, H11⟩, H12, ⟨%f13, H13⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; iexact H11
    ipureintro
    exact runA_out c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f11
  isplitl [H12]
  · iexists _; iexists _; isplitr; swap; iexact H12
    ipureintro; rfl
  unfold owns; iexists _; isplitr; swap; iexact H13
  ipureintro
  exact runA_st c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f13

/-- The body at any other point: from the blocks and the state carried in. -/
theorem tripleB (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (xs : Vec F S16x2048 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF x2 x3 x4 x5 x6 x7 x8 x9 xs) ∗ (∃ d, owns (c : Thread nD τ) arg12 fullShare d) ∗ owns (c : Thread nD τ) arg13 fullShare (stF x2 x3 x6 x7 xs)) -∗ K ⟨⟩))
      ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K := by
  rw [show (fun d : Vec F S256x2048 .f32 => owns (c : Thread nD τ) arg12 fullShare d) = fun d => iprop(∃ f, ⌜arg12.view.read (Elt F) f = d⌝ ∗ (arg12.view.loc (c : Thread nD τ) ↦[arg12.view.set]{fullShare} f)) from rfl]
  iintro ⟨H2, H3, H4, H5, H6, H7, H8, H9, H10, H11, ⟨%d12, %f12, -, H12⟩, H13, Hk⟩
  iapply (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, ⟨%f11, H11⟩, H12, ⟨%f13, H13⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; iexact H11
    ipureintro
    exact runB_out c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f11
  isplitl [H12]
  · iexists _; iexists _; isplitr; swap; iexact H12
    ipureintro; rfl
  unfold owns; iexists _; isplitr; swap; iexact H13
  ipureintro
  exact runB_st c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f13

end Cert.ScanIdeal.Body

end
-- ==== Proof.ScanIdealLoops.lean ====
module

public import proofs.«01_k».proof.Proof.ScanIdealRows
public import proofs.«01_k».proof.Proof.ScanIdealTriple
public import Idealize.ShloMosaic.Lib.Pipeline.ValueKit

@[expose] public section

set_option maxRecDepth 16384

noncomputable section

namespace Cert.ScanIdeal.Body

open Cert.ScanIdeal Cert.ScanIdeal.Gen
open Idealize.ShloMosaic Idealize.ShloMosaic.TcCoe

variable (x2 x3 : FVec Ideal S1x256x2048 .bf16) (x6 : FVec Ideal S1x32x256 .f32) (x7 s0 : FVec Ideal S16x2048 .f32)

/-- The decays of channel `L` and state index `n` along the 256 rows of a block. -/
def blkA (n : Fin 16) (L : Fin 2048) : ℕ → EReal := ext fun j : Fin 256 => Ideal.exp2 (x2 (ix3 0 j L) * (negLog2e * x7 (ix2 n L)))
/-- What each row adds to the state of channel `L` and state index `n`. -/
def blkB (n : Fin 16) (L : Fin 2048) : ℕ → EReal := ext fun j : Fin 256 => x3 (ix3 0 j L) * x6 (ix3 0 ⟨n.val, by omega⟩ j)
/-- The state of channel `L` and state index `n` after `j` rows of the block. -/
def blkS (n : Fin 16) (L : Fin 2048) (j : ℕ) : EReal := chain (blkA x2 x7 n L) (blkB x3 x6 n L) (s0 (ix2 n L)) j
/-- Row `r` of the block's results at channel `L`. -/
def blkY (r : Fin 256) (L : Fin 2048) : EReal := ∑ n : Fin 16, blkS x2 x3 x6 x7 s0 n L (r.val + 1) * x6 (ix3 0 ⟨16 + n.val, by omega⟩ r)

section loop
variable (o : ℕ) (ho : o + 1024 ≤ 2048) (st : ℕ → Acc Ideal) (a : FVec Ideal S16x1024 .f32) (D X : ℕ → FVec Ideal S1x8x1024 .bf16)
  (ha : ∀ (n : Fin 16) (l : Fin 1024), a (ix2 n l) = x7 (ix2 n ⟨o + l.val, by omega⟩))
  (hD : ∀ (k : ℕ) (hk : k < 32) (j : Fin 8) (l : Fin 1024), D k (ix3 0 j l) = x2 (ix3 0 ⟨8 * k + j.val, by omega⟩ ⟨o + l.val, by omega⟩))
  (hX : ∀ (k : ℕ) (hk : k < 32) (j : Fin 8) (l : Fin 1024), X k (ix3 0 j l) = x3 (ix3 0 ⟨8 * k + j.val, by omega⟩ ⟨o + l.val, by omega⟩))
  (h0 : ∀ (n : Fin 16) (l : Fin 1024), (st 0).1 (ix2 n l) = s0 (ix2 n ⟨o + l.val, by omega⟩))
  (ht0 : ∀ (q : Fin 32) (j : Fin 256), (st 0).2 (ix2 q j) = x6 (ix3 0 q j))
  (hs : ∀ k < 32, (st (k + 1)).1 = next1 a (D k) (X k) (st k))
  (ht : ∀ k < 32, ∀ (q : Fin 32) (j : Fin 256), (st (k + 1)).2 (ix2 q j) = x6 (ix3 0 q ⟨(j.val + 8 * (k + 1)) % 256, Nat.mod_lt _ (by decide)⟩))
include ht0 ht in
/-- Before trip `k` the first eight columns of the table are the columns `8 k …` of the block's. -/
theorem loop_table (k : ℕ) (hk : k < 32) (q : Fin 32) (j : Fin 8) :
    (st k).2 (ix2 q ⟨j.val, by omega⟩) = x6 (ix3 0 q ⟨8 * k + j.val, by omega⟩) := by
  cases k with
  | zero => rw [ht0]; exact congrArg x6 (congrArg (ix3 0 q) (Fin.ext (by show j.val = 8 * 0 + j.val; omega)))
  | succ k => rw [ht k (by omega)]; exact congrArg x6 (congrArg (ix3 0 q) (Fin.ext (by show (j.val + 8 * (k + 1)) % 256 = 8 * (k + 1) + j.val; omega)))

include ha hD in
theorem rowA_eq (k : ℕ) (hk : k < 32) (n : Fin 16) (l : Fin 1024) (j : ℕ) (hj : j < 8) :
    rowA a (D k) n l j = blkA x2 x7 n ⟨o + l.val, by omega⟩ (8 * k + j) := by
  rw [rowA, ext_lt _ hj, blkA, ext_lt _ (by omega : 8 * k + j < 256), ha, hD k hk]

include hX ht0 ht in
theorem rowB_eq (k : ℕ) (hk : k < 32) (n : Fin 16) (l : Fin 1024) (j : ℕ) (hj : j < 8) :
    rowB (X k) (st k) n l j = blkB x3 x6 n ⟨o + l.val, by omega⟩ (8 * k + j) := by
  rw [rowB, ext_lt _ hj, blkB, ext_lt _ (by omega : 8 * k + j < 256), hX k hk]
  exact congrArg _ (loop_table x6 o st ht0 ht k hk ⟨n.val, by omega⟩ ⟨j, hj⟩)

include ha hD hX h0 ht0 hs ht in
/-- Before trip `k` the carried state is the recurrence's after `8 k` rows. -/
theorem loop_state : ∀ k ≤ 32, ∀ (n : Fin 16) (l : Fin 1024), (st k).1 (ix2 n l) = blkS x2 x3 x6 x7 s0 n ⟨o + l.val, by omega⟩ (8 * k)
  | 0, _, n, l => by rw [h0]; rfl
  | k + 1, hk, n, l => by
    rw [hs k (by omega), next1_apply, loop_state k (by omega), blkS, blkS, show 8 * (k + 1) = 8 * k + 8 from rfl, chain_add]
    exact chain_congr (fun j hj => rowA_eq x2 x7 o ho a D ha hD k (by omega) n l j hj) (fun j hj => rowB_eq x3 x6 o ho st X hX ht0 ht k (by omega) n l j hj) rfl

include ha hD hX h0 ht0 hs ht in
/-- The rows trip `k` stores. -/
theorem loop_rows (k : ℕ) (hk : k < 32) (r : Fin 8) (l : Fin 1024) :
    out1 a (D k) (X k) (st k) (ix2 r l) = blkY x2 x3 x6 x7 s0 ⟨8 * k + r.val, by omega⟩ ⟨o + l.val, by omega⟩ := by
  rw [out1_apply, blkY]
  refine Finset.sum_congr rfl fun n _ => ?_
  refine congrArg₂ (· * ·) ?_ (loop_table x6 o st ht0 ht k hk ⟨16 + n.val, by omega⟩ r)
  rw [loop_state x2 x3 x6 x7 s0 o ho st a D X ha hD hX h0 ht0 hs ht k (by omega), blkS, blkS]
  rw [show (⟨8 * k + r.val, by omega⟩ : Fin 256).val + 1 = 8 * k + (r.val + 1) from by show 8 * k + r.val + 1 = _; omega, chain_add _ _ _ (8 * k) (r.val + 1)]
  exact chain_congr (fun j hj => rowA_eq x2 x7 o ho a D ha hD k (by omega) n l j (by omega)) (fun j hj => rowB_eq x3 x6 o ho st X hX ht0 ht k (by omega) n l j (by omega)) rfl
end loop

theorem rows1_apply (x : FVec Ideal S1x256x2048 .bf16) (k : ℕ) (hk : k < 32) (h : k < k0_t1_loop.trips) (j : Fin 8) (l : Fin 1024) :
    rows1 (F := Ideal) x ⟨k, h⟩ (ix3 0 j l) = x (ix3 0 ⟨8 * k + j.val, by omega⟩ ⟨0 + l.val, by omega⟩) := by
  refine View.ld_unit_apply_of _ _ _ _ _ _ fun b => ?_
  have e : k0_off1 ⟨k, h⟩ = ![0, 8 * k, 0] := (by decide +kernel : ∀ k : Fin k0_t1_loop.trips, k0_off1 k = ![0, 8 * k.val, 0]) ⟨k, h⟩
  refine Eq.trans ?_ (congrArg (· + _) (congrFun e b)).symm
  fin_cases b <;> rfl

theorem rows2_apply (x : FVec Ideal S1x256x2048 .bf16) (k : ℕ) (hk : k < 32) (h : k < k0_t2_loop.trips) (j : Fin 8) (l : Fin 1024) :
    rows2 (F := Ideal) x ⟨k, h⟩ (ix3 0 j l) = x (ix3 0 ⟨8 * k + j.val, by omega⟩ ⟨1024 + l.val, by omega⟩) := by
  refine View.ld_unit_apply_of _ _ _ _ _ _ fun b => ?_
  have e : k0_off3 ⟨k, h⟩ = ![0, 8 * k, 1024] := (by decide +kernel : ∀ k : Fin k0_t2_loop.trips, k0_off3 k = ![0, 8 * k.val, 1024]) ⟨k, h⟩
  refine Eq.trans ?_ (congrArg (· + _) (congrFun e b)).symm
  fin_cases b <;> rfl

theorem half1_apply (x : FVec Ideal S16x2048 .f32) (n : Fin 16) (l : Fin 1024) : half1 (F := Ideal) x (ix2 n l) = x (ix2 n ⟨0 + l.val, by omega⟩) := by
  refine View.ld_unit_apply_of _ _ _ _ _ _ fun b => ?_
  fin_cases b
  · exact (Nat.zero_add _).symm
  · rfl

theorem half2_apply (x : FVec Ideal S16x2048 .f32) (n : Fin 16) (l : Fin 1024) : half2 (F := Ideal) x (ix2 n l) = x (ix2 n ⟨1024 + l.val, by omega⟩) := by
  refine View.ld_unit_apply_of _ _ _ _ _ _ fun b => ?_
  fin_cases b
  · exact (Nat.zero_add _).symm
  · rfl

/-- The first loop's states. -/
abbrev seq1 (k : ℕ) := run1 (F := Ideal) x2 x3 x6 (half1 (F := Ideal) x7) (k0_pay65 (F := Ideal) (half1 s0), k0_pay63 (F := Ideal) x6) k
/-- The second loop's states. -/
abbrev seq2 (k : ℕ) := run2 (F := Ideal) x2 x3 x6 (half2 (F := Ideal) x7) (k0_pay71 (F := Ideal) (half2 s0), k0_pay63 (F := Ideal) x6) k

/-- The rows trip `k` loads, with no trip number to bound. -/
def D1 (x : FVec Ideal S1x256x2048 .bf16) (k : ℕ) : FVec Ideal S1x8x1024 .bf16 := if h : k < k0_t1_loop.trips then rows1 (F := Ideal) x ⟨k, h⟩ else fun _ => 0
def D2 (x : FVec Ideal S1x256x2048 .bf16) (k : ℕ) : FVec Ideal S1x8x1024 .bf16 := if h : k < k0_t2_loop.trips then rows2 (F := Ideal) x ⟨k, h⟩ else fun _ => 0

theorem D1_apply (x : FVec Ideal S1x256x2048 .bf16) (k : ℕ) (hk : k < 32) (j : Fin 8) (l : Fin 1024) :
    D1 x k (ix3 0 j l) = x (ix3 0 ⟨8 * k + j.val, by omega⟩ ⟨0 + l.val, by omega⟩) := by
  rw [D1, dif_pos (lt_of_lt_of_eq hk trips1.symm)]; exact rows1_apply x k hk _ j l
theorem D2_apply (x : FVec Ideal S1x256x2048 .bf16) (k : ℕ) (hk : k < 32) (j : Fin 8) (l : Fin 1024) :
    D2 x k (ix3 0 j l) = x (ix3 0 ⟨8 * k + j.val, by omega⟩ ⟨1024 + l.val, by omega⟩) := by
  rw [D2, dif_pos (lt_of_lt_of_eq hk trips2.symm)]; exact rows2_apply x k hk _ j l

theorem seq1_next (k : ℕ) (hk : k < 32) : (seq1 x2 x3 x6 x7 s0 (k + 1)).1.1 = next1 (F := Ideal) (half1 (F := Ideal) x7) (D1 x2 k) (D1 x3 k) (seq1 x2 x3 x6 x7 s0 k).1 := by
  rw [D1, D1, dif_pos (lt_of_lt_of_eq hk trips1.symm), dif_pos (lt_of_lt_of_eq hk trips1.symm)]
  simp only [seq1, run1, dif_pos (lt_of_lt_of_eq hk trips1.symm)]
theorem seq2_next (k : ℕ) (hk : k < 32) : (seq2 x2 x3 x6 x7 s0 (k + 1)).1.1 = next1 (F := Ideal) (half2 (F := Ideal) x7) (D2 x2 k) (D2 x3 k) (seq2 x2 x3 x6 x7 s0 k).1 := by
  rw [D2, D2, dif_pos (lt_of_lt_of_eq hk trips2.symm), dif_pos (lt_of_lt_of_eq hk trips2.symm)]
  simp only [seq2, run2, dif_pos (lt_of_lt_of_eq hk trips2.symm)]
  exact next2_eq (F := Ideal) _ _ _ _
theorem seq1_table (k : ℕ) (hk : k < 32) (q : Fin 32) (j : Fin 256) : (seq1 x2 x3 x6 x7 s0 (k + 1)).1.2 (ix2 q j) = x6 (ix3 0 q ⟨(j.val + 8 * (k + 1)) % 256, Nat.mod_lt _ (by decide)⟩) := by
  simp only [seq1, run1, dif_pos (lt_of_lt_of_eq hk trips1.symm)]
  exact pay4_apply x6 _ q j
theorem seq2_table (k : ℕ) (hk : k < 32) (q : Fin 32) (j : Fin 256) : (seq2 x2 x3 x6 x7 s0 (k + 1)).1.2 (ix2 q j) = x6 (ix3 0 q ⟨(j.val + 8 * (k + 1)) % 256, Nat.mod_lt _ (by decide)⟩) := by
  simp only [seq2, run2, dif_pos (lt_of_lt_of_eq hk trips2.symm)]
  exact pay4_apply x6 ⟨k, lt_of_lt_of_eq hk trips1.symm⟩ q j
theorem seq_zero (q : Fin 32) (j : Fin 256) : k0_pay63 (F := Ideal) x6 (ix2 q j) = x6 (ix3 0 q j) := by pointwise [k0_pay63]

theorem seq1_state (k : ℕ) (hk : k ≤ 32) (n : Fin 16) (l : Fin 1024) : (seq1 x2 x3 x6 x7 s0 k).1.1 (ix2 n l) = blkS x2 x3 x6 x7 s0 n ⟨0 + l.val, by omega⟩ (8 * k) :=
  loop_state x2 x3 x6 x7 s0 0 (by decide) (fun k => (seq1 x2 x3 x6 x7 s0 k).1) (half1 (F := Ideal) x7) (D1 x2) (D1 x3) (half1_apply x7) (D1_apply x2) (D1_apply x3)
    (fun n l => half1_apply s0 n l) (seq_zero x6) (seq1_next x2 x3 x6 x7 s0) (seq1_table x2 x3 x6 x7 s0) k hk n l
theorem seq2_state (k : ℕ) (hk : k ≤ 32) (n : Fin 16) (l : Fin 1024) : (seq2 x2 x3 x6 x7 s0 k).1.1 (ix2 n l) = blkS x2 x3 x6 x7 s0 n ⟨1024 + l.val, by omega⟩ (8 * k) :=
  loop_state x2 x3 x6 x7 s0 1024 (by decide) (fun k => (seq2 x2 x3 x6 x7 s0 k).1) (half2 (F := Ideal) x7) (D2 x2) (D2 x3) (half2_apply x7) (D2_apply x2) (D2_apply x3)
    (fun n l => half2_apply s0 n l) (seq_zero x6) (seq2_next x2 x3 x6 x7 s0) (seq2_table x2 x3 x6 x7 s0) k hk n l

/-- Every row the first loop stores is a row of `blkY`. -/
theorem seq1_pieces : ∀ k ≤ 32, ∀ p ∈ (seq1 x2 x3 x6 x7 s0 k).2, ∀ x : p.1.shape.Idx, p.2 x = (fun y : S256x2048.Idx => blkY x2 x3 x6 x7 s0 (y 0) (y 1)) (p.1.emb x)
  | 0, _, p, hp => by cases hp
  | k + 1, hk, p, hp => by
    have h := lt_of_lt_of_eq (by omega : k < 32) trips1.symm
    simp only [seq1, run1, dif_pos h] at hp
    rcases List.mem_cons.mp hp with rfl | hp
    · intro x
      have e := loop_rows x2 x3 x6 x7 s0 0 (by decide) (fun k => (seq1 x2 x3 x6 x7 s0 k).1) (half1 (F := Ideal) x7) (D1 x2) (D1 x3) (half1_apply x7) (D1_apply x2) (D1_apply x3)
        (fun n l => half1_apply s0 n l) (seq_zero x6) (seq1_next x2 x3 x6 x7 s0) (seq1_table x2 x3 x6 x7 s0) k (by omega) (x 0) (x 1)
      rw [← eq_ix2 x] at e
      simp only [D1, dif_pos h] at e
      refine e.trans (congrArg₂ (blkY x2 x3 x6 x7 s0) (Fin.ext ?_) (Fin.ext ?_))
      · exact ((ValueKit.rect_emb_unit_val (s := S256x2048) (k0_off2 ⟨k, h⟩) S8x1024.size (k0_off2_inb ⟨k, h⟩) x 0).trans (congrArg (· + (x 0).val) (congrFun (off2_eq ⟨k, h⟩) 0))).symm
      · exact ((ValueKit.rect_emb_unit_val (s := S256x2048) (k0_off2 ⟨k, h⟩) S8x1024.size (k0_off2_inb ⟨k, h⟩) x 1).trans (congrArg (· + (x 1).val) (congrFun (off2_eq ⟨k, h⟩) 1))).symm
    · exact seq1_pieces k (by omega) p hp

theorem seq2_pieces : ∀ k ≤ 32, ∀ p ∈ (seq2 x2 x3 x6 x7 s0 k).2, ∀ x : p.1.shape.Idx, p.2 x = (fun y : S256x2048.Idx => blkY x2 x3 x6 x7 s0 (y 0) (y 1)) (p.1.emb x)
  | 0, _, p, hp => by cases hp
  | k + 1, hk, p, hp => by
    have h := lt_of_lt_of_eq (by omega : k < 32) trips2.symm
    simp only [seq2, run2, dif_pos h] at hp
    rcases List.mem_cons.mp hp with rfl | hp
    · intro x
      have e := loop_rows x2 x3 x6 x7 s0 1024 (by decide) (fun k => (seq2 x2 x3 x6 x7 s0 k).1) (half2 (F := Ideal) x7) (D2 x2) (D2 x3) (half2_apply x7) (D2_apply x2) (D2_apply x3)
        (fun n l => half2_apply s0 n l) (seq_zero x6) (seq2_next x2 x3 x6 x7 s0) (seq2_table x2 x3 x6 x7 s0) k (by omega) (x 0) (x 1)
      rw [← eq_ix2 x] at e
      simp only [D2, dif_pos h] at e
      refine e.trans (congrArg₂ (blkY x2 x3 x6 x7 s0) (Fin.ext ?_) (Fin.ext ?_))
      · exact ((ValueKit.rect_emb_unit_val (s := S256x2048) (k0_off4 ⟨k, h⟩) S8x1024.size (k0_off4_inb ⟨k, h⟩) x 0).trans (congrArg (· + (x 0).val) (congrFun (off4_eq ⟨k, h⟩) 0))).symm
      · exact ((ValueKit.rect_emb_unit_val (s := S256x2048) (k0_off4 ⟨k, h⟩) S8x1024.size (k0_off4_inb ⟨k, h⟩) x 1).trans (congrArg (· + (x 1).val) (congrFun (off4_eq ⟨k, h⟩) 1))).symm
    · exact seq2_pieces k (by omega) p hp

/-- The 256 rows of results the two loops leave. -/
theorem yF_apply (r : Fin 256) (L : Fin 2048) : yF (F := Ideal) x2 x3 x6 x7 s0 (ix2 r L) = blkY x2 x3 x6 x7 s0 r L := by
  unfold yF
  refine View.canon_apply_of_pieces (Val := Elt Ideal) (e := .f32) (fun y : S256x2048.Idx => blkY x2 x3 x6 x7 s0 (y 0) (y 1)) ((fin2 (F := Ideal) x2 x3 x6 x7 s0).2 ++ (fin1 (F := Ideal) x2 x3 x6 x7 s0).2) ?_ (ix2 r L) (y_cover (F := Ideal) x2 x3 x6 x7 s0 (ix2 r L))
  intro p hp
  rcases List.mem_append.mp hp with hp | hp
  · exact seq2_pieces x2 x3 x6 x7 s0 32 le_rfl p hp
  · exact seq1_pieces x2 x3 x6 x7 s0 32 le_rfl p hp

theorem pay69_apply (v : FVec Ideal S16x1024 .bf16) (x : S16x1024.Idx) : k0_pay69 (F := Ideal) v x = v x := by
  pointwise [k0_pay69]
theorem pay75_apply (v : FVec Ideal S16x1024 .bf16) (x : S16x1024.Idx) : k0_pay75 (F := Ideal) v x = v x := by
  pointwise [k0_pay75]

/-- The state the two loops leave. -/
theorem stF_apply (n : Fin 16) (L : Fin 2048) : stF (F := Ideal) x2 x3 x6 x7 s0 (ix2 n L) = blkS x2 x3 x6 x7 s0 n L 256 := by
  unfold stF
  refine View.canon_apply_of_pieces (Val := Elt Ideal) (e := .f32) (fun y : S16x2048.Idx => blkS x2 x3 x6 x7 s0 (y 0) (y 1) 256) _ ?_ (ix2 n L) (st_cover (F := Ideal) _ _ (ix2 n L))
  intro p hp
  simp only [List.mem_cons, List.not_mem_nil, or_false] at hp
  rcases hp with rfl | rfl
  · intro x
    have e := seq2_state x2 x3 x6 x7 s0 32 le_rfl (x 0) (x 1)
    rw [← eq_ix2 x] at e
    refine (pay75_apply _ x).trans (e.trans ?_)
    refine congrArg₂ (fun a b => blkS x2 x3 x6 x7 s0 a b 256) (Fin.ext ?_) (Fin.ext ?_)
    · exact ((ValueKit.rect_emb_unit_val (s := S16x2048) ![0, 1024] S16x1024.size inb_S16x2048_S16x1024_0_1024 x 0).trans (Nat.zero_add (x 0).val)).symm
    · exact (ValueKit.rect_emb_unit_val (s := S16x2048) ![0, 1024] S16x1024.size inb_S16x2048_S16x1024_0_1024 x 1).symm
  · intro x
    have e := seq1_state x2 x3 x6 x7 s0 32 le_rfl (x 0) (x 1)
    rw [← eq_ix2 x] at e
    refine (pay69_apply _ x).trans (e.trans ?_)
    refine congrArg₂ (fun a b => blkS x2 x3 x6 x7 s0 a b 256) (Fin.ext ?_) (Fin.ext ?_)
    · exact ((ValueKit.rect_emb_unit_val (s := S16x2048) ![0, 0] S16x1024.size inb_S16x2048_S16x1024_0_0 x 0).trans (Nat.zero_add (x 0).val)).symm
    · exact (ValueKit.rect_emb_unit_val (s := S16x2048) ![0, 0] S16x1024.size inb_S16x2048_S16x1024_0_0 x 1).symm

/-- The output block, from the block's contents and the carried state. -/
theorem outF_apply (x4 x5 : FVec Ideal S1x256x2048 .bf16) (x8 : FVec Ideal S2048x1024 .bf16) (x9 : FVec Ideal S1x256x1024 .f32) (r : Fin 256) (q : Fin 1024) :
    outF (F := Ideal) x2 x3 x4 x5 x6 x7 x8 x9 s0 (ix3 0 r q) = (∑ L : Fin 2048, (blkY x2 x3 x6 x7 s0 r L * x4 (ix3 0 r L) + x5 (ix3 0 r L)) * x8 (ix2 L q)) + x9 (ix3 0 r q) := by
  pointwise [outF, k0_pay1]
  simp only [yF_apply]

end Cert.ScanIdeal.Body
-- ==== Proof.ScanIdealFrame.lean ====
module

public import proofs.«01_k».proof.Proof.ScanIdealTriple
public import Idealize.ShloMosaic.Lib.Claim
public import Idealize.ShloMosaic.Lib.WordCmp

@[expose] public section

set_option maxRecDepth 16384

noncomputable section

namespace Cert.ScanIdeal.Body

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The points that start a batch row. -/
theorem hcond0 : ∀ t : Fin cfg0.N, cond0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0, e0, e1]
    word_cmp
   : ∀ t : Fin grid0.N, cond0 (grid0.coords t) ↔ t.val % 4 = 0)

/-- The two scratch buffers: the rows of results, and the carried state. -/
abbrev scM0 : Memref sig .tc .vmem S256x2048 .f32 := Memref.whole cc0_scratch0
abbrev scM1 : Memref sig .tc .vmem S16x2048 .f32 := Memref.whole cc0_scratch1

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The state the carried scratch holds after point `n`. -/
def stAt (c : Dev nD) : (n : ℕ) → n < cfg0.N → Vec F S16x2048 .f32
  | 0, hn => stF (iblk m c 0 ⟨0, hn⟩) (iblk m c 1 ⟨0, hn⟩) (iblk m c 4 ⟨0, hn⟩) (iblk m c 5 ⟨0, hn⟩) (k0_pay62 (F := F))
  | n + 1, hn => stF (iblk m c 0 ⟨n + 1, hn⟩) (iblk m c 1 ⟨n + 1, hn⟩) (iblk m c 4 ⟨n + 1, hn⟩) (iblk m c 5 ⟨n + 1, hn⟩)
      (if (n + 1) % 4 = 0 then (k0_pay62 (F := F)) else stAt c n (Nat.lt_of_succ_lt hn))

/-- The state the two loops of point `t` start from. -/
def stIn (c : Dev nD) (t : Fin cfg0.N) : Vec F S16x2048 .f32 :=
  if t.val % 4 = 0 then (k0_pay62 (F := F)) else stAt m c (t.val - 1) (Nat.lt_of_le_of_lt (Nat.sub_le _ _) t.isLt)

theorem stAt_eq (c : Dev nD) (t : Fin cfg0.N) :
    stAt m c t.val t.isLt = stF (iblk m c 0 t) (iblk m c 1 t) (iblk m c 4 t) (iblk m c 5 t) (stIn m c t) := by
  obtain ⟨n, hn⟩ := t
  cases n with
  | zero => exact rfl
  | succ n => exact rfl

theorem stIn_A (c : Dev nD) (t : Fin cfg0.N) (h : t.val % 4 = 0) : stIn m c t = (k0_pay62 (F := F)) := if_pos h
theorem stIn_B (c : Dev nD) (t : Fin cfg0.N) (h : ¬ t.val % 4 = 0) : stIn m c t = stAt m c (t.val - 1) (Nat.lt_of_le_of_lt (Nat.sub_le _ _) t.isLt) := if_neg h

/-- The output block point `t` leaves. -/
def outAt (c : Dev nD) (t : Fin cfg0.N) : Vec F S1x256x1024 .f32 :=
  outF (iblk m c 0 t) (iblk m c 1 t) (iblk m c 2 t) (iblk m c 3 t) (iblk m c 4 t) (iblk m c 5 t) (iblk m c 6 t) (iblk m c 7 t) (stIn m c t)

/-- The invariant before position `n`: the scratch at anything before the first point, and afterwards the carried
    state at what the point before left. -/
def PhiS (c : Dev nD) : (n : ℕ) → n ≤ cfg0.N → sProp 𝕄
  | 0, _ => Pipeline.ΦA spec0 c
  | n + 1, hn => iprop(iprop((∃ d, owns (c : Thread nD τ) scM0 fullShare d) ∗ owns (c : Thread nD τ) scM1 fullShare (stAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0 fullShare d) ∗ owns (c : Thread nD τ) scM1 fullShare (stAt m c n hn)) ∗ (∃ r, prngReg c r)) := rfl

theorem PhiS_pos (c : Dev nD) (n : ℕ) (h : n ≤ cfg0.N) (hz : n ≠ 0) :
    PhiS m c n h = iprop(iprop((∃ d, owns (c : Thread nD τ) scM0 fullShare d) ∗ owns (c : Thread nD τ) scM1 fullShare (stAt m c (n - 1) (by omega))) ∗ (∃ r, prngReg c r)) := by
  cases n with
  | zero => exact absurd rfl hz
  | succ n => rfl

/-- The proof data of the pipeline: every input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 3200000 in
/-- The body at any point, by the two cases of its branch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ, stAt_eq]
  unfold outAt
  have hN : t.val < 16 := lt_of_lt_of_eq t.isLt (show cfg0.N = 16 from N_0)
  by_cases h0 : t.val % 4 = 0
  · rw [stIn_A m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      icases HS1 with ⟨%s0, HS1⟩
      iapply (tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [stIn_B m c t h0]
    by_cases hz : t.val = 0
    · exfalso; omega
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]; · iexact HS0
    iexists _; iexact HS1
  iexact Hg

set_option backward.isDefEq.respectTransparency.types false in
/-- The launch: the run ends with every window's array at what the proof data says, and all semaphore counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.ScanIdeal.Body

end
-- ==== Proof.ScanIdealBlocks.lean ====
module

public import proofs.«01_k».proof.Proof.ScanIdealLoops
public import proofs.«01_k».proof.Proof.ScanIdealFrame
public import Idealize.ShloMosaic.Lib.Pipeline.ValueKit

@[expose] public section

set_option maxRecDepth 16384

noncomputable section

namespace Cert.ScanIdeal.Body

open Cert.ScanIdeal Cert.ScanIdeal.Gen
open Idealize.ShloMosaic Idealize.ShloMosaic.TcCoe Idealize.SL.Sem
open Idealize.ShloMosaic.Pipeline (Dat)

variable (m : (ℓ : Loc nD τ sig) → Buf (Elt Ideal) ℓ)

/-- The block index of every window at grid point `t`: batch row `t / 4`, block `t % 4` of the sequence. -/
theorem idx : ∀ t : Fin cfg0.N,
    win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, 0, t.val % 4] ∧ win0_5.index t = ![0, 0] ∧ win0_6.index t = ![0, 0]
    ∧ win0_7.index t = ![t.val / 4, t.val % 4, 0] ∧ win0_8.index t = ![0, 0] ∧ win0_9.index t = ![t.val / 4, t.val % 4, 0] :=
  (by decide +kernel : ∀ t : Fin grid0.N, _)

theorem lt16 (t : Fin cfg0.N) : t.val < 16 := lt_of_lt_of_eq t.isLt (show cfg0.N = 16 from N_0)

/-- The batch row of grid point `t`. -/
abbrev bOf (t : Fin cfg0.N) : Fin 4 := ⟨t.val / 4, by have := lt16 t; omega⟩
/-- Row `j` of grid point `t`'s block in the sequence. -/
abbrev tOf (t : Fin cfg0.N) (j : Fin 256) : Fin 1024 := ⟨256 * (t.val % 4) + j.val, by omega⟩

/-! ## What each window's block is of its array -/

theorem iblk0_apply (c : Dev nD) (t : Fin cfg0.N) (j : Fin 256) (L : Fin 2048) : iblk m c 0 t (ix3 0 j L) = V m c main_arg1 (ix3 (bOf t) (tOf t j) L) := by
  blk_point [iblk, idx t]
theorem iblk1_apply (c : Dev nD) (t : Fin cfg0.N) (j : Fin 256) (L : Fin 2048) : iblk m c 1 t (ix3 0 j L) = V m c main_arg2 (ix3 (bOf t) (tOf t j) L) := by
  blk_point [iblk, idx t]
theorem iblk2_apply (c : Dev nD) (t : Fin cfg0.N) (j : Fin 256) (L : Fin 2048) : iblk m c 2 t (ix3 0 j L) = V m c main_arg3 (ix3 (bOf t) (tOf t j) L) := by
  blk_point [iblk, idx t]
theorem iblk3_apply (c : Dev nD) (t : Fin cfg0.N) (j : Fin 256) (L : Fin 2048) : iblk m c 3 t (ix3 0 j L) = V m c main_arg4 (ix3 (bOf t) (tOf t j) L) := by
  blk_point [iblk, idx t]
theorem iblk4_apply (c : Dev nD) (t : Fin cfg0.N) (q : Fin 32) (j : Fin 256) : iblk m c 4 t (ix3 0 q j) = V m c main_arg5 (ix3 (bOf t) q (tOf t j)) := by
  blk_point [iblk, idx t]
theorem iblk5_apply (c : Dev nD) (t : Fin cfg0.N) (n : Fin 16) (L : Fin 2048) : iblk m c 5 t (ix2 n L) = V m c main_v2 (ix2 n L) := by
  blk_point [iblk, idx t]
theorem iblk6_apply (c : Dev nD) (t : Fin cfg0.N) (L : Fin 2048) (q : Fin 1024) : iblk m c 6 t (ix2 L q) = V m c main_v4 (ix2 L q) := by
  blk_point [iblk, idx t]
theorem iblk7_apply (c : Dev nD) (t : Fin cfg0.N) (j : Fin 256) (q : Fin 1024) : iblk m c 7 t (ix3 0 j q) = V m c main_arg0 (ix3 (bOf t) (tOf t j) q) := by
  blk_point [iblk, idx t]

/-! ## The recurrence over the whole sequence -/

section seq
variable (X1 X2 X3 X4 : FVec Ideal S4x1024x2048 .bf16) (X5 : FVec Ideal S4x32x1024 .f32) (T : FVec Ideal S16x2048 .f32)
  (W : FVec Ideal S2048x1024 .bf16) (H : FVec Ideal S4x1024x1024 .f32)

/-- The decays of batch row `b`, state index `n`, channel `L` along the sequence. -/
def gA (b : Fin 4) (n : Fin 16) (L : Fin 2048) : ℕ → EReal := ext fun t : Fin 1024 => Ideal.exp2 (X1 (ix3 b t L) * (negLog2e * T (ix2 n L)))
/-- What each position adds to the state. -/
def gB (b : Fin 4) (n : Fin 16) (L : Fin 2048) : ℕ → EReal := ext fun t : Fin 1024 => X2 (ix3 b t L) * X5 (ix3 b ⟨n.val, by omega⟩ t)
/-- The state after `t` positions. -/
def gS (b : Fin 4) (n : Fin 16) (L : Fin 2048) (t : ℕ) : EReal := chain (gA X1 T b n L) (gB X2 X5 b n L) 0 t
/-- The result of the recurrence at position `t`. -/
def gY (b : Fin 4) (t : Fin 1024) (L : Fin 2048) : EReal := ∑ n : Fin 16, gS X1 X2 X5 T b n L (t.val + 1) * X5 (ix3 b ⟨16 + n.val, by omega⟩ t)
/-- The kernel's result array. -/
def gOut : FVec Ideal S4x1024x1024 .f32 := fun i =>
  (∑ L : Fin 2048, (gY X1 X2 X5 T (i 0) (i 1) L * X3 (ix3 (i 0) (i 1) L) + X4 (ix3 (i 0) (i 1) L)) * W (ix2 L (i 2))) + H i
end seq

/-! ## The carried state and the output at every grid point -/

/-- The recurrence from the state before a grid point's block is the recurrence from the start of the sequence. -/
theorem blkS_eq (c : Dev nD) (t : Fin cfg0.N) (s : FVec Ideal S16x2048 .f32) (n : Fin 16) (L : Fin 2048)
    (hs : s (ix2 n L) = gS (V m c main_arg1) (V m c main_arg2) (V m c main_arg5) (V m c main_v2) (bOf t) n L (256 * (t.val % 4))) (j : ℕ) (hj : j ≤ 256) :
    blkS (iblk m c 0 t) (iblk m c 1 t) (iblk m c 4 t) (iblk m c 5 t) s n L j
      = gS (V m c main_arg1) (V m c main_arg2) (V m c main_arg5) (V m c main_v2) (bOf t) n L (256 * (t.val % 4) + j) := by
  rw [blkS, gS, chain_add _ _ _ (256 * (t.val % 4)) j]
  refine chain_congr (fun i hi => ?_) (fun i hi => ?_) hs
  · rw [blkA, gA, ext_lt _ (by omega : i < 256), ext_lt _ (by omega : 256 * (t.val % 4) + i < 1024), iblk0_apply, iblk5_apply]
  · rw [blkB, gB, ext_lt _ (by omega : i < 256), ext_lt _ (by omega : 256 * (t.val % 4) + i < 1024), iblk1_apply, iblk4_apply]

theorem pay62_apply (n : Fin 16) (L : Fin 2048) : k0_pay62 (F := Ideal) (ix2 n L) = 0 := by
  pointwise [k0_pay62]

theorem stIn_of (c : Dev nD) (t : Fin cfg0.N) (n : Fin 16) (L : Fin 2048)
    (h : ∀ (ht : ¬ t.val % 4 = 0), stAt m c (t.val - 1) (Nat.lt_of_le_of_lt (Nat.sub_le _ _) t.isLt) (ix2 n L)
      = gS (V m c main_arg1) (V m c main_arg2) (V m c main_arg5) (V m c main_v2) ⟨(t.val - 1) / 4, by have := lt16 t; omega⟩ n L (256 * ((t.val - 1) % 4) + 256)) :
    stIn m c t (ix2 n L) = gS (V m c main_arg1) (V m c main_arg2) (V m c main_arg5) (V m c main_v2) (bOf t) n L (256 * (t.val % 4)) := by
  by_cases h0 : t.val % 4 = 0
  · rw [stIn_A m c t h0, pay62_apply, h0]; rfl
  · rw [stIn_B m c t h0, h h0]
    exact congrArg₂ (fun b k => gS (V m c main_arg1) (V m c main_arg2) (V m c main_arg5) (V m c main_v2) b n L k) (Fin.ext (by show (t.val - 1) / 4 = t.val / 4; omega)) (by omega)

/-- The state the carried scratch holds after a grid point is the recurrence's. -/
theorem stAt_apply (c : Dev nD) : ∀ (k : ℕ) (hk : k < cfg0.N) (n : Fin 16) (L : Fin 2048),
    stAt m c k hk (ix2 n L) = gS (V m c main_arg1) (V m c main_arg2) (V m c main_arg5) (V m c main_v2) ⟨k / 4, by have := lt16 ⟨k, hk⟩; simp only at this; omega⟩ n L (256 * (k % 4) + 256) := by
  intro k
  induction k with
  | zero =>
    intro hk n L
    rw [stAt_eq m c ⟨0, hk⟩, stF_apply]
    exact blkS_eq m c ⟨0, hk⟩ _ n L (stIn_of m c ⟨0, hk⟩ n L (fun h => absurd rfl h)) 256 le_rfl
  | succ k ih =>
    intro hk n L
    rw [stAt_eq m c ⟨k + 1, hk⟩, stF_apply]
    exact blkS_eq m c ⟨k + 1, hk⟩ _ n L (stIn_of m c ⟨k + 1, hk⟩ n L (fun h => ih (by omega) n L)) 256 le_rfl

theorem stIn_apply (c : Dev nD) (t : Fin cfg0.N) (n : Fin 16) (L : Fin 2048) :
    stIn m c t (ix2 n L) = gS (V m c main_arg1) (V m c main_arg2) (V m c main_arg5) (V m c main_v2) (bOf t) n L (256 * (t.val % 4)) :=
  stIn_of m c t n L fun _ => stAt_apply m c (t.val - 1) _ n L

/-- Row `r` of a grid point's results is the recurrence's at its place in the sequence. -/
theorem blkY_eq (c : Dev nD) (t : Fin cfg0.N) (r : Fin 256) (L : Fin 2048) :
    blkY (iblk m c 0 t) (iblk m c 1 t) (iblk m c 4 t) (iblk m c 5 t) (stIn m c t) r L
      = gY (V m c main_arg1) (V m c main_arg2) (V m c main_arg5) (V m c main_v2) (bOf t) (tOf t r) L := by
  rw [blkY, gY]
  refine Finset.sum_congr rfl fun n _ => ?_
  rw [blkS_eq m c t _ n L (stIn_apply m c t n L) (r.val + 1) (by omega), iblk4_apply]
  rfl

theorem outAt_apply (c : Dev nD) (t : Fin cfg0.N) (r : Fin 256) (q : Fin 1024) :
    outAt m c t (ix3 0 r q) = gOut (V m c main_arg1) (V m c main_arg2) (V m c main_arg3) (V m c main_arg4) (V m c main_arg5) (V m c main_v2) (V m c main_v4) (V m c main_arg0) (ix3 (bOf t) (tOf t r) q) := by
  rw [outAt, outF_apply, gOut, iblk7_apply]
  refine congrArg₂ (· + ·) (Finset.sum_congr rfl fun L _ => ?_) rfl
  rw [blkY_eq, iblk2_apply, iblk3_apply, iblk6_apply]
  rfl

/-- The result array after the run. -/
theorem final (c : Dev nD) : (dats m 0 c).arrAt 9 (cfgs 0).N
    = gOut (V m c main_arg1) (V m c main_arg2) (V m c main_arg3) (V m c main_arg4) (V m c main_arg5) (V m c main_v2) (V m c main_v4) (V m c main_arg0) := by
  refine (dats m 0 c).arrAt_eq_of_covers 9 _ (by decide +kernel) fun t _ y => ?_
  blk_simp
  rw [after0_9]
  idx_vars y
  obtain rfl : y0 = 0 := Subsingleton.elim _ _
  refine (outAt_apply m c t y1 y2).trans (congrArg _ ?_)
  blk_ext [idx t]

theorem V_main_v2 (c : Dev nD) (n : Fin 16) (L : Fin 2048) :
    (V m c main_v2 : FVec Ideal S16x2048 .f32) (ix2 n L) = Ideal.exp ((m ((c : Thread nD τ).loc main_arg6) : FVec Ideal S2048x16 .f32) (ix2 L n)) := by
  have h : V m c main_v2 = (transpose S16x2048 [1, 0] (Host.exp (F := Ideal) (s := S2048x16) (φ := .f32) (m ((c : Thread nD τ).loc main_arg6))) transposes_S2048x16_S16x2048_1_0 : FVec Ideal S16x2048 .f32) := by
    unfold V; after_results
  rw [h]
  pointwise []

theorem V_main_v4 (c : Dev nD) (L : Fin 2048) (q : Fin 1024) :
    (V m c main_v4 : FVec Ideal S2048x1024 .bf16) (ix2 L q) = (m ((c : Thread nD τ).loc main_arg7) : FVec Ideal S1024x2048 .f32) (ix2 q L) := by
  have h : V m c main_v4 = (truncf (F := Ideal) (s := S2048x1024) (φ := .f32) FTy.bf16 (transpose S2048x1024 [1, 0] (m ((c : Thread nD τ).loc main_arg7) : FVec Ideal S1024x2048 .f32) transposes_S1024x2048_S2048x1024_1_0) bitsLt_bf16_f32 : FVec Ideal S2048x1024 .bf16) := by
    unfold V; after_results
  rw [h]
  pointwise []

end Cert.ScanIdeal.Body
-- ==== Proof.ScanRef.lean ====
module

public import proofs.«01_k».proof.Proof.ScanIdealBlocks
public import proofs.«01_k».proof.Proof.Gen.ScanReferenceIdeal.Run
public import Idealize.ShloMosaic.Lib.Pointwise

@[expose] public section

set_option maxRecDepth 16384

noncomputable section

namespace Cert.ScanReferenceIdeal.Loop

open Cert.ScanReferenceIdeal Cert.ScanReferenceIdeal.Gen Cert.ScanReferenceIdeal.Value
open Idealize.ShloMosaic Idealize.ShloMosaic.TcCoe Idealize.ShloMosaic.StableHlo
open Idealize.SL Idealize.SL.Sem

/-- The contents of the loop's carried arrays, by name. -/
abbrev dtOf (V0 : Valuation τ sig (Elt Ideal)) : FVec Ideal S1024x4x2048 .f32 := V0 (Proc.devRef .tc main_v14_0)
abbrev bOf (V0 : Valuation τ sig (Elt Ideal)) : FVec Ideal S1024x4x16 .f32 := V0 (Proc.devRef .tc main_v14_1)
abbrev cOf (V0 : Valuation τ sig (Elt Ideal)) : FVec Ideal S1024x4x16 .f32 := V0 (Proc.devRef .tc main_v14_2)
abbrev xOf (V0 : Valuation τ sig (Elt Ideal)) : FVec Ideal S1024x4x2048 .f32 := V0 (Proc.devRef .tc main_v14_3)
abbrev aOf (V0 : Valuation τ sig (Elt Ideal)) : FVec Ideal S2048x16 .f32 := V0 (Proc.devRef .tc main_v14_4)
abbrev sOf (V0 : Valuation τ sig (Elt Ideal)) : FVec Ideal S4x2048x16 .f32 := V0 (Proc.devRef .tc main_v14_6)
abbrev yOf (V0 : Valuation τ sig (Elt Ideal)) : FVec Ideal S1024x4x2048 .f32 := V0 (Proc.devRef .tc main_v14_7)

/-- The trip counter, read as a signed integer, is the trip's number. -/
theorem iv_toInt : ∀ k : Fin 1024, (Scf.iv 0#32 1#32 k.val).toInt = (k.val : Int) := by decide +kernel

/-- One trip's state of the carried arrays, the slices' start given. -/
def stepS (D X : FVec Ideal S1024x4x2048 .f32) (B : FVec Ideal S1024x4x16 .f32) (A : FVec Ideal S2048x16 .f32) (S : FVec Ideal S4x2048x16 .f32) (st : Fin 3 → Int) : FVec Ideal S4x2048x16 .f32 :=
  addf (mulf (Host.exp (mulf (broadcastInDim S4x2048x16 ![0, 1, 2] bcast_S4x2048x1_S4x2048x16_0_1_2 (broadcastInDim S4x2048x1 ![0, 1] bcast_S4x2048_S4x2048x1_0_1 (shapeCast S4x2048 (Host.dynamicSlice S1x4x2048 D st sliceFits_S1024x4x2048_S1x4x2048) shapeCasts_S1x4x2048_S4x2048))) (broadcastInDim S4x2048x16 ![0, 1, 2] bcast_S1x2048x16_S4x2048x16_0_1_2 (broadcastInDim S1x2048x16 ![1, 2] bcast_S2048x16_S1x2048x16_1_2 A)))) S) (mulf (broadcastInDim S4x2048x16 ![0, 1, 2] bcast_S4x2048x1_S4x2048x16_0_1_2 (broadcastInDim S4x2048x1 ![0, 1] bcast_S4x2048_S4x2048x1_0_1 (shapeCast S4x2048 (Host.dynamicSlice S1x4x2048 X st sliceFits_S1024x4x2048_S1x4x2048) shapeCasts_S1x4x2048_S4x2048))) (broadcastInDim S4x2048x16 ![0, 1, 2] bcast_S4x1x16_S4x2048x16_0_1_2 (broadcastInDim S4x1x16 ![0, 2] bcast_S4x16_S4x1x16_0_2 (shapeCast S4x16 (Host.dynamicSlice S1x4x16 B st sliceFits_S1024x4x16_S1x4x16) shapeCasts_S1x4x16_S4x16))))

/-- One trip's rows of results, written at the slices' start. -/
def stepY (Y : FVec Ideal S1024x4x2048 .f32) (S : FVec Ideal S4x2048x16 .f32) (C : FVec Ideal S1024x4x16 .f32) (st : Fin 3 → Int) : FVec Ideal S1024x4x2048 .f32 :=
  Host.dynamicUpdateSlice Y (broadcastInDim S1x4x2048 ![1, 2] bcast_S4x2048_S1x4x2048_1_2 (Host.reduceAdd (mulf S (broadcastInDim S4x2048x16 ![0, 1, 2] bcast_S4x1x16_S4x2048x16_0_1_2 (broadcastInDim S4x1x16 ![0, 2] bcast_S4x16_S4x1x16_0_2 (shapeCast S4x16 (Host.dynamicSlice S1x4x16 C st sliceFits_S1024x4x16_S1x4x16) shapeCasts_S1x4x16_S4x16)))) (constant S_ .f32 0x00000000#32) reducesTo_S4x2048x16_S4x2048_d2 h_S_)) st updateFits_S1024x4x2048_S1x4x2048

/-- Trip `k`'s start: row `k`, the rest whole. -/
def st (k : Fin 1024) : Fin 3 → Int := ![(k.val : Int), 0, 0]

theorem st_eq (k : Fin 1024) : (fun a : Fin 3 => (((![fun _ => Scf.iv 0#32 1#32 k.val, constantI S_ 32 0#32, constantI S_ 32 0#32] : Fin 3 → (⟨S_, .i32⟩ : BufTy).Contents (Elt Ideal))) a (Shape.Idx.first h_S_)).toInt) = st k := by
  funext a
  fin_cases a
  · exact iv_toInt k
  · rfl
  · rfl

theorem min_start (k : Fin 1024) : (min (max (k.val : Int) 0) ((1024 - 1 : Nat) : Int)).toNat = k.val := by
  have := k.isLt; omega

/-- The slice of row `k` of a `dt`-like array. -/
theorem sliceD (D : FVec Ideal S1024x4x2048 .f32) (k : Fin 1024) :
    Host.dynamicSlice S1x4x2048 D (st k) sliceFits_S1024x4x2048_S1x4x2048 = fun y => D (ix3 k (y 1) (y 2)) := by
  funext y
  refine congrArg D (funext fun a => Fin.ext ?_)
  have h0 : (y 0).val = 0 := by have := (y 0).isLt; exact Nat.lt_one_iff.mp this
  fin_cases a
  · show (min (max (k.val : Int) 0) ((1024 - 1 : Nat) : Int)).toNat + (y 0).val = k.val
    rw [min_start, h0, Nat.add_zero]
  · exact Nat.zero_add _
  · exact Nat.zero_add _

/-- The slice of row `k` of a `B`-like array. -/
theorem sliceB (D : FVec Ideal S1024x4x16 .f32) (k : Fin 1024) :
    Host.dynamicSlice S1x4x16 D (st k) sliceFits_S1024x4x16_S1x4x16 = fun y => D (ix3 k (y 1) (y 2)) := by
  funext y
  refine congrArg D (funext fun a => Fin.ext ?_)
  have h0 : (y 0).val = 0 := by have := (y 0).isLt; exact Nat.lt_one_iff.mp this
  fin_cases a
  · show (min (max (k.val : Int) 0) ((1024 - 1 : Nat) : Int)).toNat + (y 0).val = k.val
    rw [min_start, h0, Nat.add_zero]
  · exact Nat.zero_add _
  · exact Nat.zero_add _

/-- One trip's new state at coordinates. -/
theorem stepS_apply (D X : FVec Ideal S1024x4x2048 .f32) (B : FVec Ideal S1024x4x16 .f32) (A : FVec Ideal S2048x16 .f32) (S : FVec Ideal S4x2048x16 .f32) (k : Fin 1024) (b : Fin 4) (L : Fin 2048) (n : Fin 16) :
    stepS D X B A S (st k) (ix3 b L n) = Ideal.exp (D (ix3 k b L) * A (ix2 L n)) * S (ix3 b L n) + X (ix3 k b L) * B (ix3 k b n) := by
  unfold stepS
  rw [sliceD, sliceD, sliceB]
  pointwise []

/-- One trip's new rows at coordinates. -/
theorem stepY_apply (Y : FVec Ideal S1024x4x2048 .f32) (S : FVec Ideal S4x2048x16 .f32) (C : FVec Ideal S1024x4x16 .f32) (k : Fin 1024) (t : Fin 1024) (b : Fin 4) (L : Fin 2048) :
    stepY Y S C (st k) (ix3 t b L) = if t = k then ∑ n : Fin 16, S (ix3 b L n) * C (ix3 k b n) else Y (ix3 t b L) := by
  unfold stepY
  rw [sliceB]
  have e0 : Host.clampedStart S1024x4x2048 S1x4x2048 updateFits_S1024x4x2048_S1x4x2048.1 (st k) 0 = k.val := min_start k
  have e1 : Host.clampedStart S1024x4x2048 S1x4x2048 updateFits_S1024x4x2048_S1x4x2048.1 (st k) 1 = 0 := rfl
  have e2 : Host.clampedStart S1024x4x2048 S1x4x2048 updateFits_S1024x4x2048_S1x4x2048.1 (st k) 2 = 0 := rfl
  by_cases h : t = k
  · subst h
    rw [if_pos rfl]
    pointwise []
    rw [dif_pos ⟨⟨e0.le, by rw [e0]; omega⟩, by rw [e1]; omega, by rw [e2]; omega⟩]
    rfl
  · rw [if_neg h]
    have h' : t.val ≠ k.val := fun e => h (Fin.ext e)
    pointwise []
    rw [dif_neg]
    rintro ⟨⟨ha, hb⟩, -⟩
    rw [e0] at ha hb
    omega

/-! ## The loop's arrays before trip `k` -/

variable (m : (ℓ : Loc nD τ sig) → Buf (Elt Ideal) ℓ) (c : Dev nD)

/-- A buffer no operation of the loop writes is as at the loop's entry before every trip. -/
theorem atK_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc,
      atK_keep r hc h0 h1 h2 h3 h4 h5 h6 k]
    rfl

/-- The scanned arrays and the matrix `A` are the same before every trip. -/
theorem dt_keep (k : ℕ) : dtOf (atK m k c) = dtOf (entryContents preI m c) := atK_keep m c main_v14_0 (by decide) (by decide) (by decide) (by decide) (by decide) (by decide) (by decide) (by decide) k
theorem b_keep (k : ℕ) : bOf (atK m k c) = bOf (entryContents preI m c) := atK_keep m c main_v14_1 (by decide) (by decide) (by decide) (by decide) (by decide) (by decide) (by decide) (by decide) k
theorem c_keep (k : ℕ) : cOf (atK m k c) = cOf (entryContents preI m c) := atK_keep m c main_v14_2 (by decide) (by decide) (by decide) (by decide) (by decide) (by decide) (by decide) (by decide) k
theorem x_keep (k : ℕ) : xOf (atK m k c) = xOf (entryContents preI m c) := atK_keep m c main_v14_3 (by decide) (by decide) (by decide) (by decide) (by decide) (by decide) (by decide) (by decide) k
theorem a_keep (k : ℕ) : aOf (atK m k c) = aOf (entryContents preI m c) := atK_keep m c main_v14_4 (by decide) (by decide) (by decide) (by decide) (by decide) (by decide) (by decide) (by decide) k

theorem new_state (k : Fin 1024) : (res_main_while0b_v37 (atK m k.val c) : FVec Ideal S4x2048x16 .f32)
    = stepS (dtOf (atK m k.val c)) (xOf (atK m k.val c)) (bOf (atK m k.val c)) (aOf (atK m k.val c)) (sOf (atK m k.val c)) (st k) := by
  unfold res_main_while0b_v37
  rw [atK_ctr m c k.val, ← st_eq k]
  rfl

theorem state_succ (k : Fin 1024) : sOf (atK m (k.val + 1) c)
    = stepS (dtOf (atK m k.val c)) (xOf (atK m k.val c)) (bOf (atK m k.val c)) (aOf (atK m k.val c)) (sOf (atK m k.val c)) (st k) := by
  rw [← new_state]
  exact (trip_agree (atK m k.val c) main_v14_6 (by decide)).trans (STEP_main_v14_6 _)

theorem rows_succ (k : Fin 1024) : yOf (atK m (k.val + 1) c)
    = stepY (yOf (atK m k.val c)) (sOf (atK m (k.val + 1) c)) (cOf (atK m k.val c)) (st k) := by
  rw [state_succ, ← new_state]
  refine (trip_agree (atK m k.val c) main_v14_7 (by decide)).trans ((STEP_main_v14_7 _).trans ?_)
  unfold step_main_v14_7
  rw [atK_ctr m c k.val, ← st_eq k]
  rfl

open Cert.ScanIdeal.Body (chain ext ext_lt chain_congr)

/-- The reference's decays and what it adds, along the sequence. -/
def rA (b : Fin 4) (L : Fin 2048) (n : Fin 16) : ℕ → EReal := ext fun t : Fin 1024 => Ideal.exp (dtOf (entryContents preI m c) (ix3 t b L) * aOf (entryContents preI m c) (ix2 L n))
def rB (b : Fin 4) (L : Fin 2048) (n : Fin 16) : ℕ → EReal := ext fun t : Fin 1024 => xOf (entryContents preI m c) (ix3 t b L) * bOf (entryContents preI m c) (ix3 t b n)

theorem state_at (b : Fin 4) (L : Fin 2048) (n : Fin 16) (k : ℕ) (hk : k ≤ 1024) : sOf (atK m k c) (ix3 b L n)
    = chain (rA m c b L n) (rB m c b L n) (sOf (entryContents preI m c) (ix3 b L n)) k := by
  induction k with
  | zero => rfl
  | succ k ih =>
    have h := state_succ m c ⟨k, by omega⟩
    rw [show sOf (atK m (k + 1) c) = _ from h, stepS_apply]
    rw [dt_keep, x_keep, b_keep, a_keep]
    show _ = rA m c b L n k * chain (rA m c b L n) (rB m c b L n) _ k + rB m c b L n k
    rw [← ih (by omega), rA, rB, ext_lt _ (show k < 1024 by omega), ext_lt _ (show k < 1024 by omega)]

/-- Before trip `k` every earlier row holds its result: the sum over the state index of the state times `C`. -/
theorem rows_at (b : Fin 4) (L : Fin 2048) (t : Fin 1024) (k : ℕ) (hk : k ≤ 1024) (ht : t.val < k) : yOf (atK m k c) (ix3 t b L)
    = ∑ n : Fin 16, chain (rA m c b L n) (rB m c b L n) (sOf (entryContents preI m c) (ix3 b L n)) (t.val + 1) * cOf (entryContents preI m c) (ix3 t b n) := by
  induction k with
  | zero => exact absurd ht (Nat.not_lt_zero _)
  | succ k ih =>
    have h := rows_succ m c ⟨k, by omega⟩
    rw [show yOf (atK m (k + 1) c) = _ from h, stepY_apply]
    by_cases e : t = ⟨k, by omega⟩
    · obtain rfl : k = t.val := (congrArg Fin.val e).symm
      rw [if_pos e]
      refine Finset.sum_congr rfl fun n _ => ?_
      rw [state_at m c b L n (t.val + 1) hk, c_keep]
    · rw [if_neg e]
      refine ih (by omega) ?_
      have : t.val ≠ k := fun h => e (Fin.ext h)
      omega

/-! ## What the loop starts from -/

theorem dt_entry (b : Fin 4) (t : Fin 1024) (L : Fin 2048) : dtOf (entryContents preI m c) (ix3 t b L) = (m ((c : Thread nD τ).loc main_arg1) : FVec Ideal S4x1024x2048 .bf16) (ix3 b t L) := by
  have h : dtOf (entryContents preI m c) = transpose S1024x4x2048 [1, 0, 2] (extf (F := Ideal) (s := S4x1024x2048) (φ := .bf16) FTy.f32 (m ((c : Thread nD τ).loc main_arg1)) bitsLt_bf16_f32) transposes_S4x1024x2048_S1024x4x2048_1_0_2 := by
    unfold dtOf; simp only [entryContents, afterL_cons, afterL_nil]; after_results; rfl
  rw [h]
  pointwise []

theorem x_entry (b : Fin 4) (t : Fin 1024) (L : Fin 2048) : xOf (entryContents preI m c) (ix3 t b L) = (m ((c : Thread nD τ).loc main_arg2) : FVec Ideal S4x1024x2048 .bf16) (ix3 b t L) := by
  have h : xOf (entryContents preI m c) = transpose S1024x4x2048 [1, 0, 2] (extf (F := Ideal) (s := S4x1024x2048) (φ := .bf16) FTy.f32 (m ((c : Thread nD τ).loc main_arg2)) bitsLt_bf16_f32) transposes_S4x1024x2048_S1024x4x2048_1_0_2 := by
    unfold xOf; simp only [entryContents, afterL_cons, afterL_nil]; after_results; rfl
  rw [h]
  pointwise []

theorem b_entry (b : Fin 4) (t : Fin 1024) (n : Fin 16) : bOf (entryContents preI m c) (ix3 t b n) = (m ((c : Thread nD τ).loc main_arg5) : FVec Ideal S4x32x1024 .f32) (ix3 b ⟨n.val, by omega⟩ t) := by
  have h : bOf (entryContents preI m c) = transpose S1024x4x16 [2, 0, 1] (extractStridedSlice S4x16x1024 ![0, 0, 0] (m ((c : Thread nD τ).loc main_arg5) : FVec Ideal S4x32x1024 .f32) slices_S4x32x1024_S4x16x1024_0_0_0) transposes_S4x16x1024_S1024x4x16_2_0_1 := by
    unfold bOf; simp only [entryContents, afterL_cons, afterL_nil]; after_results; rfl
  rw [h]
  pointwise []

theorem c_entry (b : Fin 4) (t : Fin 1024) (n : Fin 16) : cOf (entryContents preI m c) (ix3 t b n) = (m ((c : Thread nD τ).loc main_arg5) : FVec Ideal S4x32x1024 .f32) (ix3 b ⟨16 + n.val, by omega⟩ t) := by
  have h : cOf (entryContents preI m c) = transpose S1024x4x16 [2, 0, 1] (extractStridedSlice S4x16x1024 ![0, 16, 0] (m ((c : Thread nD τ).loc main_arg5) : FVec Ideal S4x32x1024 .f32) slices_S4x32x1024_S4x16x1024_0_16_0) transposes_S4x16x1024_S1024x4x16_2_0_1 := by
    unfold cOf; simp only [entryContents, afterL_cons, afterL_nil]; after_results; rfl
  rw [h]
  pointwise []

theorem a_entry (L : Fin 2048) (n : Fin 16) : aOf (entryContents preI m c) (ix2 L n) = -Ideal.exp ((m ((c : Thread nD τ).loc main_arg6) : FVec Ideal S2048x16 .f32) (ix2 L n)) := by
  have h : aOf (entryContents preI m c) = Host.negf (Host.exp (F := Ideal) (s := S2048x16) (φ := .f32) (m ((c : Thread nD τ).loc main_arg6))) := by
    unfold aOf; simp only [entryContents, afterL_cons, afterL_nil]; after_results; rfl
  rw [h]
  pointwise []

theorem s_entry (b : Fin 4) (L : Fin 2048) (n : Fin 16) : sOf (entryContents preI m c) (ix3 b L n) = 0 := by
  have h : sOf (entryContents preI m c) = broadcastInDim S4x2048x16 ![] bcast_S_S4x2048x16 (constant (F := Ideal) S_ .f32 0x00000000#32) := by
    unfold sOf; simp only [entryContents, afterL_cons, afterL_nil]; after_results; rfl
  rw [h]
  pointwise []

/-! ## The result -/

/-- The operations after the loop, of the loop's rows of results and the arguments. -/
def refOut (H : FVec Ideal S4x1024x1024 .f32) (Y : FVec Ideal S1024x4x2048 .f32) (G Z : FVec Ideal S4x1024x2048 .f32) (W : FVec Ideal S1024x2048 .f32) : FVec Ideal S4x1024x1024 .f32 :=
  addf H (Host.dotGeneral dot_S4x1024x2048_S2048x1024_S4x1024x1024_2_0_01_1_n_n none (addf (mulf (transpose S4x1024x2048 [1, 0, 2] Y transposes_S1024x4x2048_S4x1024x2048_1_0_2) G) Z) (transpose S2048x1024 [1, 0] W transposes_S1024x2048_S2048x1024_1_0))

theorem refOut_apply (H : FVec Ideal S4x1024x1024 .f32) (Y : FVec Ideal S1024x4x2048 .f32) (G Z : FVec Ideal S4x1024x2048 .f32) (W : FVec Ideal S1024x2048 .f32) (b : Fin 4) (t : Fin 1024) (q : Fin 1024) :
    refOut H Y G Z W (ix3 b t q) = H (ix3 b t q) + ∑ L : Fin 2048, (Y (ix3 t b L) * G (ix3 b t L) + Z (ix3 b t L)) * W (ix2 q L) := by
  pointwise [refOut]

theorem post_v20 (X : Valuation τ sig (Elt Ideal)) : afterL postI (after condOps X) (Proc.devRef .tc main_v20)
    = refOut (X (Proc.devRef .tc main_arg0)) (X (Proc.devRef .tc main_v14_7)) (X (Proc.devRef .tc main_v2)) (X (Proc.devRef .tc main_v3)) (X (Proc.devRef .tc main_arg7)) := by
  simp only [afterL_cons, afterL_nil]
  after_results
  rfl

theorem g_entry : entryContents preI m c (Proc.devRef .tc main_v2) = (extf (F := Ideal) (s := S4x1024x2048) (φ := .bf16) FTy.f32 (m ((c : Thread nD τ).loc main_arg3)) bitsLt_bf16_f32) := by
  simp only [entryContents, afterL_cons, afterL_nil]; after_results
theorem z_entry : entryContents preI m c (Proc.devRef .tc main_v3) = (extf (F := Ideal) (s := S4x1024x2048) (φ := .bf16) FTy.f32 (m ((c : Thread nD τ).loc main_arg4)) bitsLt_bf16_f32) := by
  simp only [entryContents, afterL_cons, afterL_nil]; after_results

/-- An argument is as at the start, before every trip. -/
theorem arg_keep (r : Ref sig .tc) (hr : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    atK m 1024 c (Proc.devRef .tc r) = m ((c : Thread nD τ).loc r) := by
  rw [atK_keep m c r hc h0 h1 h2 h3 h4 h5 h6 1024]
  simp only [entryContents, afterL_cons, afterL_nil]
  rw [after_of_writes_sub hostOps0 _ hostOps0_writes hr]

theorem post_keep (X : Valuation τ sig (Elt Ideal)) (r : Ref sig .tc) (h : r ∉ [main_v15, main_v16, main_v17, main_v18, main_v19, main_v20]) (hc : r ∉ condOps_W) :
    afterL postI (after condOps X) (Proc.devRef .tc r) = X (Proc.devRef .tc r) := by
  simp only [afterL_cons, afterL_nil]
  rw [after_unwritten [main_v15, main_v16, main_v17, main_v18, main_v19, main_v20] rfl h, after_of_writes_sub condOps _ condOps_writes hc]

/-- Every argument ends as it started. -/
theorem final_arg (r : Ref sig .tc) (hp : r ∉ [main_v15, main_v16, main_v17, main_v18, main_v19, main_v20]) (hr : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    finalContents condOps preI bodyI postI 1024 m c (Proc.devRef .tc r) = m ((c : Thread nD τ).loc r) :=
  (post_keep (atK m 1024 c) r hp hc).trans (arg_keep m c r hr hc h0 h1 h2 h3 h4 h5 h6)

/-- The reference's result, of the loop's rows and the arguments. -/
def result : FVec Ideal S4x1024x1024 .f32 :=
  refOut (m ((c : Thread nD τ).loc main_arg0)) (yOf (atK m 1024 c)) (extf (F := Ideal) (s := S4x1024x2048) (φ := .bf16) FTy.f32 (m ((c : Thread nD τ).loc main_arg3)) bitsLt_bf16_f32)
    (extf (F := Ideal) (s := S4x1024x2048) (φ := .bf16) FTy.f32 (m ((c : Thread nD τ).loc main_arg4)) bitsLt_bf16_f32) (m ((c : Thread nD τ).loc main_arg7))

theorem final_v20 : finalContents condOps preI bodyI postI 1024 m c (Proc.devRef .tc main_v20) = result m c := by
  refine (post_v20 (atK m 1024 c)).trans ?_
  rw [arg_keep m c main_arg0 (by decide) (by decide) (by decide) (by decide) (by decide) (by decide) (by decide) (by decide) (by decide),
    arg_keep m c main_arg7 (by decide) (by decide) (by decide) (by decide) (by decide) (by decide) (by decide) (by decide) (by decide),
    atK_keep m c main_v2 (by decide) (by decide) (by decide) (by decide) (by decide) (by decide) (by decide) (by decide) 1024,
    atK_keep m c main_v3 (by decide) (by decide) (by decide) (by decide) (by decide) (by decide) (by decide) (by decide) 1024,
    g_entry, z_entry]
  rfl

variable (ρ : Dev nD → PrngReg)

/-- The reference runs, ends with `result` and leaves its arguments unchanged. -/
theorem run : θ_run (defs (F := Ideal)) (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ⟨(h c main_v20 rfl).trans (final_v20 m c), ?_, ?_, ?_, ?_, ?_, ?_, ?_, ?_, ?_⟩) (run_fold m ρ)
  all_goals
    refine (h c _ rfl).trans (final_arg m c _ ?_ ?_ ?_ ?_ ?_ ?_ ?_ ?_ ?_ ?_)
    all_goals decide

/-- The result at coordinates. -/
theorem result_apply (b : Fin 4) (t : Fin 1024) (q : Fin 1024) : result m c (ix3 b t q)
    = (show FVec Ideal S4x1024x1024 .f32 from m ((c : Thread nD τ).loc main_arg0)) (ix3 b t q) + ∑ L : Fin 2048,
        ((∑ n : Fin 16, chain (rA m c b L n) (rB m c b L n) 0 (t.val + 1) * (show FVec Ideal S4x32x1024 .f32 from m ((c : Thread nD τ).loc main_arg5)) (ix3 b ⟨16 + n.val, by omega⟩ t))
          * (show FVec Ideal S4x1024x2048 .bf16 from m ((c : Thread nD τ).loc main_arg3)) (ix3 b t L) + (show FVec Ideal S4x1024x2048 .bf16 from m ((c : Thread nD τ).loc main_arg4)) (ix3 b t L))
          * (show FVec Ideal S1024x2048 .f32 from m ((c : Thread nD τ).loc main_arg7)) (ix2 q L) := by
  rw [result, refOut_apply]
  refine congrArg _ (Finset.sum_congr rfl fun L _ => ?_)
  rw [rows_at m c b L t 1024 le_rfl t.isLt]
  refine congrArg (· * _) (congrArg₂ (· + ·) (congrArg (· * _) (Finset.sum_congr rfl fun n _ => ?_)) rfl)
  exact congrArg₂ (· * ·) (congrArg (fun z => chain _ _ z _) (s_entry m c b L n)) (c_entry m c b t n)

end Cert.ScanReferenceIdeal.Loop

end
-- ==== Proof.ScanAlg.lean ====
module

public import proofs.«01_k».proof.Defs
public import proofs.«01_k».proof.Proof.ScanRef
public import proofs.«01_k».proof.Proof.ScanFrame
public import Idealize.ShloMosaic.Lib.Claim
public import Idealize.ShloMosaic.Lib.Quiescent

@[expose] public section

set_option maxRecDepth 16384

noncomputable section

namespace Cert.Proof.Scan

open Idealize.ShloMosaic Idealize.ShloMosaic.TcCoe Idealize.SL.Sem
open Cert.ScanIdeal.Body (negLog2e chain ext ext_lt chain_congr gOut gY gS gA gB)

/-- The named constant turns the kernel's power of two into the reference's exponential, at infinite values too. -/
theorem exp2_negLog2e (x : EReal) : Ideal.exp2 (negLog2e * x) = Ideal.exp (-x) := by
  have hpos : (0 : ℝ) < (Real.log 2)⁻¹ := inv_pos.mpr (Real.log_pos (by norm_num))
  have hneg : (-((Real.log 2)⁻¹) : ℝ) < 0 := neg_lt_zero.mpr hpos
  induction x with
  | bot => rw [negLog2e, EReal.coe_mul_bot_of_neg hneg]; rfl
  | top => rw [negLog2e, EReal.coe_mul_top_of_neg hneg]; rfl
  | coe r =>
    rw [negLog2e, ← EReal.coe_mul, ← EReal.coe_neg, Ideal.exp2_coe, Ideal.exp_coe]
    congr 1
    show (2 : ℝ) ^ (-(Real.log 2)⁻¹ * r) = Real.exp (-r)
    rw [Real.rpow_def_of_pos (by norm_num)]
    congr 1
    have : Real.log 2 ≠ 0 := (Real.log_pos (by norm_num)).ne'
    field_simp

/-- The kernel's decay is the reference's. -/
theorem decay (d e : EReal) : Ideal.exp2 (d * (negLog2e * e)) = Ideal.exp (d * -e) := by
  rw [mul_left_comm, exp2_negLog2e, mul_neg]

theorem frame_Scan : Cert.quiescent_Scan := fun m g _ => Cert.Scan.Body.frame m g
theorem frame_ScanIdeal : Cert.quiescent_ScanIdeal := fun m g _ => Cert.ScanIdeal.Body.frame m g
theorem frame_ScanReferenceIdeal : Cert.quiescent_ScanReferenceIdeal := fun m g _ =>
  (θ_run Cert.ScanReferenceIdeal.defs _ _).mono (fun r h => ⟨fun c => (h c).2, sem_eq_zero_of_no_sems (by decide) r.2⟩)
    (Cert.ScanReferenceIdeal.Loop.run m g)

theorem preserves : Cert.preserves_Scan_ScanIdeal :=
  IdealRules.named_const.statement Cert.ScanIdeal.κ "minus_log2e" .f32 0xBFB8AA3B#32 _ rfl

/-- At every element the reference's result is the kernel's. -/
theorem values (m : (ℓ : Loc Cert.ScanIdeal.nD Cert.ScanIdeal.τ Cert.ScanIdeal.sig) → Buf (Elt Ideal) ℓ)
    (m' : (ℓ : Loc Cert.ScanReferenceIdeal.nD Cert.ScanReferenceIdeal.τ Cert.ScanReferenceIdeal.sig) → Buf (Elt Ideal) ℓ) (c : Dev Cert.ScanIdeal.nD)
    (h0 : m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0))
    (h1 : m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1))
    (h2 : m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2))
    (h3 : m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3))
    (h4 : m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4))
    (h5 : m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5))
    (h6 : m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6))
    (h7 : m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)) :
    Cert.ScanReferenceIdeal.Loop.result m' c = (Cert.ScanIdeal.Body.dats m 0 c).arrAt 9 (Cert.ScanIdeal.cfgs 0).N := by
  rw [Cert.ScanIdeal.Body.final m c, Cert.ScanIdeal.Gen.V_main_arg0, Cert.ScanIdeal.Gen.V_main_arg1, Cert.ScanIdeal.Gen.V_main_arg2, Cert.ScanIdeal.Gen.V_main_arg3, Cert.ScanIdeal.Gen.V_main_arg4, Cert.ScanIdeal.Gen.V_main_arg5]
  funext i
  idx_vars i
  rw [Cert.ScanReferenceIdeal.Loop.result_apply m' c i0 i1 i2, gOut, add_comm]
  rw [h0, h3, h4, h5, h7]
  refine congrArg (· + _) (Finset.sum_congr rfl fun L _ => ?_)
  refine congrArg₂ (· * ·) (congrArg (· + _) (congrArg (· * _) (Finset.sum_congr rfl fun n _ => congrArg (· * _) ?_))) (Cert.ScanIdeal.Body.V_main_v4 m c L i2).symm
  show chain _ _ 0 (i1.val + 1) = gS _ _ _ _ i0 n L (i1.val + 1)
  rw [gS]
  refine chain_congr (fun j hj => ?_) (fun j hj => ?_) rfl
  all_goals have hj' : j < 1024 := by have := i1.isLt; omega
  · rw [Cert.ScanReferenceIdeal.Loop.rA, gA, ext_lt _ hj', ext_lt _ hj', Cert.ScanReferenceIdeal.Loop.dt_entry, Cert.ScanReferenceIdeal.Loop.a_entry, Cert.ScanIdeal.Body.V_main_v2, decay, h1, h6]
  · rw [Cert.ScanReferenceIdeal.Loop.rB, gB, ext_lt _ hj', ext_lt _ hj', Cert.ScanReferenceIdeal.Loop.x_entry, Cert.ScanReferenceIdeal.Loop.b_entry, h2, h5]

theorem algebraic : Cert.algebraic_ScanIdeal_ScanReferenceIdeal := by
  pair_intro
  · run_from Cert.ScanIdeal.Body.run_main m g
  · run_from Cert.ScanReferenceIdeal.Loop.run m' g'
    have h := hagree c
    exact values m m' c h.1 h.2.1 h.2.2.1 h.2.2.2.1 h.2.2.2.2.1 h.2.2.2.2.2.1 h.2.2.2.2.2.2.1 h.2.2.2.2.2.2.2.1

end Cert.Proof.Scan

end
-- ==== Proof.TokSpec.lean ====
module

public import Idealize.ShloMosaic.Lib.Pointwise

@[expose] public section

set_option maxRecDepth 16384

noncomputable section

/-! The per-token mathematics of one layer over the extended reals, at coordinates. A row is a function of its
    coordinate; nothing here mentions a program. -/
namespace Cert.TokMath

open Idealize.ShloMosaic

/-- A row scaled to unit mean square, then by the weights. -/
def nrm (x w : Fin 1024 → EReal) (d : Fin 1024) : EReal :=
  x d * Ideal.rsqrt (Ideal.div (∑ e, x e * x e) (Ideal.ofBits .f32 0x44800000#32) + Ideal.ofBits .f32 0x3727C5AC#32) * w d

/-- Entry `j` of the projection of the normalised row. -/
def proj (x w : Fin 1024 → EReal) (W : Fin 4096 → Fin 1024 → EReal) (j : Fin 4096) : EReal := ∑ d, nrm x w d * W j d

/-- `z` times its logistic. -/
def silu (z : EReal) : EReal := z * Ideal.div 1 (1 + Ideal.exp (-z))

/-- The softplus, in the form that does not overflow. -/
def softplus (z : EReal) : EReal := max z 0 + Ideal.log1p (Ideal.exp (-(max z (-z))))

section layer
variable (X : Fin 1024 → Fin 1024 → EReal) (nw : Fin 1024 → EReal) (W : Fin 4096 → Fin 1024 → EReal)
  (cw : Fin 2048 → Fin 4 → EReal) (cb : Fin 2048 → EReal) (xw : Fin 96 → Fin 2048 → EReal)
  (dw : Fin 2048 → Fin 64 → EReal) (db : Fin 2048 → EReal) (dd : Fin 2048 → EReal)

/-- Channel `L` of the convolution's input, three zero rows in front: row `i` is position `i - 3`. -/
def hp (L : Fin 2048) (i : ℕ) : EReal :=
  if h : 3 ≤ i ∧ i < 1027 then proj (X ⟨i - 3, by omega⟩) nw W ⟨L.val, by omega⟩ else 0

/-- The causal convolution of width four, with its bias. -/
def conv (t : Fin 1024) (L : Fin 2048) : EReal :=
  hp X nw W L t.val * cw L 0 + hp X nw W L (t.val + 1) * cw L 1 + hp X nw W L (t.val + 2) * cw L 2 + hp X nw W L (t.val + 3) * cw L 3 + cb L

/-- The convolved channels after their activation. -/
def u (t : Fin 1024) (L : Fin 2048) : EReal := silu (conv X nw W cw cb t L)

/-- The projection to the step sizes' code, `B` and `C`. -/
def ssm (t : Fin 1024) (q : Fin 96) : EReal := ∑ L, u X nw W cw cb t L * xw q L

/-- The step sizes. -/
def dt (t : Fin 1024) (L : Fin 2048) : EReal :=
  softplus ((∑ k : Fin 64, ssm X nw W cw cb xw t ⟨k.val, by omega⟩ * dw L k) + db L)

/-- The gate after its activation. -/
def gate (t : Fin 1024) (L : Fin 2048) : EReal := silu (proj (X t) nw W ⟨2048 + L.val, by omega⟩)

/-- The convolved channels' direct way to the output, gated. -/
def skip (t : Fin 1024) (L : Fin 2048) : EReal := u X nw W cw cb t L * dd L * gate X nw W t L

end layer
end Cert.TokMath

end
-- ==== Proof.ScanFinalRef.lean ====
module

public import proofs.«01_k».proof.Proof.ScanRef
public import proofs.«01_k».proof.Proof.TokSpec
public import proofs.«01_k».proof.Proof.Gen.ScanFinalReferenceIdeal.Run
public import Idealize.ShloMosaic.Lib.Pointwise

@[expose] public section

set_option maxRecDepth 16384

noncomputable section

namespace Cert.ScanFinalReferenceIdeal.Loop

open Cert.ScanFinalReferenceIdeal Cert.ScanFinalReferenceIdeal.Gen Cert.ScanFinalReferenceIdeal.Value
open Idealize.ShloMosaic Idealize.ShloMosaic.TcCoe Idealize.ShloMosaic.StableHlo
open Idealize.SL Idealize.SL.Sem
open Cert.ScanReferenceIdeal.Loop (stepS stepY st st_eq stepS_apply stepY_apply refOut refOut_apply)
open Cert.TokMath (nrm)

/-- The contents of the loop's carried arrays, by name. -/
abbrev dtOf (V0 : Valuation τ sig (Elt Ideal)) : FVec Ideal S1024x4x2048 .f32 := V0 (Proc.devRef .tc main_v14_0)
abbrev bOf (V0 : Valuation τ sig (Elt Ideal)) : FVec Ideal S1024x4x16 .f32 := V0 (Proc.devRef .tc main_v14_1)
abbrev cOf (V0 : Valuation τ sig (Elt Ideal)) : FVec Ideal S1024x4x16 .f32 := V0 (Proc.devRef .tc main_v14_2)
abbrev xOf (V0 : Valuation τ sig (Elt Ideal)) : FVec Ideal S1024x4x2048 .f32 := V0 (Proc.devRef .tc main_v14_3)
abbrev aOf (V0 : Valuation τ sig (Elt Ideal)) : FVec Ideal S2048x16 .f32 := V0 (Proc.devRef .tc main_v14_4)
abbrev sOf (V0 : Valuation τ sig (Elt Ideal)) : FVec Ideal S4x2048x16 .f32 := V0 (Proc.devRef .tc main_v14_6)
abbrev yOf (V0 : Valuation τ sig (Elt Ideal)) : FVec Ideal S1024x4x2048 .f32 := V0 (Proc.devRef .tc main_v14_7)

/-! ## The loop's arrays before trip `k` -/

variable (m : (ℓ : Loc nD τ sig) → Buf (Elt Ideal) ℓ) (c : Dev nD)

/-- A buffer no operation of the loop writes is as at the loop's entry before every trip. -/
theorem atK_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc,
      atK_keep r hc h0 h1 h2 h3 h4 h5 h6 k]
    rfl

/-- The scanned arrays and the matrix `A` are the same before every trip. -/
theorem dt_keep (k : ℕ) : dtOf (atK m k c) = dtOf (entryContents preI m c) := atK_keep m c main_v14_0 (by decide) (by decide) (by decide) (by decide) (by decide) (by decide) (by decide) (by decide) k
theorem b_keep (k : ℕ) : bOf (atK m k c) = bOf (entryContents preI m c) := atK_keep m c main_v14_1 (by decide) (by decide) (by decide) (by decide) (by decide) (by decide) (by decide) (by decide) k
theorem c_keep (k : ℕ) : cOf (atK m k c) = cOf (entryContents preI m c) := atK_keep m c main_v14_2 (by decide) (by decide) (by decide) (by decide) (by decide) (by decide) (by decide) (by decide) k
theorem x_keep (k : ℕ) : xOf (atK m k c) = xOf (entryContents preI m c) := atK_keep m c main_v14_3 (by decide) (by decide) (by decide) (by decide) (by decide) (by decide) (by decide) (by decide) k
theorem a_keep (k : ℕ) : aOf (atK m k c) = aOf (entryContents preI m c) := atK_keep m c main_v14_4 (by decide) (by decide) (by decide) (by decide) (by decide) (by decide) (by decide) (by decide) k

theorem new_state (k : Fin 1024) : (res_main_while0b_v50 (atK m k.val c) : FVec Ideal S4x2048x16 .f32)
    = stepS (dtOf (atK m k.val c)) (xOf (atK m k.val c)) (bOf (atK m k.val c)) (aOf (atK m k.val c)) (sOf (atK m k.val c)) (st k) := by
  unfold res_main_while0b_v50
  rw [atK_ctr m c k.val, ← st_eq k]
  rfl

theorem state_succ (k : Fin 1024) : sOf (atK m (k.val + 1) c)
    = stepS (dtOf (atK m k.val c)) (xOf (atK m k.val c)) (bOf (atK m k.val c)) (aOf (atK m k.val c)) (sOf (atK m k.val c)) (st k) := by
  rw [← new_state]
  exact (trip_agree (atK m k.val c) main_v14_6 (by decide)).trans (STEP_main_v14_6 _)

theorem rows_succ (k : Fin 1024) : yOf (atK m (k.val + 1) c)
    = stepY (yOf (atK m k.val c)) (sOf (atK m (k.val + 1) c)) (cOf (atK m k.val c)) (st k) := by
  rw [state_succ, ← new_state]
  refine (trip_agree (atK m k.val c) main_v14_7 (by decide)).trans ((STEP_main_v14_7 _).trans ?_)
  unfold step_main_v14_7
  rw [atK_ctr m c k.val, ← st_eq k]
  rfl

open Cert.ScanIdeal.Body (chain ext ext_lt chain_congr)

/-- The reference's decays and what it adds, along the sequence. -/
def rA (b : Fin 4) (L : Fin 2048) (n : Fin 16) : ℕ → EReal := ext fun t : Fin 1024 => Ideal.exp (dtOf (entryContents preI m c) (ix3 t b L) * aOf (entryContents preI m c) (ix2 L n))
def rB (b : Fin 4) (L : Fin 2048) (n : Fin 16) : ℕ → EReal := ext fun t : Fin 1024 => xOf (entryContents preI m c) (ix3 t b L) * bOf (entryContents preI m c) (ix3 t b n)

theorem state_at (b : Fin 4) (L : Fin 2048) (n : Fin 16) (k : ℕ) (hk : k ≤ 1024) : sOf (atK m k c) (ix3 b L n)
    = chain (rA m c b L n) (rB m c b L n) (sOf (entryContents preI m c) (ix3 b L n)) k := by
  induction k with
  | zero => rfl
  | succ k ih =>
    have h := state_succ m c ⟨k, by omega⟩
    rw [show sOf (atK m (k + 1) c) = _ from h, stepS_apply]
    rw [dt_keep, x_keep, b_keep, a_keep]
    show _ = rA m c b L n k * chain (rA m c b L n) (rB m c b L n) _ k + rB m c b L n k
    rw [← ih (by omega), rA, rB, ext_lt _ (show k < 1024 by omega), ext_lt _ (show k < 1024 by omega)]

/-- Before trip `k` every earlier row holds its result: the sum over the state index of the state times `C`. -/
theorem rows_at (b : Fin 4) (L : Fin 2048) (t : Fin 1024) (k : ℕ) (hk : k ≤ 1024) (ht : t.val < k) : yOf (atK m k c) (ix3 t b L)
    = ∑ n : Fin 16, chain (rA m c b L n) (rB m c b L n) (sOf (entryContents preI m c) (ix3 b L n)) (t.val + 1) * cOf (entryContents preI m c) (ix3 t b n) := by
  induction k with
  | zero => exact absurd ht (Nat.not_lt_zero _)
  | succ k ih =>
    have h := rows_succ m c ⟨k, by omega⟩
    rw [show yOf (atK m (k + 1) c) = _ from h, stepY_apply]
    by_cases e : t = ⟨k, by omega⟩
    · obtain rfl : k = t.val := (congrArg Fin.val e).symm
      rw [if_pos e]
      refine Finset.sum_congr rfl fun n _ => ?_
      rw [state_at m c b L n (t.val + 1) hk, c_keep]
    · rw [if_neg e]
      refine ih (by omega) ?_
      have : t.val ≠ k := fun h => e (Fin.ext h)
      omega

/-! ## What the loop starts from -/

theorem dt_entry (b : Fin 4) (t : Fin 1024) (L : Fin 2048) : dtOf (entryContents preI m c) (ix3 t b L) = (m ((c : Thread nD τ).loc main_arg1) : FVec Ideal S4x1024x2048 .bf16) (ix3 b t L) := by
  have h : dtOf (entryContents preI m c) = transpose S1024x4x2048 [1, 0, 2] (extf (F := Ideal) (s := S4x1024x2048) (φ := .bf16) FTy.f32 (m ((c : Thread nD τ).loc main_arg1)) bitsLt_bf16_f32) transposes_S4x1024x2048_S1024x4x2048_1_0_2 := by
    unfold dtOf; simp only [entryContents, afterL_cons, afterL_nil]; after_results; rfl
  rw [h]
  pointwise []

theorem x_entry (b : Fin 4) (t : Fin 1024) (L : Fin 2048) : xOf (entryContents preI m c) (ix3 t b L) = (m ((c : Thread nD τ).loc main_arg2) : FVec Ideal S4x1024x2048 .bf16) (ix3 b t L) := by
  have h : xOf (entryContents preI m c) = transpose S1024x4x2048 [1, 0, 2] (extf (F := Ideal) (s := S4x1024x2048) (φ := .bf16) FTy.f32 (m ((c : Thread nD τ).loc main_arg2)) bitsLt_bf16_f32) transposes_S4x1024x2048_S1024x4x2048_1_0_2 := by
    unfold xOf; simp only [entryContents, afterL_cons, afterL_nil]; after_results; rfl
  rw [h]
  pointwise []

theorem b_entry (b : Fin 4) (t : Fin 1024) (n : Fin 16) : bOf (entryContents preI m c) (ix3 t b n) = (m ((c : Thread nD τ).loc main_arg5) : FVec Ideal S4x32x1024 .f32) (ix3 b ⟨n.val, by omega⟩ t) := by
  have h : bOf (entryContents preI m c) = transpose S1024x4x16 [2, 0, 1] (extractStridedSlice S4x16x1024 ![0, 0, 0] (m ((c : Thread nD τ).loc main_arg5) : FVec Ideal S4x32x1024 .f32) slices_S4x32x1024_S4x16x1024_0_0_0) transposes_S4x16x1024_S1024x4x16_2_0_1 := by
    unfold bOf; simp only [entryContents, afterL_cons, afterL_nil]; after_results; rfl
  rw [h]
  pointwise []

theorem c_entry (b : Fin 4) (t : Fin 1024) (n : Fin 16) : cOf (entryContents preI m c) (ix3 t b n) = (m ((c : Thread nD τ).loc main_arg5) : FVec Ideal S4x32x1024 .f32) (ix3 b ⟨16 + n.val, by omega⟩ t) := by
  have h : cOf (entryContents preI m c) = transpose S1024x4x16 [2, 0, 1] (extractStridedSlice S4x16x1024 ![0, 16, 0] (m ((c : Thread nD τ).loc main_arg5) : FVec Ideal S4x32x1024 .f32) slices_S4x32x1024_S4x16x1024_0_16_0) transposes_S4x16x1024_S1024x4x16_2_0_1 := by
    unfold cOf; simp only [entryContents, afterL_cons, afterL_nil]; after_results; rfl
  rw [h]
  pointwise []

theorem a_entry (L : Fin 2048) (n : Fin 16) : aOf (entryContents preI m c) (ix2 L n) = -Ideal.exp ((m ((c : Thread nD τ).loc main_arg6) : FVec Ideal S2048x16 .f32) (ix2 L n)) := by
  have h : aOf (entryContents preI m c) = Host.negf (Host.exp (F := Ideal) (s := S2048x16) (φ := .f32) (m ((c : Thread nD τ).loc main_arg6))) := by
    unfold aOf; simp only [entryContents, afterL_cons, afterL_nil]; after_results; rfl
  rw [h]
  pointwise []

theorem s_entry (b : Fin 4) (L : Fin 2048) (n : Fin 16) : sOf (entryContents preI m c) (ix3 b L n) = 0 := by
  have h : sOf (entryContents preI m c) = broadcastInDim S4x2048x16 ![] bcast_S_S4x2048x16 (constant (F := Ideal) S_ .f32 0x00000000#32) := by
    unfold sOf; simp only [entryContents, afterL_cons, afterL_nil]; after_results; rfl
  rw [h]
  pointwise []

/-! ## The result -/

/-- The final norm's operations, of the layer's output and the weights. -/
def refNorm (R : FVec Ideal S4x1024x1024 .f32) (w : FVec Ideal S1024 .f32) : FVec Ideal S4x1024x1024 .f32 :=
  mulf (mulf R (broadcastInDim S4x1024x1024 ![0, 1, 2] bcast_S4x1024x1_S4x1024x1024_0_1_2 (Host.rsqrt (addf (Host.divf (broadcastInDim S4x1024x1 ![0, 1] bcast_S4x1024_S4x1024x1_0_1 (Host.reduceAdd (mulf R R) (constant S_ .f32 0x00000000#32) reducesTo_S4x1024x1024_S4x1024_d2 h_S_)) (broadcastInDim S4x1024x1 ![] bcast_S_S4x1024x1 (constant S_ .f32 0x44800000#32))) (broadcastInDim S4x1024x1 ![] bcast_S_S4x1024x1 (constant S_ .f32 0x3727C5AC#32))))))
    (broadcastInDim S4x1024x1024 ![0, 1, 2] bcast_S1x1x1024_S4x1024x1024_0_1_2 (broadcastInDim S1x1x1024 ![2] bcast_S1024_S1x1x1024_2 w))

theorem refNorm_apply (R : FVec Ideal S4x1024x1024 .f32) (w : FVec Ideal S1024 .f32) (b : Fin 4) (t : Fin 1024) (q : Fin 1024) :
    refNorm R w (ix3 b t q) = nrm (fun d => R (ix3 b t d)) (fun d => w (ix1 d)) q := by
  pointwise [refNorm, nrm]

theorem post_v33 (X : Valuation τ sig (Elt Ideal)) : afterL postI (after condOps X) (Proc.devRef .tc main_v33)
    = refNorm (refOut (X (Proc.devRef .tc main_arg0)) (X (Proc.devRef .tc main_v14_7)) (X (Proc.devRef .tc main_v2)) (X (Proc.devRef .tc main_v3)) (X (Proc.devRef .tc main_arg7))) (X (Proc.devRef .tc main_arg8)) := by
  simp only [afterL_cons, afterL_nil]
  after_results
  rfl

theorem g_entry : entryContents preI m c (Proc.devRef .tc main_v2) = (extf (F := Ideal) (s := S4x1024x2048) (φ := .bf16) FTy.f32 (m ((c : Thread nD τ).loc main_arg3)) bitsLt_bf16_f32) := by
  simp only [entryContents, afterL_cons, afterL_nil]; after_results
theorem z_entry : entryContents preI m c (Proc.devRef .tc main_v3) = (extf (F := Ideal) (s := S4x1024x2048) (φ := .bf16) FTy.f32 (m ((c : Thread nD τ).loc main_arg4)) bitsLt_bf16_f32) := by
  simp only [entryContents, afterL_cons, afterL_nil]; after_results

/-- An argument is as at the start, before every trip. -/
theorem arg_keep (r : Ref sig .tc) (hr : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    atK m 1024 c (Proc.devRef .tc r) = m ((c : Thread nD τ).loc r) := by
  rw [atK_keep m c r hc h0 h1 h2 h3 h4 h5 h6 1024]
  simp only [entryContents, afterL_cons, afterL_nil]
  rw [after_of_writes_sub hostOps0 _ hostOps0_writes hr]

/-- What the operations after the loop write. -/
abbrev postW : List (Ref sig .tc) := [main_v15, main_v16, main_v17, main_v18, main_v19, main_v20, main_v21, main_cst_1, main_v22, main_v23, main_cst_2, main_v24, main_v25, main_cst_3, main_v26, main_v27, main_v28, main_v29, main_v30, main_v31, main_v32, main_v33]

theorem post_keep (X : Valuation τ sig (Elt Ideal)) (r : Ref sig .tc) (h : r ∉ postW) (hc : r ∉ condOps_W) :
    afterL postI (after condOps X) (Proc.devRef .tc r) = X (Proc.devRef .tc r) := by
  simp only [afterL_cons, afterL_nil]
  rw [after_unwritten postW rfl h, after_of_writes_sub condOps _ condOps_writes hc]

/-- Every argument ends as it started. -/
theorem final_arg (r : Ref sig .tc) (hp : r ∉ postW) (hr : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    finalContents condOps preI bodyI postI 1024 m c (Proc.devRef .tc r) = m ((c : Thread nD τ).loc r) :=
  (post_keep (atK m 1024 c) r hp hc).trans (arg_keep m c r hr hc h0 h1 h2 h3 h4 h5 h6)

/-- The layer's output before the final norm, of the loop's rows and the arguments. -/
def layer : FVec Ideal S4x1024x1024 .f32 :=
  refOut (m ((c : Thread nD τ).loc main_arg0)) (yOf (atK m 1024 c)) (extf (F := Ideal) (s := S4x1024x2048) (φ := .bf16) FTy.f32 (m ((c : Thread nD τ).loc main_arg3)) bitsLt_bf16_f32)
    (extf (F := Ideal) (s := S4x1024x2048) (φ := .bf16) FTy.f32 (m ((c : Thread nD τ).loc main_arg4)) bitsLt_bf16_f32) (m ((c : Thread nD τ).loc main_arg7))

/-- The reference's result. -/
def result : FVec Ideal S4x1024x1024 .f32 := refNorm (layer m c) (m ((c : Thread nD τ).loc main_arg8))

theorem final_v33 : finalContents condOps preI bodyI postI 1024 m c (Proc.devRef .tc main_v33) = result m c := by
  refine (post_v33 (atK m 1024 c)).trans ?_
  rw [arg_keep m c main_arg0 (by decide) (by decide) (by decide) (by decide) (by decide) (by decide) (by decide) (by decide) (by decide),
    arg_keep m c main_arg7 (by decide) (by decide) (by decide) (by decide) (by decide) (by decide) (by decide) (by decide) (by decide),
    arg_keep m c main_arg8 (by decide) (by decide) (by decide) (by decide) (by decide) (by decide) (by decide) (by decide) (by decide),
    atK_keep m c main_v2 (by decide) (by decide) (by decide) (by decide) (by decide) (by decide) (by decide) (by decide) 1024,
    atK_keep m c main_v3 (by decide) (by decide) (by decide) (by decide) (by decide) (by decide) (by decide) (by decide) 1024,
    g_entry, z_entry]
  rfl

variable (ρ : Dev nD → PrngReg)

/-- The reference runs, ends with `result` and leaves its arguments unchanged. -/
theorem run : θ_run (defs (F := Ideal)) (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ⟨(h c main_v33 rfl).trans (final_v33 m c), ?_, ?_, ?_, ?_, ?_, ?_, ?_, ?_, ?_⟩) (run_fold m ρ)
  all_goals
    refine (h c _ rfl).trans (final_arg m c _ ?_ ?_ ?_ ?_ ?_ ?_ ?_ ?_ ?_ ?_)
    all_goals decide

/-- The layer's output at coordinates. -/
theorem layer_apply (b : Fin 4) (t : Fin 1024) (q : Fin 1024) : layer m c (ix3 b t q)
    = (show FVec Ideal S4x1024x1024 .f32 from m ((c : Thread nD τ).loc main_arg0)) (ix3 b t q) + ∑ L : Fin 2048,
        ((∑ n : Fin 16, chain (rA m c b L n) (rB m c b L n) 0 (t.val + 1) * (show FVec Ideal S4x32x1024 .f32 from m ((c : Thread nD τ).loc main_arg5)) (ix3 b ⟨16 + n.val, by omega⟩ t))
          * (show FVec Ideal S4x1024x2048 .bf16 from m ((c : Thread nD τ).loc main_arg3)) (ix3 b t L) + (show FVec Ideal S4x1024x2048 .bf16 from m ((c : Thread nD τ).loc main_arg4)) (ix3 b t L))
          * (show FVec Ideal S1024x2048 .f32 from m ((c : Thread nD τ).loc main_arg7)) (ix2 q L) := by
  rw [layer, refOut_apply]
  refine congrArg _ (Finset.sum_congr rfl fun L _ => ?_)
  rw [rows_at m c b L t 1024 le_rfl t.isLt]
  refine congrArg (· * _) (congrArg₂ (· + ·) (congrArg (· * _) (Finset.sum_congr rfl fun n _ => ?_)) rfl)
  exact congrArg₂ (· * ·) (congrArg (fun z => chain _ _ z _) (s_entry m c b L n)) (c_entry m c b t n)

end Cert.ScanFinalReferenceIdeal.Loop

end
-- ==== Proof.ScanFinalIdealRun.lean ====
module

public import proofs.«01_k».proof.Proof.Gen.ScanFinalIdeal.Frame
public import proofs.«01_k».proof.Proof.Gen.ScanFinalIdeal.Loops

@[expose] public section

set_option maxRecDepth 16384

noncomputable section

namespace Cert.ScanFinalIdeal.Body

open Cert.ScanFinalIdeal Cert.ScanFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch: the point is the first of its batch row. -/
abbrev cond0 (i : grid0.Coords) : Prop := (Scalar.cmpi .ne (Scalar.extui (Scalar.cmpi .eq (BitVec.ofNat 32 (i 1).val) 0#32)) 0#32) = 1#1

set_option maxHeartbeats 4000000 in
/-- The body's run at a point that starts a batch row. -/
def runA (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32)
    (y12 : BufTy.Contents (Elt F) arg12.view.ty) (xs : Vec F S16x2048 .f32) :
    Σ' (L11 : List (View.Piece (Elt F) S1x256x1024 .f32)) (L12 : List (View.Piece (Elt F) S256x2048 .f32)), { L13 : List (View.Piece (Elt F) S16x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} y12) ∗ owns (c : Thread nD τ) arg13 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) y12 L12) ∗ (∃ f, arg13.view.loc (c : Thread nD τ) ↦[arg13.view.set]{fullShare} arg13.view.writes (Elt F) f L13)) -∗ K ⟨⟩))
          ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mamba_scan_eq_skeleton]; unfold cc0_mamba_scan_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    sl_exec (disch := first | sl_exact hc0)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]; · iexists _; iexact H11
    isplitl [H12]; · iexact H12
    iexists _; iexact H13

set_option maxHeartbeats 4000000 in
/-- The body's run at a point that continues a batch row. -/
def runB (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32)
    (y12 : BufTy.Contents (Elt F) arg12.view.ty) (xs : Vec F S16x2048 .f32) :
    Σ' (L11 : List (View.Piece (Elt F) S1x256x1024 .f32)) (L12 : List (View.Piece (Elt F) S256x2048 .f32)), { L13 : List (View.Piece (Elt F) S16x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} y12) ∗ owns (c : Thread nD τ) arg13 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) y12 L12) ∗ (∃ f, arg13.view.loc (c : Thread nD τ) ↦[arg13.view.set]{fullShare} arg13.view.writes (Elt F) f L13)) -∗ K ⟨⟩))
          ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mamba_scan_eq_skeleton]; unfold cc0_mamba_scan_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    sl_exec (disch := first | sl_exact hc0)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]; · iexists _; iexact H11
    isplitl [H12]; · iexact H12
    iexists _; iexact H13

end Cert.ScanFinalIdeal.Body

end
-- ==== Proof.ScanFinalIdealFn.lean ====
module

public import proofs.«01_k».proof.Proof.ScanFinalIdealRun
public import proofs.«01_k».proof.Proof.ScanIdealTriple

@[expose] public section

set_option maxRecDepth 16384

noncomputable section

namespace Cert.ScanFinalIdeal.Body

open Cert.ScanFinalIdeal Cert.ScanFinalIdeal.Gen
open Cert.ScanIdeal.Body (Acc rows1 rows2 next1 next2 out1 out2 run1 run2)
open Idealize.ShloMosaic Idealize.ShloMosaic.TcCoe

variable {F : FTy → Type} [FloatOps F] [Named F]

section memrefs
variable (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole)
  (x2 x3 : Vec F S1x256x2048 .bf16) (t : Vec F S1x32x256 .f32) (a : Vec F S16x1024 .f32)

/-- A trip of this call's first loop computes what a trip of the other layers' does. -/
theorem trip1_eq (X2 : BufTy.Contents (Elt F) arg2.view.ty) (X3 : BufTy.Contents (Elt F) arg3.view.ty) (k : Fin k0_t1_loop.trips) (s : Acc F) :
    (tripR_k0_t1 Variants.none c none i arg2 harg2 arg3 harg3 arg4 harg4 arg5 harg5 arg6 harg6 arg7 harg7 arg8 harg8 arg9 harg9 arg10 harg10 arg11 harg11 arg12 harg12 arg13 harg13 t a X2 X3 k s
        = (next1 a (rows1 (arg2.view.read (Elt F) X2) k) (rows1 (arg3.view.read (Elt F) X3) k) s, k0_pay4 (k0_pay63 t) 0#32 1#32 k))
    ∧ tripL_k0_t1 Variants.none c none i arg2 harg2 arg3 harg3 arg4 harg4 arg5 harg5 arg6 harg6 arg7 harg7 arg8 harg8 arg9 harg9 arg10 harg10 arg11 harg11 arg12 harg12 arg13 harg13 t a X2 X3 k s
        = [⟨Rect.unit (s := S256x2048) (k0_off2 k) S8x1024.size (k0_off2_inb k), out1 a (rows1 (arg2.view.read (Elt F) X2) k) (rows1 (arg3.view.read (Elt F) X3) k) s⟩] := by
  unfold tripR_k0_t1 tripL_k0_t1 trip_k0_t1
  exact ⟨rfl, rfl⟩

theorem trip2_eq (X2 : BufTy.Contents (Elt F) arg2.view.ty) (X3 : BufTy.Contents (Elt F) arg3.view.ty) (k : Fin k0_t2_loop.trips) (s : Acc F) :
    (tripR_k0_t2 Variants.none c none i arg2 harg2 arg3 harg3 arg4 harg4 arg5 harg5 arg6 harg6 arg7 harg7 arg8 harg8 arg9 harg9 arg10 harg10 arg11 harg11 arg12 harg12 arg13 harg13 t a X2 X3 k s
        = (next2 a (rows2 (arg2.view.read (Elt F) X2) k) (rows2 (arg3.view.read (Elt F) X3) k) s, k0_pay34 (k0_pay63 t) 0#32 1#32 k))
    ∧ tripL_k0_t2 Variants.none c none i arg2 harg2 arg3 harg3 arg4 harg4 arg5 harg5 arg6 harg6 arg7 harg7 arg8 harg8 arg9 harg9 arg10 harg10 arg11 harg11 arg12 harg12 arg13 harg13 t a X2 X3 k s
        = [⟨Rect.unit (s := S256x2048) (k0_off4 k) S8x1024.size (k0_off4_inb k), out2 a (rows2 (arg2.view.read (Elt F) X2) k) (rows2 (arg3.view.read (Elt F) X3) k) s⟩] := by
  unfold tripR_k0_t2 tripL_k0_t2 trip_k0_t2
  exact ⟨rfl, rfl⟩

/-- The first loop's states are the functions above of the blocks' contents alone. -/
theorem st1_eq (s : Acc F) (n : ℕ) :
    st_k0_t1 Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s n
      = run1 x2 x3 t a s n := by
  induction n with
  | zero => rfl
  | succ n ih =>
    rw [run1]
    split
    · rename_i h
      have e := st_k0_t1_succ Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s ⟨n, h⟩
      obtain ⟨eR, eL⟩ := trip1_eq c i arg2 harg2 arg3 harg3 arg4 harg4 arg5 harg5 arg6 harg6 arg7 harg7 arg8 harg8 arg9 harg9 arg10 harg10 arg11 harg11 arg12 harg12 arg13 harg13 t a (harg2.unread x2) (harg3.unread x3) ⟨n, h⟩ (run1 x2 x3 t a s n).1
      rw [harg2.read_unread, harg3.read_unread] at eR eL
      rw [ih, eR, eL] at e
      exact e
    · rename_i h
      rw [st_k0_t1.eq_2]; unfold st_k0_t1Step; rw [dif_neg h, ih]

/-- The second loop's states likewise. -/
theorem st2_eq (s : Acc F) (n : ℕ) :
    st_k0_t2 Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s n
      = run2 x2 x3 t a s n := by
  induction n with
  | zero => rfl
  | succ n ih =>
    rw [run2]
    split
    · rename_i h
      have e := st_k0_t2_succ Variants.none c none i arg2 harg2 arg3 harg3 arg4 harg4 arg5 harg5 arg6 harg6 arg7 harg7 arg8 harg8 arg9 harg9 arg10 harg10 arg11 harg11 arg12 harg12 arg13 harg13 t a (harg2.unread x2) (harg3.unread x3) s ⟨n, h⟩
      obtain ⟨eR, eL⟩ := trip2_eq c i arg2 harg2 arg3 harg3 arg4 harg4 arg5 harg5 arg6 harg6 arg7 harg7 arg8 harg8 arg9 harg9 arg10 harg10 arg11 harg11 arg12 harg12 arg13 harg13 t a (harg2.unread x2) (harg3.unread x3) ⟨n, h⟩ (run2 x2 x3 t a s n).1
      rw [harg2.read_unread, harg3.read_unread] at eR eL
      rw [ih, eR, eL] at e
      exact e
    · rename_i h
      rw [st_k0_t2.eq_2]; unfold st_k0_t2Step; rw [dif_neg h, ih]
end memrefs

end Cert.ScanFinalIdeal.Body

end
-- ==== Proof.ScanFinalIdealTriple.lean ====
module

public import proofs.«01_k».proof.Proof.ScanFinalIdealFn
public import Idealize.ShloMosaic.Lib.Pipeline.ValueKit
public import Idealize.ShloMosaic.Lib.VecWindow
public import Idealize.ShloMosaic.Lib.Pipeline.ReadBack

@[expose] public section

set_option maxRecDepth 16384

noncomputable section

namespace Cert.ScanFinalIdeal.Body

open Cert.ScanFinalIdeal Cert.ScanFinalIdeal.Gen
open Cert.ScanIdeal.Body (Acc run1 run2 half1 half2 fin1 fin2 yF stF y_cover st_cover canon_append_left)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block. -/
def outF (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (s : Vec F S16x2048 .f32) : Vec F S1x256x1024 .f32 :=
  k0_pay1 (yF x2 x3 x6 x7 s) x4 x5 x8 x9 x10

theorem runA_out (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg11.view.ty) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).1) = outF x2 x3 x4 x5 x6 x7 x8 x9 x10 (k0_pay62 (F := F)) := by
  unfold runA
  dsimp only
  refine (View.read_writes_full arg11.view f inb_S1x256x1024_S1x256x1024_0_0_0 _ _).trans ?_
  simp only [runA.sl.r, runA.sl.v29, runA.sl.v9, runA.sl.v21, runA.sl.H13_2, runA.sl.H13_1]
  simp (disch := decide) only [st1_eq, st2_eq, View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact congrArg (fun y => k0_pay1 y x4 x5 x8 x9 x10) (View.read_writes_eq_canon arg12.view y12 _ (y_cover x2 x3 x6 x7 (k0_pay62 (F := F))))

theorem runA_st (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg13.view.ty) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).2.2.1) = stF x2 x3 x6 x7 (k0_pay62 (F := F)) := by
  unfold runA
  dsimp only
  simp only [runA.sl.r, runA.sl.v29, runA.sl.v9, runA.sl.v21, runA.sl.H13_2, runA.sl.H13_1]
  simp (disch := decide) only [View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  rw [View.read_writes_eq_canon arg13.view]
  · exact funext fun y => canon_append_left [_, _] _ y (st_cover _ _ y)
  · intro y
    obtain ⟨p, hp, hy⟩ := st_cover (k0_pay75 (fin2 x2 x3 x6 x7 (k0_pay62 (F := F))).1.1) (k0_pay69 (fin1 x2 x3 x6 x7 (k0_pay62 (F := F))).1.1) y
    exact ⟨p, List.mem_append_left _ hp, hy⟩

theorem runB_out (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg11.view.ty) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).1) = outF x2 x3 x4 x5 x6 x7 x8 x9 x10 xs := by
  unfold runB
  dsimp only
  refine (View.read_writes_full arg11.view f inb_S1x256x1024_S1x256x1024_0_0_0 _ _).trans ?_
  simp only [runB.sl.r, runB.sl.v29, runB.sl.v21]
  simp (disch := decide) only [st1_eq, st2_eq, View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact congrArg (fun y => k0_pay1 y x4 x5 x8 x9 x10) (View.read_writes_eq_canon arg12.view y12 _ (y_cover x2 x3 x6 x7 xs))

theorem runB_st (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (y12 : BufTy.Contents (Elt F) arg12.view.ty) (xs : Vec F S16x2048 .f32) (f : BufTy.Contents (Elt F) arg13.view.ty) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 y12 xs).2.2.1) = stF x2 x3 x6 x7 xs := by
  unfold runB
  dsimp only
  simp only [runB.sl.r, runB.sl.v29, runB.sl.v21]
  simp (disch := decide) only [View.readAt_eq_ld, Memref.IsWhole.read_unread, View.ld_unit_lit', View.readCov_fill, View.readCov_skip]
  rw [show Scf.trips (0#32) (Scalar.addi 0#32 32#32) 1#32 = 32 from by decide +kernel, st1_eq (F := F), st2_eq (F := F)]
  exact View.read_writes_eq_canon arg13.view f _ fun y => st_cover _ _ y

/-- The body at a point that starts a batch row: from the blocks it leaves the output block and the state above, from a zero state. -/
theorem tripleA (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (xs : Vec F S16x2048 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF x2 x3 x4 x5 x6 x7 x8 x9 x10 (k0_pay62 (F := F))) ∗ (∃ d, owns (c : Thread nD τ) arg12 fullShare d) ∗ owns (c : Thread nD τ) arg13 fullShare (stF x2 x3 x6 x7 (k0_pay62 (F := F)))) -∗ K ⟨⟩))
      ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K := by
  rw [show (fun d : Vec F S256x2048 .f32 => owns (c : Thread nD τ) arg12 fullShare d) = fun d => iprop(∃ f, ⌜arg12.view.read (Elt F) f = d⌝ ∗ (arg12.view.loc (c : Thread nD τ) ↦[arg12.view.set]{fullShare} f)) from rfl]
  iintro ⟨H2, H3, H4, H5, H6, H7, H8, H9, H10, H11, ⟨%d12, %f12, -, H12⟩, H13, Hk⟩
  iapply (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, ⟨%f11, H11⟩, H12, ⟨%f13, H13⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; iexact H11
    ipureintro
    exact runA_out c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f11
  isplitl [H12]
  · iexists _; iexists _; isplitr; swap; iexact H12
    ipureintro; rfl
  unfold owns; iexists _; isplitr; swap; iexact H13
  ipureintro
  exact runA_st c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f13

/-- The body at any other point: from the blocks and the state carried in. -/
theorem tripleB (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x32x256 .f32) (harg6 : arg6.IsWhole) (arg7 : Memref sig .tc .vmem S16x2048 .f32) (harg7 : arg7.IsWhole) (arg8 : Memref sig .tc .vmem S2048x1024 .bf16) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S256x2048 .f32) (harg12 : arg12.IsWhole) (arg13 : Memref sig .tc .vmem S16x2048 .f32) (harg13 : arg13.IsWhole) (hc0 : ¬ cond0 i)
    (x2 x3 x4 x5 : Vec F S1x256x2048 .bf16) (x6 : Vec F S1x32x256 .f32) (x7 : Vec F S16x2048 .f32) (x8 : Vec F S2048x1024 .bf16) (x9 : Vec F S1x256x1024 .f32) (x10 : Vec F S1x1024 .f32) (xs : Vec F S16x2048 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF x2 x3 x4 x5 x6 x7 x8 x9 x10 xs) ∗ (∃ d, owns (c : Thread nD τ) arg12 fullShare d) ∗ owns (c : Thread nD τ) arg13 fullShare (stF x2 x3 x6 x7 xs)) -∗ K ⟨⟩))
      ⊢ wp frame (wpE (defs₀ (F := F)) Variants.none c none) E (cc0_mamba_scan i arg2 harg2 arg3 harg3 arg4 harg4 arg5 harg5 arg6 harg6 arg7 harg7 arg8 harg8 arg9 harg9 arg10 harg10 arg11 harg11 arg12 harg12 arg13 harg13) K := by
  rw [show (fun d : Vec F S256x2048 .f32 => owns (c : Thread nD τ) arg12 fullShare d) = fun d => iprop(∃ f, ⌜arg12.view.read (Elt F) f = d⌝ ∗ (arg12.view.loc (c : Thread nD τ) ↦[arg12.view.set]{fullShare} f)) from rfl]
  iintro ⟨H2, H3, H4, H5, H6, H7, H8, H9, H10, H11, ⟨%d12, %f12, -, H12⟩, H13, Hk⟩
  iapply (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, H7, H8, H9, H10, ⟨%f11, H11⟩, H12, ⟨%f13, H13⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; iexact H11
    ipureintro
    exact runB_out c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f11
  isplitl [H12]
  · iexists _; iexists _; isplitr; swap; iexact H12
    ipureintro; rfl
  unfold owns; iexists _; isplitr; swap; iexact H13
  ipureintro
  exact runB_st c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 f12 xs f13

end Cert.ScanFinalIdeal.Body

end
-- ==== Proof.ScanFinalIdealFrame.lean ====
module

public import proofs.«01_k».proof.Proof.ScanFinalIdealTriple
public import proofs.«01_k».proof.Proof.ScanIdealFrame
public import Idealize.ShloMosaic.Lib.Claim
public import Idealize.ShloMosaic.Lib.WordCmp

@[expose] public section

set_option maxRecDepth 16384

noncomputable section

namespace Cert.ScanFinalIdeal.Body

open Cert.ScanFinalIdeal Cert.ScanFinalIdeal.Gen
open Cert.ScanIdeal.Body (stF stAt stIn stAt_eq stIn_A stIn_B)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The points that start a batch row. -/
theorem hcond0 : ∀ t : Fin cfg0.N, cond0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0, e0, e1]
    word_cmp
   : ∀ t : Fin grid0.N, cond0 (grid0.coords t) ↔ t.val % 4 = 0)

/-- The two scratch buffers: the rows of results, and the carried state. -/
abbrev scM0 : Memref sig .tc .vmem S256x2048 .f32 := Memref.whole cc0_scratch0
abbrev scM1 : Memref sig .tc .vmem S16x2048 .f32 := Memref.whole cc0_scratch1

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The output block point `t` leaves. -/
def outAt (c : Dev nD) (t : Fin cfg0.N) : Vec F S1x256x1024 .f32 :=
  outF (iblk m c 0 t) (iblk m c 1 t) (iblk m c 2 t) (iblk m c 3 t) (iblk m c 4 t) (iblk m c 5 t) (iblk m c 6 t) (iblk m c 7 t) (iblk m c 8 t) (stIn m c t)

/-- The invariant before position `n`: the scratch at anything before the first point, and afterwards the carried
    state at what the point before left. -/
def PhiS (c : Dev nD) : (n : ℕ) → n ≤ cfg0.N → sProp 𝕄
  | 0, _ => Pipeline.ΦA spec0 c
  | n + 1, hn => iprop(iprop((∃ d, owns (c : Thread nD τ) scM0 fullShare d) ∗ owns (c : Thread nD τ) scM1 fullShare (stAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0 fullShare d) ∗ owns (c : Thread nD τ) scM1 fullShare (stAt m c n hn)) ∗ (∃ r, prngReg c r)) := rfl

theorem PhiS_pos (c : Dev nD) (n : ℕ) (h : n ≤ cfg0.N) (hz : n ≠ 0) :
    PhiS m c n h = iprop(iprop((∃ d, owns (c : Thread nD τ) scM0 fullShare d) ∗ owns (c : Thread nD τ) scM1 fullShare (stAt m c (n - 1) (Nat.lt_of_lt_of_le (Nat.sub_one_lt hz) h))) ∗ (∃ r, prngReg c r)) := by
  cases n with
  | zero => exact absurd rfl hz
  | succ n => rfl

/-- The proof data of the pipeline: every input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 3200000 in
/-- The body at any point, by the two cases of its branch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ, stAt_eq]
  unfold outAt
  have hN : t.val < 16 := lt_of_lt_of_eq t.isLt (show cfg0.N = 16 from N_0)
  by_cases h0 : t.val % 4 = 0
  · rw [stIn_A m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      icases HS1 with ⟨%s0, HS1⟩
      iapply (tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [stIn_B m c t h0]
    by_cases hz : t.val = 0
    · exfalso; omega
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]; · iexact HS0
    iexists _; iexact HS1
  iexact Hg

set_option backward.isDefEq.respectTransparency.types false in
/-- The launch: the run ends with every window's array at what the proof data says, and all semaphore counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.ScanFinalIdeal.Body

end
-- ==== Proof.ScanFinalIdealBlocks.lean ====
module

public import proofs.«01_k».proof.Proof.ScanIdealBlocks
public import proofs.«01_k».proof.Proof.ScanFinalIdealFrame
public import proofs.«01_k».proof.Proof.TokSpec

@[expose] public section

set_option maxRecDepth 16384

noncomputable section

namespace Cert.ScanFinalIdeal.Body

open Cert.ScanFinalIdeal Cert.ScanFinalIdeal.Gen
open Idealize.ShloMosaic Idealize.ShloMosaic.TcCoe Idealize.SL.Sem
open Idealize.ShloMosaic.Pipeline (Dat)
open Cert.ScanIdeal.Body (bOf tOf gOut yF)
open Cert.TokMath (nrm)

variable (m : (ℓ : Loc nD τ sig) → Buf (Elt Ideal) ℓ)

/-- The last layer's block is the other layers' block with every row normalised. -/
theorem pay1_apply (y : FVec Ideal S256x2048 .f32) (x4 x5 : FVec Ideal S1x256x2048 .bf16) (x8 : FVec Ideal S2048x1024 .bf16) (x9 : FVec Ideal S1x256x1024 .f32) (x10 : FVec Ideal S1x1024 .f32) (r : Fin 256) (q : Fin 1024) :
    k0_pay1 (F := Ideal) y x4 x5 x8 x9 x10 (ix3 0 r q) = nrm (fun d => Cert.ScanIdeal.Gen.k0_pay1 (F := Ideal) y x4 x5 x8 x9 (ix3 0 r d)) (fun d => x10 (ix2 0 d)) q := by
  pointwise [k0_pay1, Cert.ScanIdeal.Gen.k0_pay1, nrm]

/-- The block index of the weights' window and the result's at grid point `t`. -/
theorem idx : ∀ t : Fin cfg0.N, win0_8.index t = ![0, 0] ∧ win0_9.index t = ![t.val / 4, t.val % 4, 0] :=
  (by decide +kernel : ∀ t : Fin grid0.N, _)

theorem iblk8_apply (c : Dev nD) (t : Fin cfg0.N) (q : Fin 1024) : iblk m c 8 t (ix2 0 q) = V m c main_v0 (ix2 0 q) := by
  blk_point [iblk, idx t]

/-- The kernel's result array: the other layers', every row normalised. -/
def gFin (G : FVec Ideal S4x1024x1024 .f32) (w : Fin 1024 → EReal) : FVec Ideal S4x1024x1024 .f32 := fun i => nrm (fun d => G (ix3 (i 0) (i 1) d)) w (i 2)

theorem outAt_apply (c : Dev nD) (t : Fin cfg0.N) (r : Fin 256) (q : Fin 1024) :
    outAt m c t (ix3 0 r q) = gFin (gOut (V m c main_arg1) (V m c main_arg2) (V m c main_arg3) (V m c main_arg4) (V m c main_arg5) (V m c main_v2) (V m c main_v4) (V m c main_arg0))
      (fun d => V m c main_v0 (ix2 0 d)) (ix3 (bOf t) (tOf t r) q) := by
  rw [outAt, outF, pay1_apply, gFin]
  refine congrArg₂ (fun x w => nrm x w q) (funext fun d => ?_) (funext fun d => iblk8_apply m c t d)
  exact Cert.ScanIdeal.Body.outAt_apply m c t r d

/-- The result array after the run. -/
theorem final (c : Dev nD) : (dats m 0 c).arrAt 9 (cfgs 0).N
    = gFin (gOut (V m c main_arg1) (V m c main_arg2) (V m c main_arg3) (V m c main_arg4) (V m c main_arg5) (V m c main_v2) (V m c main_v4) (V m c main_arg0)) (fun d => V m c main_v0 (ix2 0 d)) := by
  refine (dats m 0 c).arrAt_eq_of_covers 9 _ (by decide +kernel) fun t _ y => ?_
  blk_simp
  rw [after0_9]
  idx_vars y
  obtain rfl : y0 = 0 := Subsingleton.elim _ _
  refine (outAt_apply m c t y1 y2).trans (congrArg _ ?_)
  blk_ext [idx t]

/-- The transposed matrix, as in the other layers. -/
theorem V_main_v2 (c : Dev nD) (n : Fin 16) (L : Fin 2048) :
    (V m c main_v2 : FVec Ideal S16x2048 .f32) (ix2 n L) = Ideal.exp ((m ((c : Thread nD τ).loc main_arg6) : FVec Ideal S2048x16 .f32) (ix2 L n)) :=
  Cert.ScanIdeal.Body.V_main_v2 m c n L

theorem V_main_v0 (c : Dev nD) (q : Fin 1024) :
    (V m c main_v0 : FVec Ideal S1x1024 .f32) (ix2 0 q) = (m ((c : Thread nD τ).loc main_arg8) : FVec Ideal S1024 .f32) (ix1 q) := by
  have h : V m c main_v0 = (shapeCast S1x1024 (m ((c : Thread nD τ).loc main_arg8) : FVec Ideal S1024 .f32) shapeCasts_S1024_S1x1024 : FVec Ideal S1x1024 .f32) := by
    unfold V; after_results; rfl
  rw [h]
  pointwise []

end Cert.ScanFinalIdeal.Body

end
-- ==== Proof.ScanFinalAlg.lean ====
module

public import proofs.«01_k».proof.Proof.ScanAlg
public import proofs.«01_k».proof.Proof.ScanFinalRef
public import proofs.«01_k».proof.Proof.ScanFinalIdealBlocks
public import proofs.«01_k».proof.Proof.ScanFinalFrame

@[expose] public section

set_option maxRecDepth 16384

noncomputable section

namespace Cert.Proof.ScanFinal

open Idealize.ShloMosaic Idealize.ShloMosaic.TcCoe Idealize.SL.Sem
open Cert.ScanIdeal.Body (negLog2e chain ext ext_lt chain_congr gOut gY gS gA gB)
open Cert.TokMath (nrm)

theorem frame_ScanFinal : Cert.quiescent_ScanFinal := fun m g _ => Cert.ScanFinal.Body.frame m g
theorem frame_ScanFinalIdeal : Cert.quiescent_ScanFinalIdeal := fun m g _ => Cert.ScanFinalIdeal.Body.frame m g
theorem frame_ScanFinalReferenceIdeal : Cert.quiescent_ScanFinalReferenceIdeal := fun m g _ =>
  (θ_run Cert.ScanFinalReferenceIdeal.defs _ _).mono (fun r h => ⟨fun c => (h c).2, sem_eq_zero_of_no_sems (by decide) r.2⟩)
    (Cert.ScanFinalReferenceIdeal.Loop.run m g)

theorem preserves : Cert.preserves_ScanFinal_ScanFinalIdeal :=
  IdealRules.named_const.statement Cert.ScanFinalIdeal.κ "minus_log2e" .f32 0xBFB8AA3B#32 _ rfl

/-- At every element the reference's result is the kernel's. -/
theorem values (m : (ℓ : Loc Cert.ScanFinalIdeal.nD Cert.ScanFinalIdeal.τ Cert.ScanFinalIdeal.sig) → Buf (Elt Ideal) ℓ)
    (m' : (ℓ : Loc Cert.ScanFinalReferenceIdeal.nD Cert.ScanFinalReferenceIdeal.τ Cert.ScanFinalReferenceIdeal.sig) → Buf (Elt Ideal) ℓ) (c : Dev Cert.ScanFinalIdeal.nD)
    (h0 : m' ((c.tc : Thread Cert.ScanFinalReferenceIdeal.nD Cert.ScanFinalReferenceIdeal.τ).loc Cert.ScanFinalReferenceIdeal.main_arg0) = m ((c.tc : Thread Cert.ScanFinalIdeal.nD Cert.ScanFinalIdeal.τ).loc Cert.ScanFinalIdeal.main_arg0))
    (h1 : m' ((c.tc : Thread Cert.ScanFinalReferenceIdeal.nD Cert.ScanFinalReferenceIdeal.τ).loc Cert.ScanFinalReferenceIdeal.main_arg1) = m ((c.tc : Thread Cert.ScanFinalIdeal.nD Cert.ScanFinalIdeal.τ).loc Cert.ScanFinalIdeal.main_arg1))
    (h2 : m' ((c.tc : Thread Cert.ScanFinalReferenceIdeal.nD Cert.ScanFinalReferenceIdeal.τ).loc Cert.ScanFinalReferenceIdeal.main_arg2) = m ((c.tc : Thread Cert.ScanFinalIdeal.nD Cert.ScanFinalIdeal.τ).loc Cert.ScanFinalIdeal.main_arg2))
    (h3 : m' ((c.tc : Thread Cert.ScanFinalReferenceIdeal.nD Cert.ScanFinalReferenceIdeal.τ).loc Cert.ScanFinalReferenceIdeal.main_arg3) = m ((c.tc : Thread Cert.ScanFinalIdeal.nD Cert.ScanFinalIdeal.τ).loc Cert.ScanFinalIdeal.main_arg3))
    (h4 : m' ((c.tc : Thread Cert.ScanFinalReferenceIdeal.nD Cert.ScanFinalReferenceIdeal.τ).loc Cert.ScanFinalReferenceIdeal.main_arg4) = m ((c.tc : Thread Cert.ScanFinalIdeal.nD Cert.ScanFinalIdeal.τ).loc Cert.ScanFinalIdeal.main_arg4))
    (h5 : m' ((c.tc : Thread Cert.ScanFinalReferenceIdeal.nD Cert.ScanFinalReferenceIdeal.τ).loc Cert.ScanFinalReferenceIdeal.main_arg5) = m ((c.tc : Thread Cert.ScanFinalIdeal.nD Cert.ScanFinalIdeal.τ).loc Cert.ScanFinalIdeal.main_arg5))
    (h6 : m' ((c.tc : Thread Cert.ScanFinalReferenceIdeal.nD Cert.ScanFinalReferenceIdeal.τ).loc Cert.ScanFinalReferenceIdeal.main_arg6) = m ((c.tc : Thread Cert.ScanFinalIdeal.nD Cert.ScanFinalIdeal.τ).loc Cert.ScanFinalIdeal.main_arg6))
    (h7 : m' ((c.tc : Thread Cert.ScanFinalReferenceIdeal.nD Cert.ScanFinalReferenceIdeal.τ).loc Cert.ScanFinalReferenceIdeal.main_arg7) = m ((c.tc : Thread Cert.ScanFinalIdeal.nD Cert.ScanFinalIdeal.τ).loc Cert.ScanFinalIdeal.main_arg7))
    (h8 : m' ((c.tc : Thread Cert.ScanFinalReferenceIdeal.nD Cert.ScanFinalReferenceIdeal.τ).loc Cert.ScanFinalReferenceIdeal.main_arg8) = m ((c.tc : Thread Cert.ScanFinalIdeal.nD Cert.ScanFinalIdeal.τ).loc Cert.ScanFinalIdeal.main_arg8)) :
    Cert.ScanFinalReferenceIdeal.Loop.result m' c = (Cert.ScanFinalIdeal.Body.dats m 0 c).arrAt 9 (Cert.ScanFinalIdeal.cfgs 0).N := by
  rw [Cert.ScanFinalIdeal.Body.final m c, Cert.ScanFinalIdeal.Gen.V_main_arg0, Cert.ScanFinalIdeal.Gen.V_main_arg1, Cert.ScanFinalIdeal.Gen.V_main_arg2, Cert.ScanFinalIdeal.Gen.V_main_arg3, Cert.ScanFinalIdeal.Gen.V_main_arg4, Cert.ScanFinalIdeal.Gen.V_main_arg5]
  funext i
  idx_vars i
  rw [Cert.ScanFinalReferenceIdeal.Loop.result, Cert.ScanFinalReferenceIdeal.Loop.refNorm_apply, Cert.ScanFinalIdeal.Body.gFin]
  refine congrArg₂ (fun x w => nrm x w i2) (funext fun d => ?_) (funext fun d => ?_)
  swap
  · rw [Cert.ScanFinalIdeal.Body.V_main_v0, h8]
  rw [Cert.ScanFinalReferenceIdeal.Loop.layer_apply m' c i0 i1 d, gOut, add_comm]
  rw [h0, h3, h4, h5, h7]
  refine congrArg (· + _) (Finset.sum_congr rfl fun L _ => ?_)
  refine congrArg₂ (· * ·) (congrArg (· + _) (congrArg (· * _) (Finset.sum_congr rfl fun n _ => congrArg (· * _) ?_))) (Cert.ScanIdeal.Body.V_main_v4 m c L d).symm
  show chain _ _ 0 (i1.val + 1) = gS _ _ _ _ i0 n L (i1.val + 1)
  rw [gS]
  refine chain_congr (fun j hj => ?_) (fun j hj => ?_) rfl
  all_goals have hj' : j < 1024 := by have := i1.isLt; omega
  · rw [Cert.ScanFinalReferenceIdeal.Loop.rA, gA, ext_lt _ hj', ext_lt _ hj', Cert.ScanFinalReferenceIdeal.Loop.dt_entry, Cert.ScanFinalReferenceIdeal.Loop.a_entry, Cert.ScanFinalIdeal.Body.V_main_v2, Cert.Proof.Scan.decay, h1, h6]
  · rw [Cert.ScanFinalReferenceIdeal.Loop.rB, gB, ext_lt _ hj', ext_lt _ hj', Cert.ScanFinalReferenceIdeal.Loop.x_entry, Cert.ScanFinalReferenceIdeal.Loop.b_entry, h2, h5]

theorem algebraic : Cert.algebraic_ScanFinalIdeal_ScanFinalReferenceIdeal := by
  pair_intro
  · run_from Cert.ScanFinalIdeal.Body.run_main m g
  · run_from Cert.ScanFinalReferenceIdeal.Loop.run m' g'
    have h := hagree c
    exact values m m' c h.1 h.2.1 h.2.2.1 h.2.2.2.1 h.2.2.2.2.1 h.2.2.2.2.2.1 h.2.2.2.2.2.2.1 h.2.2.2.2.2.2.2.1 h.2.2.2.2.2.2.2.2

end Cert.Proof.ScanFinal

end
-- ==== Proof.TokRows.lean ====
module

public import proofs.«01_k».proof.Proof.TokSpec
public import proofs.«01_k».proof.Proof.Gen.TokIdeal.Value
public import Idealize.ShloMosaic.Lib.Pointwise
public import Idealize.ShloMosaic.PureOps.IdealRules

@[expose] public section

set_option maxRecDepth 16384

noncomputable section

namespace Cert.TokIdeal.Rows

open Cert.TokIdeal Cert.TokIdeal.Gen Cert.TokMath
open Idealize.ShloMosaic Idealize.ShloMosaic.TcCoe Idealize.SL.Sem

variable (w : FVec Ideal S1x1024 .f32) (xh : FVec Ideal S1x8x1024 .f32) (xb : FVec Ideal S1x256x1024 .f32) (W : FVec Ideal S1024x4096 .bf16)

/-- Row `r` of the eight rows kept from the block before and the block's own rows. -/
def row (r : Fin 264) (d : Fin 1024) : EReal := if h : r.val < 8 then xh (ix3 0 ⟨r.val, h⟩ d) else xb (ix3 0 ⟨r.val - 8, by omega⟩ d)

/-- The projection of every row. -/
theorem pay2_apply (r : Fin 264) (j : Fin 4096) :
    k0_pay2 (F := Ideal) w xh xb W (ix2 r j) = proj (row xh xb r) (fun d => w (ix2 0 d)) (fun j d => W (ix2 d j)) j := by
  pointwise [k0_pay2, proj, nrm, row]

theorem pay3_apply (j : Fin 256) (L : Fin 2048) :
    k0_pay3 (F := Ideal) w xh xb W (ix2 j L) = k0_pay2 (F := Ideal) w xh xb W (ix2 ⟨8 + j.val, by omega⟩ ⟨2048 + L.val, by omega⟩) := by
  pointwise [k0_pay3]

theorem first_block : ∀ k : Fin 4, Scalar.cmpi CmpIPredicate.sgt (BitVec.ofNat 32 k.val) 0#32 = if k.val = 0 then 0#1 else 1#1 := by decide

theorem pay4_apply (i : grid0.Coords) (r : Fin 264) (L : Fin 2048) :
    k0_pay4 (F := Ideal) i w xh xb W (ix2 r L) = if r.val < 8 ∧ (i 1).val = 0 then 0 else k0_pay2 (F := Ideal) w xh xb W (ix2 r ⟨L.val, by omega⟩) := by
  pointwise [k0_pay4]
  rw [first_block (i 1)]
  by_cases h : r.val < 8
  · rw [dif_pos h]
    by_cases h1 : (i 1).val = 0
    · rw [if_pos h1, if_pos ⟨h, h1⟩]; rfl
    · rw [if_neg h1, if_neg fun e => h1 e.2]; rfl
  · refine (dif_neg h).trans (Eq.trans ?_ (if_neg fun e => h e.1).symm)
    refine congrArg _ ((ix2_inj ..).2 ⟨Fin.ext ?_, rfl⟩)
    show 8 + (r.val - 8) = r.val
    omega

theorem pay5_apply (i : grid0.Coords) (w3 : FVec Ideal S1x2048 .f32) (j : Fin 256) (L : Fin 2048) :
    k0_pay5 (F := Ideal) i w xh xb W w3 (ix2 j L) = k0_pay4 (F := Ideal) i w xh xb W (ix2 ⟨8 + j.val, by omega⟩ L) * w3 (ix2 0 L) := by
  pointwise [k0_pay5]

variable (v30 : FVec Ideal S264x2048 .f32) (v35 : FVec Ideal S256x2048 .f32) (b0 : FVec Ideal S1x2048 .f32) (w0 w1 w2 : FVec Ideal S1x2048 .f32)
  (xw : FVec Ideal S2048x128 .bf16) (dw : FVec Ideal S64x2048 .f32) (db : FVec Ideal S1x2048 .f32)

theorem pay6_apply (j : Fin 256) (L : Fin 2048) :
    k0_pay6 v30 v35 b0 w0 w1 w2 (ix2 j L) = silu (v35 (ix2 j L) + b0 (ix2 0 L) + v30 (ix2 ⟨5 + j.val, by omega⟩ L) * w0 (ix2 0 L)
      + v30 (ix2 ⟨6 + j.val, by omega⟩ L) * w1 (ix2 0 L) + v30 (ix2 ⟨7 + j.val, by omega⟩ L) * w2 (ix2 0 L)) := by
  pointwise [k0_pay6, silu]
  rw [zero_sub]

theorem pay7_apply (j : Fin 256) (q : Fin 128) :
    k0_pay7 v30 v35 b0 w0 w1 w2 xw (ix2 j q) = ∑ L : Fin 2048, k0_pay6 v30 v35 b0 w0 w1 w2 (ix2 j L) * xw (ix2 L q) := by
  pointwise [k0_pay7]

theorem pay1_apply (x : FVec Ideal S256x32 .f32) (q : Fin 32) (j : Fin 256) : k0_pay1 x (ix3 0 q j) = x (ix2 j q) := by
  pointwise [k0_pay1]
  rw [Finset.sum_eq_single j]
  · rw [show IntOp.cmpi CmpIPredicate.eq (BitVec.ofNat 32 ↑j) (BitVec.ofNat 32 ↑j) = 1#1 from by simp [IntOp.cmpi]]
    rfl
  · intro k _ hk
    have hne : BitVec.ofNat 32 k.val ≠ BitVec.ofNat 32 j.val := fun e => hk (Fin.ext (by
      have h := congrArg BitVec.toNat e
      rw [BitVec.toNat_ofNat, BitVec.toNat_ofNat] at h
      omega))
    rw [show IntOp.cmpi CmpIPredicate.eq (BitVec.ofNat 32 ↑k) (BitVec.ofNat 32 ↑j) = 0#1 from by
      show BitVec.ofBool (BitVec.ofNat 32 k.val == BitVec.ofNat 32 j.val) = 0#1
      rw [beq_false_of_ne hne]; rfl]
    rfl
  · exact fun h => absurd (Finset.mem_univ _) h

theorem pay8_apply (j : Fin 256) (q : Fin 32) :
    k0_pay8 v30 v35 b0 w0 w1 w2 xw (ix2 j q) = k0_pay7 v30 v35 b0 w0 w1 w2 xw (ix2 j ⟨64 + q.val, by omega⟩) := by
  pointwise [k0_pay8]

theorem pay9_apply (j : Fin 256) (L : Fin 2048) :
    k0_pay9 v30 v35 b0 w0 w1 w2 xw dw db (ix2 j L) = (∑ k : Fin 64, k0_pay7 v30 v35 b0 w0 w1 w2 xw (ix2 j ⟨k.val, by omega⟩) * dw (ix2 k L)) + db (ix2 0 L) := by
  pointwise [k0_pay9]

theorem pay12_apply (z : FVec Ideal S256x2048 .f32) (j : Fin 256) (L : Fin 2048) :
    k0_pay12 z (Scalar.ofBits .f32 0x00000000#32) (ix3 0 j L) = softplus (z (ix2 j L)) := by
  pointwise [k0_pay12, k0_pay10, softplus]
  rw [zero_sub]
  rfl

theorem pay13_apply (v z : FVec Ideal S256x2048 .f32) (j : Fin 256) (L : Fin 2048) :
    k0_pay13 v z (Scalar.ofBits .f32 0x00000000#32) (ix3 0 j L) = softplus (z (ix2 j L)) * v (ix2 j L) := by
  pointwise [k0_pay13, k0_pay10, softplus]
  rw [zero_sub]
  rfl

theorem pay14_apply (z : FVec Ideal S256x2048 .f32) (j : Fin 256) (L : Fin 2048) :
    k0_pay14 z (ix3 0 j L) = silu (z (ix2 j L)) := by
  pointwise [k0_pay14, k0_pay11, silu]
  rw [zero_sub]

theorem pay15_apply (z v : FVec Ideal S256x2048 .f32) (d : FVec Ideal S1x2048 .f32) (j : Fin 256) (L : Fin 2048) :
    k0_pay15 z v d (ix3 0 j L) = v (ix2 j L) * d (ix2 0 L) * silu (z (ix2 j L)) := by
  pointwise [k0_pay15, k0_pay11, silu]
  rw [zero_sub]

end Cert.TokIdeal.Rows

end
-- ==== Proof.TokBlocks.lean ====
module

public import proofs.«01_k».proof.Proof.TokRows
public import Idealize.ShloMosaic.Lib.Pipeline.ValueKit

@[expose] public section

set_option maxRecDepth 16384

noncomputable section

namespace Cert.TokIdeal.Rows

open Cert.TokIdeal Cert.TokIdeal.Gen Cert.TokMath
open Idealize.ShloMosaic Idealize.ShloMosaic.TcCoe Idealize.SL.Sem
open Idealize.ShloMosaic.Pipeline (Dat)

/-! ## One grid point's results over its input blocks -/

/-- The taps' sum in the kernel's order and in the plain one. -/
theorem taps_comm (a b c d e : EReal) : d + e + a + b + c = a + b + c + d + e := by ac_rfl

section point
variable (i : grid0.Coords) (w : FVec Ideal S1x1024 .f32) (xh : FVec Ideal S1x8x1024 .f32) (xb : FVec Ideal S1x256x1024 .f32) (Wm : FVec Ideal S1024x4096 .bf16)
  (w3 b0 w0 w1 w2 : FVec Ideal S1x2048 .f32) (xm : FVec Ideal S2048x128 .bf16) (dm : FVec Ideal S64x2048 .f32) (bm sm : FVec Ideal S1x2048 .f32)
  (X : Fin 1024 → Fin 1024 → EReal) (nw : Fin 1024 → EReal) (W : Fin 4096 → Fin 1024 → EReal)
  (cw : Fin 2048 → Fin 4 → EReal) (cb : Fin 2048 → EReal) (xw : Fin 96 → Fin 2048 → EReal)
  (dw : Fin 2048 → Fin 64 → EReal) (db : Fin 2048 → EReal) (dd : Fin 2048 → EReal)

/-- What a grid point loads of the layer's arrays: rows `256 k …` of the sequence and the eight rows before, the weights whole. -/
structure Loads (k : ℕ) : Prop where
  lt : k < 4
  coord : (i 1).val = k
  cur : ∀ (j : Fin 256) (d : Fin 1024), xb (ix3 0 j d) = X ⟨256 * k + j.val, by omega⟩ d
  prev : ∀ (h : 0 < k) (j : Fin 8) (d : Fin 1024), xh (ix3 0 j d) = X ⟨256 * k + j.val - 8, by omega⟩ d
  nw : ∀ d, w (ix2 0 d) = nw d
  W : ∀ d j, Wm (ix2 d j) = W j d
  c0 : ∀ L, w0 (ix2 0 L) = cw L 0
  c1 : ∀ L, w1 (ix2 0 L) = cw L 1
  c2 : ∀ L, w2 (ix2 0 L) = cw L 2
  c3 : ∀ L, w3 (ix2 0 L) = cw L 3
  cb : ∀ L, b0 (ix2 0 L) = cb L
  xw : ∀ (L : Fin 2048) (q : Fin 96), xm (ix2 L ⟨q.val, by omega⟩) = xw q L
  dw : ∀ q L, dm (ix2 q L) = dw L q
  db : ∀ L, bm (ix2 0 L) = db L
  dd : ∀ L, sm (ix2 0 L) = dd L

variable {i w xh xb Wm w3 b0 w0 w1 w2 xm dm bm sm X nw W cw cb xw dw db dd} {k : ℕ}
variable (B : Loads i w xh xb Wm w3 b0 w0 w1 w2 xm dm bm sm X nw W cw cb xw dw db dd k)
include B

/-- The projection of row `r` of the block with its halo, where the halo exists. -/
theorem pay2_row (r : Fin 264) (j : Fin 4096) (hr : 8 ≤ 256 * k + r.val) (hk : r.val < 8 → 0 < k) :
    k0_pay2 (F := Ideal) w xh xb Wm (ix2 r j) = proj (X ⟨256 * k + r.val - 8, by have := B.lt; omega⟩) nw W j := by
  refine (pay2_apply _ _ _ _ r j).trans ?_
  have e1 : row xh xb r = X ⟨256 * k + r.val - 8, by have := B.lt; omega⟩ := by
    funext d
    rw [row]
    by_cases h : r.val < 8
    · exact (dif_pos h).trans (B.prev (hk h) ⟨r.val, h⟩ d)
    · refine (dif_neg h).trans ((B.cur ⟨r.val - 8, by omega⟩ d).trans (congrFun (congrArg X (Fin.ext ?_)) d))
      show 256 * k + (r.val - 8) = 256 * k + r.val - 8
      omega
  rw [e1]
  exact congrArg₂ (fun a b => proj _ a b j) (funext B.nw) (funext fun j => funext fun d => B.W d j)

/-- Row `r` of the convolution's input: zero in front of the sequence. -/
theorem pay4_row (r : Fin 264) (L : Fin 2048) (hr : 5 ≤ r.val) :
    k0_pay4 (F := Ideal) i w xh xb Wm (ix2 r L) = hp X nw W L (256 * k + (r.val - 5)) := by
  refine (pay4_apply _ _ _ _ i r L).trans ?_
  rw [hp, B.coord]
  have := B.lt
  by_cases h : r.val < 8 ∧ k = 0
  · rw [if_pos h, dif_neg fun e => by omega]
  · rw [if_neg h, dif_pos ⟨by omega, by omega⟩, pay2_row B r _ (by omega) (by omega)]
    exact congrArg (fun x => proj (X x) nw W _) (Fin.ext (by show 256 * k + r.val - 8 = 256 * k + (r.val - 5) - 3; omega))

/-- The last tap's product. -/
theorem pay5_row (j : Fin 256) (L : Fin 2048) :
    k0_pay5 (F := Ideal) i w xh xb Wm w3 (ix2 j L) = hp X nw W L (256 * k + j.val + 3) * cw L 3 := by
  refine (pay5_apply _ _ _ _ i _ j L).trans (congrArg₂ (· * ·) ?_ (B.c3 L))
  refine (pay4_row B ⟨8 + j.val, by omega⟩ L (by show 5 ≤ 8 + j.val; omega)).trans (congrArg _ ?_)
  show 256 * k + (8 + j.val - 5) = _
  omega

/-- The convolved and activated row. -/
theorem pay6_row (j : Fin 256) (L : Fin 2048) :
    k0_pay6 (F := Ideal) (k0_pay4 i w xh xb Wm) (k0_pay5 i w xh xb Wm w3) b0 w0 w1 w2 (ix2 j L) = u X nw W cw cb ⟨256 * k + j.val, by have := B.lt; omega⟩ L := by
  refine (pay6_apply _ _ _ _ _ _ j L).trans ?_
  rw [u, conv, pay4_row B _ L (by show 5 ≤ 5 + j.val; omega), pay4_row B _ L (by show 5 ≤ 6 + j.val; omega), pay4_row B _ L (by show 5 ≤ 7 + j.val; omega),
    pay5_row B j L, B.c0, B.c1, B.c2, B.cb]
  refine congrArg silu ?_
  rw [show 256 * k + (5 + j.val - 5) = 256 * k + j.val from by omega, show 256 * k + (6 + j.val - 5) = 256 * k + j.val + 1 from by omega,
    show 256 * k + (7 + j.val - 5) = 256 * k + j.val + 2 from by omega]
  show _ = hp X nw W L (256 * k + j.val) * cw L 0 + hp X nw W L (256 * k + j.val + 1) * cw L 1 + hp X nw W L (256 * k + j.val + 2) * cw L 2 + hp X nw W L (256 * k + j.val + 3) * cw L 3 + cb L
  exact taps_comm _ _ _ _ _

/-- The state projection's row. -/
theorem pay7_row (j : Fin 256) (q : Fin 96) :
    k0_pay7 (F := Ideal) (k0_pay4 i w xh xb Wm) (k0_pay5 i w xh xb Wm w3) b0 w0 w1 w2 xm (ix2 j ⟨q.val, by omega⟩)
      = ssm X nw W cw cb xw ⟨256 * k + j.val, by have := B.lt; omega⟩ q :=
  (pay7_apply _ _ _ _ _ _ _ j ⟨q.val, by omega⟩).trans (Finset.sum_congr rfl fun L _ => congrArg₂ (· * ·) (pay6_row B j L) (B.xw L q))

/-- The step size's row. -/
theorem pay9_row (j : Fin 256) (L : Fin 2048) :
    softplus (k0_pay9 (F := Ideal) (k0_pay4 i w xh xb Wm) (k0_pay5 i w xh xb Wm w3) b0 w0 w1 w2 xm dm bm (ix2 j L))
      = dt X nw W cw cb xw dw db ⟨256 * k + j.val, by have := B.lt; omega⟩ L :=
  congrArg softplus ((pay9_apply _ _ _ _ _ _ _ _ _ j L).trans (congrArg₂ (· + ·)
    (Finset.sum_congr rfl fun q _ => congrArg₂ (· * ·) (pay7_row B j ⟨q.val, by omega⟩) (B.dw q L)) (B.db L)))

/-- The gate's row. -/
theorem pay3_row (j : Fin 256) (L : Fin 2048) :
    silu (k0_pay3 (F := Ideal) w xh xb Wm (ix2 j L)) = gate X nw W ⟨256 * k + j.val, by have := B.lt; omega⟩ L := by
  refine congrArg silu ((pay3_apply _ _ _ _ j L).trans ((pay2_row B _ _ (by show 8 ≤ 256 * k + (8 + j.val); omega) (fun h => by have h' : 8 + j.val < 8 := h; omega)).trans ?_))
  exact congrArg (fun x => proj (X x) nw W _) (Fin.ext (by show 256 * k + (8 + j.val) - 8 = 256 * k + j.val; omega))

end point

section loads
variable (i : grid0.Coords) (x0 x1 : FVec Ideal S1x256x1024 .f32) (x2 : FVec Ideal S1x1024 .f32) (x3 : FVec Ideal S1024x4096 .bf16) (x4 : FVec Ideal S4x2048 .f32)
  (x5 : FVec Ideal S1x2048 .f32) (x6 : FVec Ideal S2048x128 .bf16) (x7 : FVec Ideal S64x2048 .f32) (x8 x9 : FVec Ideal S1x2048 .f32)
  (X : Fin 1024 → Fin 1024 → EReal) (nw : Fin 1024 → EReal) (W : Fin 4096 → Fin 1024 → EReal)
  (cw : Fin 2048 → Fin 4 → EReal) (cb : Fin 2048 → EReal) (xw : Fin 96 → Fin 2048 → EReal)
  (dw : Fin 2048 → Fin 64 → EReal) (db : Fin 2048 → EReal) (dd : Fin 2048 → EReal)

/-- The last eight rows of a block of the sequence. -/
def tail8 (x : FVec Ideal S1x256x1024 .f32) : FVec Ideal S1x8x1024 .f32 := fun y => x (ix3 0 ⟨248 + (y 1).val, by have : (y 1).val < 8 := (y 1).isLt; omega⟩ (y 2))

/-- One tap's row of the convolution's weight. -/
def tap (q : Fin 4) (x : FVec Ideal S4x2048 .f32) : FVec Ideal S1x2048 .f32 := fun y => x (ix2 q (y 1))

theorem zero2 : (![0, 0] : Fin 2 → ℕ) = fun _ => 0 := by decide
theorem zero3 : (![0, 0, 0] : Fin 3 → ℕ) = fun _ => 0 := by decide

theorem ld_0 (x : FVec Ideal S1x1024 .f32) : View.ld (Val := Elt Ideal) (e' := .f32) x r0_0 = x := View.ld_unit_zero (Val := Elt Ideal) (e := .f32) (S := S1x1024) (off := ![0, 0]) zero2 _ x
theorem ld_2 (x : FVec Ideal S1x256x1024 .f32) : View.ld (Val := Elt Ideal) (e' := .f32) x r0_2 = x := View.ld_unit_zero (Val := Elt Ideal) (e := .f32) (S := S1x256x1024) (off := ![0, 0, 0]) zero3 _ x
theorem ld_3 (x : FVec Ideal S1024x4096 .bf16) : View.ld (Val := Elt Ideal) (e' := .bf16) x r0_3 = x := View.ld_unit_zero (Val := Elt Ideal) (e := .bf16) (S := S1024x4096) (off := ![0, 0]) zero2 _ x
theorem ld_5 (x : FVec Ideal S1x2048 .f32) : View.ld (Val := Elt Ideal) (e' := .f32) x r0_5 = x := View.ld_unit_zero (Val := Elt Ideal) (e := .f32) (S := S1x2048) (off := ![0, 0]) zero2 _ x
theorem ld_9 (x : FVec Ideal S2048x128 .bf16) : View.ld (Val := Elt Ideal) (e' := .bf16) x r0_9 = x := View.ld_unit_zero (Val := Elt Ideal) (e := .bf16) (S := S2048x128) (off := ![0, 0]) zero2 _ x
theorem ld_10 (x : FVec Ideal S64x2048 .f32) : View.ld (Val := Elt Ideal) (e' := .f32) x r0_10 = x := View.ld_unit_zero (Val := Elt Ideal) (e := .f32) (S := S64x2048) (off := ![0, 0]) zero2 _ x

theorem ld_tail : View.ld (Val := Elt Ideal) (e' := .f32) x1 r0_1 = tail8 x1 := by
  funext y
  refine congrArg x1 (funext fun a => Fin.ext ?_)
  have : (y 0).val = 0 := by have : (y 0).val < 1 := (y 0).isLt; omega
  fin_cases a
  · show 0 + 1 * (y 0).val = 0
    omega
  · show 248 + 1 * (y 1).val = 248 + (y 1).val
    omega
  · show 0 + 1 * (y 2).val = (y 2).val
    omega

theorem ld_taps : View.ld (Val := Elt Ideal) (e' := .f32) x4 r0_6 = tap 0 x4 ∧ View.ld (Val := Elt Ideal) (e' := .f32) x4 r0_7 = tap 1 x4
    ∧ View.ld (Val := Elt Ideal) (e' := .f32) x4 r0_8 = tap 2 x4 ∧ View.ld (Val := Elt Ideal) (e' := .f32) x4 r0_4 = tap 3 x4 := by
  refine ⟨?_, ?_, ?_, ?_⟩ <;>
  · funext y
    refine congrArg x4 (funext fun a => Fin.ext ?_)
    have : (y 0).val = 0 := by have : (y 0).val < 1 := (y 0).isLt; omega
    fin_cases a
    · show _ + 1 * (y 0).val = _
      rw [this]
      rfl
    · show 0 + 1 * (y 1).val = (y 1).val
      omega

theorem pay16_eq : k0_pay16 (F := Ideal) i x0 x1 x2 x3 x4 x5 x6 x7 x8 x9 = k0_pay3 x2 (tail8 x1) x0 x3 := by
  unfold k0_pay16
  exact congr (congr (congr (congrArg _ (ld_0 x2)) (ld_tail x1)) (ld_2 x0)) (ld_3 x3)

theorem pay17_eq : k0_pay17 (F := Ideal) i x0 x1 x2 x3 x4 x5 x6 x7 x8 x9 = k0_pay4 i x2 (tail8 x1) x0 x3 := by
  unfold k0_pay17
  exact congr (congr (congr (congrArg _ (ld_0 x2)) (ld_tail x1)) (ld_2 x0)) (ld_3 x3)

theorem pay18_eq : k0_pay18 (F := Ideal) i x0 x1 x2 x3 x4 x5 x6 x7 x8 x9 = k0_pay5 i x2 (tail8 x1) x0 x3 (tap 3 x4) := by
  unfold k0_pay18
  exact congr (congr (congr (congr (congrArg _ (ld_0 x2)) (ld_tail x1)) (ld_2 x0)) (ld_3 x3)) (ld_taps x4).2.2.2

theorem pay19_eq : k0_pay19 (F := Ideal) i x0 x1 x2 x3 x4 x5 x6 x7 x8 x9
    = k0_pay6 (k0_pay4 i x2 (tail8 x1) x0 x3) (k0_pay5 i x2 (tail8 x1) x0 x3 (tap 3 x4)) x5 (tap 0 x4) (tap 1 x4) (tap 2 x4) := by
  unfold k0_pay19
  exact congr (congr (congr (congr (congr (congrArg _ (pay17_eq i x0 x1 x2 x3 x4 x5 x6 x7 x8 x9)) (pay18_eq i x0 x1 x2 x3 x4 x5 x6 x7 x8 x9)) (ld_5 x5))
    (ld_taps x4).1) (ld_taps x4).2.1) (ld_taps x4).2.2.1

theorem pay20_eq : k0_pay20 (F := Ideal) i x0 x1 x2 x3 x4 x5 x6 x7 x8 x9
    = k0_pay9 (k0_pay4 i x2 (tail8 x1) x0 x3) (k0_pay5 i x2 (tail8 x1) x0 x3 (tap 3 x4)) x5 (tap 0 x4) (tap 1 x4) (tap 2 x4) x6 x7 x8 := by
  unfold k0_pay20
  exact congr (congr (congr (congr (congr (congr (congr (congr (congrArg _ (pay17_eq i x0 x1 x2 x3 x4 x5 x6 x7 x8 x9)) (pay18_eq i x0 x1 x2 x3 x4 x5 x6 x7 x8 x9)) (ld_5 x5))
    (ld_taps x4).1) (ld_taps x4).2.1) (ld_taps x4).2.2.1) (ld_9 x6)) (ld_10 x7)) (ld_5 x8)

theorem pay8_eq : k0_pay8 (F := Ideal) (k0_pay17 i x0 x1 x2 x3 x4 x5 x6 x7 x8 x9) (k0_pay18 i x0 x1 x2 x3 x4 x5 x6 x7 x8 x9) (View.ld (Val := Elt Ideal) (e' := .f32) x5 r0_5)
      (View.ld (Val := Elt Ideal) (e' := .f32) x4 r0_6) (View.ld (Val := Elt Ideal) (e' := .f32) x4 r0_7) (View.ld (Val := Elt Ideal) (e' := .f32) x4 r0_8) (View.ld (Val := Elt Ideal) (e' := .bf16) x6 r0_9)
    = k0_pay8 (k0_pay4 i x2 (tail8 x1) x0 x3) (k0_pay5 i x2 (tail8 x1) x0 x3 (tap 3 x4)) x5 (tap 0 x4) (tap 1 x4) (tap 2 x4) x6 :=
  congr (congr (congr (congr (congr (congr (congrArg _ (pay17_eq i x0 x1 x2 x3 x4 x5 x6 x7 x8 x9)) (pay18_eq i x0 x1 x2 x3 x4 x5 x6 x7 x8 x9)) (ld_5 x5))
    (ld_taps x4).1) (ld_taps x4).2.1) (ld_taps x4).2.2.1) (ld_9 x6)

/-- What a grid point's blocks are of the layer's arrays: rows `256 k …` of the sequence and the block before, the weights whole. -/
structure Blocks (k : ℕ) : Prop where
  lt : k < 4
  coord : (i 1).val = k
  cur : ∀ (j : Fin 256) (d : Fin 1024), x0 (ix3 0 j d) = X ⟨256 * k + j.val, by omega⟩ d
  prev : ∀ (h : 0 < k) (j : Fin 256) (d : Fin 1024), x1 (ix3 0 j d) = X ⟨256 * (k - 1) + j.val, by omega⟩ d
  nw : ∀ d, x2 (ix2 0 d) = nw d
  W : ∀ d j, x3 (ix2 d j) = W j d
  cw : ∀ q L, x4 (ix2 q L) = cw L q
  cb : ∀ L, x5 (ix2 0 L) = cb L
  xw : ∀ (L : Fin 2048) (q : Fin 96), x6 (ix2 L ⟨q.val, by omega⟩) = xw q L
  dw : ∀ q L, x7 (ix2 q L) = dw L q
  db : ∀ L, x8 (ix2 0 L) = db L
  dd : ∀ L, x9 (ix2 0 L) = dd L

variable {i x0 x1 x2 x3 x4 x5 x6 x7 x8 x9 X nw W cw cb xw dw db dd} {k : ℕ}
variable (B : Blocks i x0 x1 x2 x3 x4 x5 x6 x7 x8 x9 X nw W cw cb xw dw db dd k)
include B

theorem loads : Loads i x2 (tail8 x1) x0 x3 (tap 3 x4) x5 (tap 0 x4) (tap 1 x4) (tap 2 x4) x6 x7 x8 x9 X nw W cw cb xw dw db dd k where
  lt := B.lt
  coord := B.coord
  cur := B.cur
  prev h j d := (B.prev h ⟨248 + j.val, by omega⟩ d).trans (congrFun (congrArg X (Fin.ext (by show 256 * (k - 1) + (248 + j.val) = 256 * k + j.val - 8; omega))) d)
  nw := B.nw
  W := B.W
  c0 := B.cw 0
  c1 := B.cw 1
  c2 := B.cw 2
  c3 := B.cw 3
  cb := B.cb
  xw := B.xw
  dw := B.dw
  db := B.db
  dd := B.dd

/-- The step sizes of a grid point. -/
theorem out10_row (j : Fin 256) (L : Fin 2048) :
    (out0_10 (F := Ideal) i x0 x1 x2 x3 x4 x5 x6 x7 x8 x9 : FVec Ideal S1x256x2048 .bf16) (ix3 0 j L) = dt X nw W cw cb xw dw db ⟨256 * k + j.val, by have := B.lt; omega⟩ L := by
  unfold out0_10
  rw [View.canon_unit_zero (by decide), pay20_eq]
  exact (pay12_apply _ j L).trans (pay9_row (loads B) j L)

/-- The step sizes times the inputs of a grid point. -/
theorem out11_row (j : Fin 256) (L : Fin 2048) :
    (out0_11 (F := Ideal) i x0 x1 x2 x3 x4 x5 x6 x7 x8 x9 : FVec Ideal S1x256x2048 .bf16) (ix3 0 j L)
      = dt X nw W cw cb xw dw db ⟨256 * k + j.val, by have := B.lt; omega⟩ L * u X nw W cw cb ⟨256 * k + j.val, by have := B.lt; omega⟩ L := by
  unfold out0_11
  rw [View.canon_unit_zero (by decide), pay20_eq, pay19_eq]
  exact (pay13_apply _ _ j L).trans (congrArg₂ (· * ·) (pay9_row (loads B) j L) (pay6_row (loads B) j L))

/-- The gates of a grid point. -/
theorem out12_row (j : Fin 256) (L : Fin 2048) :
    (out0_12 (F := Ideal) i x0 x1 x2 x3 x4 x5 x6 x7 x8 x9 : FVec Ideal S1x256x2048 .bf16) (ix3 0 j L) = gate X nw W ⟨256 * k + j.val, by have := B.lt; omega⟩ L := by
  unfold out0_12
  rw [View.canon_unit_zero (by decide), pay16_eq]
  exact (pay14_apply _ j L).trans (pay3_row (loads B) j L)

/-- The gated skip terms of a grid point. -/
theorem out13_row (j : Fin 256) (L : Fin 2048) :
    (out0_13 (F := Ideal) i x0 x1 x2 x3 x4 x5 x6 x7 x8 x9 : FVec Ideal S1x256x2048 .bf16) (ix3 0 j L) = skip X nw W cw cb dd ⟨256 * k + j.val, by have := B.lt; omega⟩ L := by
  unfold out0_13
  rw [View.canon_unit_zero (by decide), pay16_eq, pay19_eq]
  refine (pay15_apply _ _ _ j L).trans (congrArg₂ (· * ·) (congrArg₂ (· * ·) (pay6_row (loads B) j L) ?_) (pay3_row (loads B) j L))
  exact (congrFun (ld_5 x9) (ix2 0 L)).trans (B.dd L)

/-- The state rows of a grid point, transposed. -/
theorem out14_row (q : Fin 32) (j : Fin 256) :
    (out0_14 (F := Ideal) i x0 x1 x2 x3 x4 x5 x6 x7 x8 x9 : FVec Ideal S1x32x256 .f32) (ix3 0 q j) = ssm X nw W cw cb xw ⟨256 * k + j.val, by have := B.lt; omega⟩ ⟨64 + q.val, by omega⟩ := by
  unfold out0_14
  rw [View.canon_unit_zero (by decide), pay8_eq]
  exact (pay1_apply _ q j).trans ((pay8_apply _ _ _ _ _ _ _ j q).trans (pay7_row (loads B) j ⟨64 + q.val, by omega⟩))

end loads

end Cert.TokIdeal.Rows
-- ==== Proof.TokFinal.lean ====
module

public import proofs.«01_k».proof.Proof.TokBlocks
public import proofs.«01_k».proof.Proof.Gen.TokIdeal.Value

@[expose] public section

set_option maxRecDepth 16384

noncomputable section

namespace Cert.TokIdeal.Rows

open Cert.TokIdeal Cert.TokIdeal.Gen Cert.TokMath
open Idealize.ShloMosaic Idealize.ShloMosaic.TcCoe Idealize.SL.Sem
open Idealize.ShloMosaic.Pipeline (Dat)

variable (m : (ℓ : Loc nD τ sig) → Buf (Elt Ideal) ℓ)

/-! ## The arrays the host prepares, at coordinates -/

theorem V_main_v1 (c : Dev nD) (d : Fin 1024) (j : Fin 4096) :
    (V m c main_v1 : FVec Ideal S1024x4096 .bf16) (ix2 d j) = (m ((c : Thread nD τ).loc main_arg1) : FVec Ideal S4096x1024 .f32) (ix2 j d) := by
  have h : V m c main_v1 = (truncf (F := Ideal) (s := S1024x4096) (φ := .f32) FTy.bf16 (transpose S1024x4096 [1, 0] (m ((c : Thread nD τ).loc main_arg1) : FVec Ideal S4096x1024 .f32) transposes_S4096x1024_S1024x4096_1_0) bitsLt_bf16_f32 : FVec Ideal S1024x4096 .bf16) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
  rw [h]
  pointwise []

theorem V_main_v2 (c : Dev nD) (q : Fin 4) (L : Fin 2048) :
    (V m c main_v2 : FVec Ideal S4x2048 .f32) (ix2 q L) = (m ((c : Thread nD τ).loc main_arg2) : FVec Ideal S2048x4 .f32) (ix2 L q) := by
  have h : V m c main_v2 = (transpose S4x2048 [1, 0] (m ((c : Thread nD τ).loc main_arg2) : FVec Ideal S2048x4 .f32) transposes_S2048x4_S4x2048_1_0 : FVec Ideal S4x2048 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
  rw [h]
  pointwise []

theorem V_main_v3 (c : Dev nD) (L : Fin 2048) :
    (V m c main_v3 : FVec Ideal S1x2048 .f32) (ix2 0 L) = (m ((c : Thread nD τ).loc main_arg3) : FVec Ideal S2048 .f32) (ix1 L) := by
  have h : V m c main_v3 = (shapeCast S1x2048 (m ((c : Thread nD τ).loc main_arg3) : FVec Ideal S2048 .f32) shapeCasts_S2048_S1x2048 : FVec Ideal S1x2048 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
    rfl
  rw [h]
  pointwise []

theorem V_main_v6 (c : Dev nD) (L : Fin 2048) (q : Fin 96) :
    (V m c main_v6 : FVec Ideal S2048x128 .bf16) (ix2 L ⟨q.val, by omega⟩) = (m ((c : Thread nD τ).loc main_arg4) : FVec Ideal S96x2048 .f32) (ix2 q L) := by
  have h : V m c main_v6 = (truncf (F := Ideal) (s := S2048x128) (φ := .f32) FTy.bf16 (pad S2048x128 ![0, 0] ![0, 32] ![0, 0]
      (transpose S2048x96 [1, 0] (m ((c : Thread nD τ).loc main_arg4) : FVec Ideal S96x2048 .f32) transposes_S96x2048_S2048x96_1_0) (sitofp (F := Ideal) .f32 (constantI S_ 32 0#32)) pads_S2048x96_S2048x128_000_0320 h_S_) bitsLt_bf16_f32 : FVec Ideal S2048x128 .bf16) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
  rw [h]
  pointwise []

theorem V_main_v7 (c : Dev nD) (q : Fin 64) (L : Fin 2048) :
    (V m c main_v7 : FVec Ideal S64x2048 .f32) (ix2 q L) = (m ((c : Thread nD τ).loc main_arg5) : FVec Ideal S2048x64 .f32) (ix2 L q) := by
  have h : V m c main_v7 = (transpose S64x2048 [1, 0] (m ((c : Thread nD τ).loc main_arg5) : FVec Ideal S2048x64 .f32) transposes_S2048x64_S64x2048_1_0 : FVec Ideal S64x2048 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
  rw [h]
  pointwise []

theorem V_main_v8 (c : Dev nD) (L : Fin 2048) :
    (V m c main_v8 : FVec Ideal S1x2048 .f32) (ix2 0 L) = (m ((c : Thread nD τ).loc main_arg6) : FVec Ideal S2048 .f32) (ix1 L) := by
  have h : V m c main_v8 = (shapeCast S1x2048 (m ((c : Thread nD τ).loc main_arg6) : FVec Ideal S2048 .f32) shapeCasts_S2048_S1x2048 : FVec Ideal S1x2048 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
    rfl
  rw [h]
  pointwise []

theorem V_main_v9 (c : Dev nD) (L : Fin 2048) :
    (V m c main_v9 : FVec Ideal S1x2048 .f32) (ix2 0 L) = (m ((c : Thread nD τ).loc main_arg7) : FVec Ideal S2048 .f32) (ix1 L) := by
  have h : V m c main_v9 = (shapeCast S1x2048 (m ((c : Thread nD τ).loc main_arg7) : FVec Ideal S2048 .f32) shapeCasts_S2048_S1x2048 : FVec Ideal S1x2048 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
    rfl
  rw [h]
  pointwise []

theorem V_main_v10 (c : Dev nD) (d : Fin 1024) :
    (V m c main_v10 : FVec Ideal S1x1024 .f32) (ix2 0 d) = (m ((c : Thread nD τ).loc main_arg8) : FVec Ideal S1024 .f32) (ix1 d) := by
  have h : V m c main_v10 = (shapeCast S1x1024 (m ((c : Thread nD τ).loc main_arg8) : FVec Ideal S1024 .f32) shapeCasts_S1024_S1x1024 : FVec Ideal S1x1024 .f32) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results_simp
    rfl
  rw [h]
  pointwise []

/-! ## What each window's block is of its array -/

/-- The block index of every window at grid point `t`: batch row `t / 4`, block `t % 4` of the sequence. -/
theorem idx : ∀ t : Fin cfg0.N,
    win0_0.index t = ![t.val / 4, t.val % 4, 0] ∧ win0_1.index t = ![t.val / 4, t.val % 4 - 1, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val / 4, t.val % 4, 0] ∧ win0_11.index t = ![t.val / 4, t.val % 4, 0] ∧ win0_12.index t = ![t.val / 4, t.val % 4, 0]
    ∧ win0_13.index t = ![t.val / 4, t.val % 4, 0] ∧ win0_14.index t = ![t.val / 4, 0, t.val % 4] ∧ (grid0.coords t 1).val = t.val % 4 :=
  (by decide +kernel : ∀ t : Fin grid0.N, _)

theorem lt16 (t : Fin cfg0.N) : t.val < 16 := lt_of_lt_of_eq t.isLt (show cfg0.N = 16 from N_0)

/-- The batch row of grid point `t`. -/
abbrev bOf (t : Fin cfg0.N) : Fin 4 := ⟨t.val / 4, by have := lt16 t; omega⟩
/-- Row `j` of grid point `t`'s block in the sequence. -/
abbrev tOf (t : Fin cfg0.N) (j : Fin 256) : Fin 1024 := ⟨256 * (t.val % 4) + j.val, by omega⟩

theorem iblk0_apply (c : Dev nD) (t : Fin cfg0.N) (j : Fin 256) (d : Fin 1024) : iblk m c 0 t (ix3 0 j d) = V m c main_arg0 (ix3 (bOf t) (tOf t j) d) := by
  blk_point [iblk, idx t]
theorem iblk1_apply (c : Dev nD) (t : Fin cfg0.N) (j : Fin 256) (d : Fin 1024) :
    iblk m c 1 t (ix3 0 j d) = V m c main_arg0 (ix3 (bOf t) ⟨256 * (t.val % 4 - 1) + j.val, by omega⟩ d) := by
  blk_point [iblk, idx t]
theorem iblk2_apply (c : Dev nD) (t : Fin cfg0.N) (d : Fin 1024) : iblk m c 2 t (ix2 0 d) = V m c main_v10 (ix2 0 d) := by
  blk_point [iblk, idx t]
theorem iblk3_apply (c : Dev nD) (t : Fin cfg0.N) (d : Fin 1024) (j : Fin 4096) : iblk m c 3 t (ix2 d j) = V m c main_v1 (ix2 d j) := by
  blk_point [iblk, idx t]
theorem iblk4_apply (c : Dev nD) (t : Fin cfg0.N) (q : Fin 4) (L : Fin 2048) : iblk m c 4 t (ix2 q L) = V m c main_v2 (ix2 q L) := by
  blk_point [iblk, idx t]
theorem iblk5_apply (c : Dev nD) (t : Fin cfg0.N) (L : Fin 2048) : iblk m c 5 t (ix2 0 L) = V m c main_v3 (ix2 0 L) := by
  blk_point [iblk, idx t]
theorem iblk6_apply (c : Dev nD) (t : Fin cfg0.N) (L : Fin 2048) (q : Fin 128) : iblk m c 6 t (ix2 L q) = V m c main_v6 (ix2 L q) := by
  blk_point [iblk, idx t]
theorem iblk7_apply (c : Dev nD) (t : Fin cfg0.N) (q : Fin 64) (L : Fin 2048) : iblk m c 7 t (ix2 q L) = V m c main_v7 (ix2 q L) := by
  blk_point [iblk, idx t]
theorem iblk8_apply (c : Dev nD) (t : Fin cfg0.N) (L : Fin 2048) : iblk m c 8 t (ix2 0 L) = V m c main_v8 (ix2 0 L) := by
  blk_point [iblk, idx t]
theorem iblk9_apply (c : Dev nD) (t : Fin cfg0.N) (L : Fin 2048) : iblk m c 9 t (ix2 0 L) = V m c main_v9 (ix2 0 L) := by
  blk_point [iblk, idx t]

/-! ## The layer's arrays as launched, and the results -/

section
variable (c : Dev nD)
abbrev gX (b : Fin 4) : Fin 1024 → Fin 1024 → EReal := fun t d => (m ((c : Thread nD τ).loc main_arg0) : FVec Ideal S4x1024x1024 .f32) (ix3 b t d)
abbrev gnw : Fin 1024 → EReal := fun d => (m ((c : Thread nD τ).loc main_arg8) : FVec Ideal S1024 .f32) (ix1 d)
abbrev gW : Fin 4096 → Fin 1024 → EReal := fun j d => (m ((c : Thread nD τ).loc main_arg1) : FVec Ideal S4096x1024 .f32) (ix2 j d)
abbrev gcw : Fin 2048 → Fin 4 → EReal := fun L k => (m ((c : Thread nD τ).loc main_arg2) : FVec Ideal S2048x4 .f32) (ix2 L k)
abbrev gcb : Fin 2048 → EReal := fun L => (m ((c : Thread nD τ).loc main_arg3) : FVec Ideal S2048 .f32) (ix1 L)
abbrev gxw : Fin 96 → Fin 2048 → EReal := fun q L => (m ((c : Thread nD τ).loc main_arg4) : FVec Ideal S96x2048 .f32) (ix2 q L)
abbrev gdw : Fin 2048 → Fin 64 → EReal := fun L k => (m ((c : Thread nD τ).loc main_arg5) : FVec Ideal S2048x64 .f32) (ix2 L k)
abbrev gdb : Fin 2048 → EReal := fun L => (m ((c : Thread nD τ).loc main_arg6) : FVec Ideal S2048 .f32) (ix1 L)
abbrev gdd : Fin 2048 → EReal := fun L => (m ((c : Thread nD τ).loc main_arg7) : FVec Ideal S2048 .f32) (ix1 L)

theorem blocks (t : Fin cfg0.N) : Blocks (grid0.coords t) (iblk m c 0 t) (iblk m c 1 t) (iblk m c 2 t) (iblk m c 3 t) (iblk m c 4 t) (iblk m c 5 t)
    (iblk m c 6 t) (iblk m c 7 t) (iblk m c 8 t) (iblk m c 9 t) (gX m c (bOf t)) (gnw m c) (gW m c) (gcw m c) (gcb m c) (gxw m c) (gdw m c) (gdb m c) (gdd m c) (t.val % 4) where
  lt := by omega
  coord := (idx t).2.2.2.2.2.2.2.2.2.2.2.2.2.2.2
  cur j d := by rw [iblk0_apply, V_main_arg0]
  prev h j d := by rw [iblk1_apply, V_main_arg0]
  nw d := by rw [iblk2_apply, V_main_v10]
  W d j := by rw [iblk3_apply, V_main_v1]
  cw q L := by rw [iblk4_apply, V_main_v2]
  cb L := by rw [iblk5_apply, V_main_v3]
  xw L q := by rw [iblk6_apply, V_main_v6]
  dw q L := by rw [iblk7_apply, V_main_v7]
  db L := by rw [iblk8_apply, V_main_v8]
  dd L := by rw [iblk9_apply, V_main_v9]

/-- The step sizes. -/
def rDt : FVec Ideal S4x1024x2048 .bf16 := fun i => dt (gX m c (i 0)) (gnw m c) (gW m c) (gcw m c) (gcb m c) (gxw m c) (gdw m c) (gdb m c) (i 1) (i 2)
/-- The step sizes times the scan's inputs. -/
def rDtu : FVec Ideal S4x1024x2048 .bf16 := fun i => rDt m c i * u (gX m c (i 0)) (gnw m c) (gW m c) (gcw m c) (gcb m c) (i 1) (i 2)
/-- The gates. -/
def rGate : FVec Ideal S4x1024x2048 .bf16 := fun i => gate (gX m c (i 0)) (gnw m c) (gW m c) (i 1) (i 2)
/-- The gated skip terms. -/
def rSkip : FVec Ideal S4x1024x2048 .bf16 := fun i => skip (gX m c (i 0)) (gnw m c) (gW m c) (gcw m c) (gcb m c) (gdd m c) (i 1) (i 2)
/-- The rows `B` and `C` of the recurrence, transposed. -/
def rBC : FVec Ideal S4x32x1024 .f32 := fun i => ssm (gX m c (i 0)) (gnw m c) (gW m c) (gcw m c) (gcb m c) (gxw m c) (i 2) ⟨64 + (i 1).val, by have : (i 1).val < 32 := (i 1).isLt; omega⟩

theorem final10 : (dats m 0 c).arrAt 10 (cfgs 0).N = rDt m c := by
  refine (dats m 0 c).arrAt_eq_of_covers 10 _ (by decide +kernel) fun t _ y => ?_
  blk_simp
  rw [after0_10]
  idx_vars y
  obtain rfl : y0 = 0 := Subsingleton.elim _ _
  refine (out10_row (blocks m c t) y1 y2).trans (congrArg (rDt m c) (a₁ := ix3 (bOf t) (tOf t y1) y2) ?_)
  blk_ext [idx t]

theorem final11 : (dats m 0 c).arrAt 11 (cfgs 0).N = rDtu m c := by
  refine (dats m 0 c).arrAt_eq_of_covers 11 _ (by decide +kernel) fun t _ y => ?_
  blk_simp
  rw [after0_11]
  idx_vars y
  obtain rfl : y0 = 0 := Subsingleton.elim _ _
  refine (out11_row (blocks m c t) y1 y2).trans (congrArg (rDtu m c) (a₁ := ix3 (bOf t) (tOf t y1) y2) ?_)
  blk_ext [idx t]

theorem final12 : (dats m 0 c).arrAt 12 (cfgs 0).N = rGate m c := by
  refine (dats m 0 c).arrAt_eq_of_covers 12 _ (by decide +kernel) fun t _ y => ?_
  blk_simp
  rw [after0_12]
  idx_vars y
  obtain rfl : y0 = 0 := Subsingleton.elim _ _
  refine (out12_row (blocks m c t) y1 y2).trans (congrArg (rGate m c) (a₁ := ix3 (bOf t) (tOf t y1) y2) ?_)
  blk_ext [idx t]

theorem final13 : (dats m 0 c).arrAt 13 (cfgs 0).N = rSkip m c := by
  refine (dats m 0 c).arrAt_eq_of_covers 13 _ (by decide +kernel) fun t _ y => ?_
  blk_simp
  rw [after0_13]
  idx_vars y
  obtain rfl : y0 = 0 := Subsingleton.elim _ _
  refine (out13_row (blocks m c t) y1 y2).trans (congrArg (rSkip m c) (a₁ := ix3 (bOf t) (tOf t y1) y2) ?_)
  blk_ext [idx t]

theorem final14 : (dats m 0 c).arrAt 14 (cfgs 0).N = rBC m c := by
  refine (dats m 0 c).arrAt_eq_of_covers 14 _ (by decide +kernel) fun t _ y => ?_
  blk_simp
  rw [after0_14]
  idx_vars y
  obtain rfl : y0 = 0 := Subsingleton.elim _ _
  refine (out14_row (blocks m c t) y1 y2).trans (congrArg (rBC m c) (a₁ := ix3 (bOf t) y1 (tOf t y2)) ?_)
  blk_ext [idx t]
end

end Cert.TokIdeal.Rows

end
-- ==== Proof.TokRefOps.lean ====
module

public import proofs.«01_k».proof.Proof.TokSpec
public import proofs.«01_k».proof.Proof.Gen.TokReferenceIdeal
public import Idealize.ShloMosaic.Lib.StableHlo.Run
public import Idealize.ShloMosaic.Lib.Pointwise

@[expose] public section

set_option maxRecDepth 16384

noncomputable section

namespace Cert.TokReferenceIdeal.Stages

open Cert.TokReferenceIdeal Cert.TokReferenceIdeal.Gen
open Idealize.ShloMosaic Idealize.ShloMosaic.TcCoe Idealize.ShloMosaic.StableHlo Idealize.SL.Sem

variable {F : FTy → Type} [FloatOps F]

/-- The reference's `B` and `C`, side by side. -/
def catBC : (⟨S4x1024x16, .f32⟩ : BufTy).Contents (Elt F) → (⟨S4x1024x16, .f32⟩ : BufTy).Contents (Elt F) → (⟨S4x1024x32, .f32⟩ : BufTy).Contents (Elt F) :=
  fun a b => concatenate S4x1024x32 2 [⟨S4x1024x16, a⟩, ⟨S4x1024x16, b⟩] concatenates_S4x1024x16_S4x1024x16_S4x1024x32_d2

/-- The reference's operations, in order: the normalised rows and the first projection. -/
abbrev ops0 : List (HloOp τ sig (Elt F)) :=
  [ binary main_arg0 main_arg0 main_v0 (mulf : (⟨S4x1024x1024, .f32⟩ : BufTy).Contents (Elt F) → (⟨S4x1024x1024, .f32⟩ : BufTy).Contents (Elt F) → (⟨S4x1024x1024, .f32⟩ : BufTy).Contents (Elt F)),
    nullary main_cst (constant S_ .f32 0x00000000#32),
    binary main_v0 main_cst main_v1 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    unary main_v1 main_v2 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_0 (constant S_ .f32 0x44800000#32),
    unary main_cst_0 main_v3 (broadcastInDim S4x1024x1 ![] bcast_S_S4x1024x1 : (⟨S_, .f32⟩ : BufTy).Contents (Elt F) → (⟨S4x1024x1, .f32⟩ : BufTy).Contents (Elt F)),
    binary main_v2 main_v3 main_v4 (Host.divf : (⟨S4x1024x1, .f32⟩ : BufTy).Contents (Elt F) → (⟨S4x1024x1, .f32⟩ : BufTy).Contents (Elt F) → (⟨S4x1024x1, .f32⟩ : BufTy).Contents (Elt F)),
    nullary main_cst_1 (constant S_ .f32 0x3727C5AC#32),
    unary main_cst_1 main_v5 (broadcastInDim S4x1024x1 ![] bcast_S_S4x1024x1 : (⟨S_, .f32⟩ : BufTy).Contents (Elt F) → (⟨S4x1024x1, .f32⟩ : BufTy).Contents (Elt F)),
    binary main_v4 main_v5 main_v6 (addf : (⟨S4x1024x1, .f32⟩ : BufTy).Contents (Elt F) → (⟨S4x1024x1, .f32⟩ : BufTy).Contents (Elt F) → (⟨S4x1024x1, .f32⟩ : BufTy).Contents (Elt F)),
    unary main_v6 main_v7 (Host.rsqrt : (⟨S4x1024x1, .f32⟩ : BufTy).Contents (Elt F) → (⟨S4x1024x1, .f32⟩ : BufTy).Contents (Elt F)),
    unary main_v7 main_v8 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    binary main_arg0 main_v8 main_v9 (mulf : (⟨S4x1024x1024, .f32⟩ : BufTy).Contents (Elt F) → (⟨S4x1024x1024, .f32⟩ : BufTy).Contents (Elt F) → (⟨S4x1024x1024, .f32⟩ : BufTy).Contents (Elt F)),
    unary main_arg8 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    binary main_v9 main_v11 main_v12 (mulf : (⟨S4x1024x1024, .f32⟩ : BufTy).Contents (Elt F) → (⟨S4x1024x1024, .f32⟩ : BufTy).Contents (Elt F) → (⟨S4x1024x1024, .f32⟩ : BufTy).Contents (Elt F)),
    unary main_arg1 main_v13 ((transpose S1024x4096 [1, 0] · transposes_S4096x1024_S1024x4096_1_0) : (⟨S4096x1024, .f32⟩ : BufTy).Contents (Elt F) → (⟨S1024x4096, .f32⟩ : BufTy).Contents (Elt F)),
    binary main_v12 main_v13 main_v14 ((fun l r => Host.dotGeneral dot_S4x1024x1024_S1024x4096_S4x1024x4096_2_0_01_1_n_n none l r) : (⟨S4x1024x1024, .f32⟩ : BufTy).Contents (Elt F) → (⟨S1024x4096, .f32⟩ : BufTy).Contents (Elt F) → (⟨S4x1024x4096, .f32⟩ : BufTy).Contents (Elt F)),
    unary main_v14 main_v15 ((extractStridedSlice S4x1024x2048 ![0, 0, 0] · slices_S4x1024x4096_S4x1024x2048_0_0_0) : (⟨S4x1024x4096, .f32⟩ : BufTy).Contents (Elt F) → (⟨S4x1024x2048, .f32⟩ : BufTy).Contents (Elt F)),
    unary main_v14 main_v16 ((extractStridedSlice S4x1024x2048 ![0, 0, 2048] · slices_S4x1024x4096_S4x1024x2048_0_0_2048) : (⟨S4x1024x4096, .f32⟩ : BufTy).Contents (Elt F) → (⟨S4x1024x2048, .f32⟩ : BufTy).Contents (Elt F)) ]

/-- The reference's operations, in order: the causal convolution. -/
abbrev ops1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x1024x2048, .f32⟩) main_v15) (TRef.of (T := ⟨S_, .f32⟩) main_call0_v0) (TRef.of (T := ⟨S4x1027x2048, .f32⟩) main_v17) (fun x v => pad S4x1027x2048 ![0, 3, 0] ![0, 0, 0] ![0, 0, 0] x v pads_S4x1024x2048_S4x1027x2048_000_300_000 h_S_),
    unary main_v17 main_v18 ((extractStridedSlice S4x1024x2048 ![0, 0, 0] · slices_S4x1027x2048_S4x1024x2048_0_0_0) : (⟨S4x1027x2048, .f32⟩ : BufTy).Contents (Elt F) → (⟨S4x1024x2048, .f32⟩ : BufTy).Contents (Elt F)),
    unary main_arg2 main_v19 ((extractStridedSlice S2048x1 ![0, 0] · slices_S2048x4_S2048x1_0_0) : (⟨S2048x4, .f32⟩ : BufTy).Contents (Elt F) → (⟨S2048x1, .f32⟩ : BufTy).Contents (Elt F)),
    reshape main_v19 main_v20 (rfl : (.f32 : EltTy) = .f32) shapeCasts_S2048x1_S2048,
    unary main_v20 main_v21 (broadcastInDim S1x1x2048 ![2] bcast_S2048_S1x1x2048_2 : (⟨S2048, .f32⟩ : BufTy).Contents (Elt F) → (⟨S1x1x2048, .f32⟩ : BufTy).Contents (Elt F)),
    unary main_v21 main_v22 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v18 main_v22 main_v23 (mulf : (⟨S4x1024x2048, .f32⟩ : BufTy).Contents (Elt F) → (⟨S4x1024x2048, .f32⟩ : BufTy).Contents (Elt F) → (⟨S4x1024x2048, .f32⟩ : BufTy).Contents (Elt F)),
    nullary main_cst_2 (constant S_ .f32 0x00000000#32),
    unary main_cst_2 main_v24 (broadcastInDim S4x1024x2048 ![] bcast_S_S4x1024x2048 : (⟨S_, .f32⟩ : BufTy).Contents (Elt F) → (⟨S4x1024x2048, .f32⟩ : BufTy).Contents (Elt F)),
    binary main_v24 main_v23 main_v25 (addf : (⟨S4x1024x2048, .f32⟩ : BufTy).Contents (Elt F) → (⟨S4x1024x2048, .f32⟩ : BufTy).Contents (Elt F) → (⟨S4x1024x2048, .f32⟩ : BufTy).Contents (Elt F)),
    unary main_v17 main_v26 ((extractStridedSlice S4x1024x2048 ![0, 1, 0] · slices_S4x1027x2048_S4x1024x2048_0_1_0) : (⟨S4x1027x2048, .f32⟩ : BufTy).Contents (Elt F) → (⟨S4x1024x2048, .f32⟩ : BufTy).Contents (Elt F)),
    unary main_arg2 main_v27 ((extractStridedSlice S2048x1 ![0, 1] · slices_S2048x4_S2048x1_0_1) : (⟨S2048x4, .f32⟩ : BufTy).Contents (Elt F) → (⟨S2048x1, .f32⟩ : BufTy).Contents (Elt F)),
    reshape main_v27 main_v28 (rfl : (.f32 : EltTy) = .f32) shapeCasts_S2048x1_S2048,
    unary main_v28 main_v29 (broadcastInDim S1x1x2048 ![2] bcast_S2048_S1x1x2048_2 : (⟨S2048, .f32⟩ : BufTy).Contents (Elt F) → (⟨S1x1x2048, .f32⟩ : BufTy).Contents (Elt F)),
    unary main_v29 main_v30 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v26 main_v30 main_v31 (mulf : (⟨S4x1024x2048, .f32⟩ : BufTy).Contents (Elt F) → (⟨S4x1024x2048, .f32⟩ : BufTy).Contents (Elt F) → (⟨S4x1024x2048, .f32⟩ : BufTy).Contents (Elt F)),
    binary main_v25 main_v31 main_v32 (addf : (⟨S4x1024x2048, .f32⟩ : BufTy).Contents (Elt F) → (⟨S4x1024x2048, .f32⟩ : BufTy).Contents (Elt F) → (⟨S4x1024x2048, .f32⟩ : BufTy).Contents (Elt F)),
    unary main_v17 main_v33 ((extractStridedSlice S4x1024x2048 ![0, 2, 0] · slices_S4x1027x2048_S4x1024x2048_0_2_0) : (⟨S4x1027x2048, .f32⟩ : BufTy).Contents (Elt F) → (⟨S4x1024x2048, .f32⟩ : BufTy).Contents (Elt F)),
    unary main_arg2 main_v34 ((extractStridedSlice S2048x1 ![0, 2] · slices_S2048x4_S2048x1_0_2) : (⟨S2048x4, .f32⟩ : BufTy).Contents (Elt F) → (⟨S2048x1, .f32⟩ : BufTy).Contents (Elt F)),
    reshape main_v34 main_v35 (rfl : (.f32 : EltTy) = .f32) shapeCasts_S2048x1_S2048,
    unary main_v35 main_v36 (broadcastInDim S1x1x2048 ![2] bcast_S2048_S1x1x2048_2 : (⟨S2048, .f32⟩ : BufTy).Contents (Elt F) → (⟨S1x1x2048, .f32⟩ : BufTy).Contents (Elt F)),
    unary main_v36 main_v37 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v33 main_v37 main_v38 (mulf : (⟨S4x1024x2048, .f32⟩ : BufTy).Contents (Elt F) → (⟨S4x1024x2048, .f32⟩ : BufTy).Contents (Elt F) → (⟨S4x1024x2048, .f32⟩ : BufTy).Contents (Elt F)),
    binary main_v32 main_v38 main_v39 (addf : (⟨S4x1024x2048, .f32⟩ : BufTy).Contents (Elt F) → (⟨S4x1024x2048, .f32⟩ : BufTy).Contents (Elt F) → (⟨S4x1024x2048, .f32⟩ : BufTy).Contents (Elt F)),
    unary main_v17 main_v40 ((extractStridedSlice S4x1024x2048 ![0, 3, 0] · slices_S4x1027x2048_S4x1024x2048_0_3_0) : (⟨S4x1027x2048, .f32⟩ : BufTy).Contents (Elt F) → (⟨S4x1024x2048, .f32⟩ : BufTy).Contents (Elt F)),
    unary main_arg2 main_v41 ((extractStridedSlice S2048x1 ![0, 3] · slices_S2048x4_S2048x1_0_3) : (⟨S2048x4, .f32⟩ : BufTy).Contents (Elt F) → (⟨S2048x1, .f32⟩ : BufTy).Contents (Elt F)),
    reshape main_v41 main_v42 (rfl : (.f32 : EltTy) = .f32) shapeCasts_S2048x1_S2048,
    unary main_v42 main_v43 (broadcastInDim S1x1x2048 ![2] bcast_S2048_S1x1x2048_2 : (⟨S2048, .f32⟩ : BufTy).Contents (Elt F) → (⟨S1x1x2048, .f32⟩ : BufTy).Contents (Elt F)),
    unary main_v43 main_v44 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v40 main_v44 main_v45 (mulf : (⟨S4x1024x2048, .f32⟩ : BufTy).Contents (Elt F) → (⟨S4x1024x2048, .f32⟩ : BufTy).Contents (Elt F) → (⟨S4x1024x2048, .f32⟩ : BufTy).Contents (Elt F)),
    binary main_v39 main_v45 main_v46 (addf : (⟨S4x1024x2048, .f32⟩ : BufTy).Contents (Elt F) → (⟨S4x1024x2048, .f32⟩ : BufTy).Contents (Elt F) → (⟨S4x1024x2048, .f32⟩ : BufTy).Contents (Elt F)),
    unary main_arg3 main_v47 (broadcastInDim S1x1x2048 ![2] bcast_S2048_S1x1x2048_2 : (⟨S2048, .f32⟩ : BufTy).Contents (Elt F) → (⟨S1x1x2048, .f32⟩ : BufTy).Contents (Elt F)),
    unary main_v47 main_v48 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v46 main_v48 main_v49 (addf : (⟨S4x1024x2048, .f32⟩ : BufTy).Contents (Elt F) → (⟨S4x1024x2048, .f32⟩ : BufTy).Contents (Elt F) → (⟨S4x1024x2048, .f32⟩ : BufTy).Contents (Elt F)) ]

/-- The reference's operations, in order: its activation and the second projection. -/
abbrev ops2 : List (HloOp τ sig (Elt F)) :=
  [ TRef.unary (TRef.of (T := ⟨S4x1024x2048, .f32⟩) main_v49) (TRef.of (T := ⟨S4x1024x2048, .f32⟩) main_call1_v0) Host.negf,
    TRef.unary (TRef.of (T := ⟨S4x1024x2048, .f32⟩) main_call1_v0) (TRef.of (T := ⟨S4x1024x2048, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x1024x2048, .f32⟩) main_call1_v2) (broadcastInDim S4x1024x2048 ![] bcast_S_S4x1024x2048),
    TRef.binary (TRef.of (T := ⟨S4x1024x2048, .f32⟩) main_call1_v2) (TRef.of (T := ⟨S4x1024x2048, .f32⟩) main_call1_v1) (TRef.of (T := ⟨S4x1024x2048, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x1024x2048, .f32⟩) main_call1_v4) (broadcastInDim S4x1024x2048 ![] bcast_S_S4x1024x2048),
    TRef.binary (TRef.of (T := ⟨S4x1024x2048, .f32⟩) main_call1_v4) (TRef.of (T := ⟨S4x1024x2048, .f32⟩) main_call1_v3) (TRef.of (T := ⟨S4x1024x2048, .f32⟩) main_call1_v5) Host.divf,
    TRef.binary (TRef.of (T := ⟨S4x1024x2048, .f32⟩) main_v49) (TRef.of (T := ⟨S4x1024x2048, .f32⟩) main_call1_v5) (TRef.of (T := ⟨S4x1024x2048, .f32⟩) main_v50) mulf,
    unary main_arg4 main_v51 ((transpose S2048x96 [1, 0] · transposes_S96x2048_S2048x96_1_0) : (⟨S96x2048, .f32⟩ : BufTy).Contents (Elt F) → (⟨S2048x96, .f32⟩ : BufTy).Contents (Elt F)),
    binary main_v50 main_v51 main_v52 ((fun l r => Host.dotGeneral dot_S4x1024x2048_S2048x96_S4x1024x96_2_0_01_1_n_n none l r) : (⟨S4x1024x2048, .f32⟩ : BufTy).Contents (Elt F) → (⟨S2048x96, .f32⟩ : BufTy).Contents (Elt F) → (⟨S4x1024x96, .f32⟩ : BufTy).Contents (Elt F)),
    unary main_v52 main_v53 ((extractStridedSlice S4x1024x64 ![0, 0, 0] · slices_S4x1024x96_S4x1024x64_0_0_0) : (⟨S4x1024x96, .f32⟩ : BufTy).Contents (Elt F) → (⟨S4x1024x64, .f32⟩ : BufTy).Contents (Elt F)),
    unary main_v52 main_v54 ((extractStridedSlice S4x1024x16 ![0, 0, 64] · slices_S4x1024x96_S4x1024x16_0_0_64) : (⟨S4x1024x96, .f32⟩ : BufTy).Contents (Elt F) → (⟨S4x1024x16, .f32⟩ : BufTy).Contents (Elt F)),
    unary main_v52 main_v55 ((extractStridedSlice S4x1024x16 ![0, 0, 80] · slices_S4x1024x96_S4x1024x16_0_0_80) : (⟨S4x1024x96, .f32⟩ : BufTy).Contents (Elt F) → (⟨S4x1024x16, .f32⟩ : BufTy).Contents (Elt F)) ]

/-- The reference's operations, in order: the third projection. -/
abbrev ops3 : List (HloOp τ sig (Elt F)) :=
  [ unary main_arg5 main_v56 ((transpose S64x2048 [1, 0] · transposes_S2048x64_S64x2048_1_0) : (⟨S2048x64, .f32⟩ : BufTy).Contents (Elt F) → (⟨S64x2048, .f32⟩ : BufTy).Contents (Elt F)),
    binary main_v53 main_v56 main_v57 ((fun l r => Host.dotGeneral dot_S4x1024x64_S64x2048_S4x1024x2048_2_0_01_1_n_n none l r) : (⟨S4x1024x64, .f32⟩ : BufTy).Contents (Elt F) → (⟨S64x2048, .f32⟩ : BufTy).Contents (Elt F) → (⟨S4x1024x2048, .f32⟩ : BufTy).Contents (Elt F)),
    unary main_arg6 main_v58 (broadcastInDim S1x1x2048 ![2] bcast_S2048_S1x1x2048_2 : (⟨S2048, .f32⟩ : BufTy).Contents (Elt F) → (⟨S1x1x2048, .f32⟩ : BufTy).Contents (Elt F)),
    unary main_v58 main_v59 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v57 main_v59 main_v60 (addf : (⟨S4x1024x2048, .f32⟩ : BufTy).Contents (Elt F) → (⟨S4x1024x2048, .f32⟩ : BufTy).Contents (Elt F) → (⟨S4x1024x2048, .f32⟩ : BufTy).Contents (Elt F)) ]

/-- The reference's operations, in order: the softplus and the gate. -/
abbrev ops4 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S4x1024x2048, .f32⟩) main_call2_v0) (broadcastInDim S4x1024x2048 ![] bcast_S_S4x1024x2048),
    TRef.binary (TRef.of (T := ⟨S4x1024x2048, .f32⟩) main_v60) (TRef.of (T := ⟨S4x1024x2048, .f32⟩) main_call2_v0) (TRef.of (T := ⟨S4x1024x2048, .f32⟩) main_call2_v1) maximumf,
    TRef.unary (TRef.of (T := ⟨S_, .f32⟩) main_call2_cst) (TRef.of (T := ⟨S4x1024x2048, .f32⟩) main_call2_v2) (broadcastInDim S4x1024x2048 ![] bcast_S_S4x1024x2048),
    TRef.binary (TRef.of (T := ⟨S4x1024x2048, .f32⟩) main_v60) (TRef.of (T := ⟨S4x1024x2048, .f32⟩) main_call2_v2) (TRef.of (T := ⟨S4x1024x2048, .f32⟩) main_call2_v3) subf,
    TRef.binary (TRef.of (T := ⟨S4x1024x2048, .f32⟩) main_call2_v3) (TRef.of (T := ⟨S4x1024x2048, .f32⟩) main_call2_v3) (TRef.of (T := ⟨S4x1024x2048, .i1⟩) main_call2_v4) (cmpf .une),
    TRef.unary (TRef.of (T := ⟨S_, .f32⟩) main_call2_cst) (TRef.of (T := ⟨S4x1024x2048, .f32⟩) main_call2_v5) (broadcastInDim S4x1024x2048 ![] bcast_S_S4x1024x2048),
    TRef.binary (TRef.of (T := ⟨S4x1024x2048, .f32⟩) main_v60) (TRef.of (T := ⟨S4x1024x2048, .f32⟩) main_call2_v5) (TRef.of (T := ⟨S4x1024x2048, .f32⟩) main_call2_v6) addf,
    TRef.unary (TRef.of (T := ⟨S4x1024x2048, .f32⟩) main_call2_v3) (TRef.of (T := ⟨S4x1024x2048, .f32⟩) main_call2_v7) Host.absf,
    TRef.unary (TRef.of (T := ⟨S4x1024x2048, .f32⟩) main_call2_v7) (TRef.of (T := ⟨S4x1024x2048, .f32⟩) main_call2_v8) Host.negf,
    TRef.unary (TRef.of (T := ⟨S4x1024x2048, .f32⟩) main_call2_v8) (TRef.of (T := ⟨S4x1024x2048, .f32⟩) main_call2_v9) Host.exp,
    TRef.unary (TRef.of (T := ⟨S4x1024x2048, .f32⟩) main_call2_v9) (TRef.of (T := ⟨S4x1024x2048, .f32⟩) main_call2_v10) Host.log1p,
    TRef.binary (TRef.of (T := ⟨S4x1024x2048, .f32⟩) main_call2_v1) (TRef.of (T := ⟨S4x1024x2048, .f32⟩) main_call2_v10) (TRef.of (T := ⟨S4x1024x2048, .f32⟩) main_call2_v11) addf,
    TRef.ternary (TRef.of (T := ⟨S4x1024x2048, .i1⟩) main_call2_v4) (TRef.of (T := ⟨S4x1024x2048, .f32⟩) main_call2_v6) (TRef.of (T := ⟨S4x1024x2048, .f32⟩) main_call2_v11) (TRef.of (T := ⟨S4x1024x2048, .f32⟩) main_v61) select,
    TRef.unary (TRef.of (T := ⟨S4x1024x2048, .f32⟩) main_v16) (TRef.of (T := ⟨S4x1024x2048, .f32⟩) main_call3_v0) Host.negf,
    TRef.unary (TRef.of (T := ⟨S4x1024x2048, .f32⟩) main_call3_v0) (TRef.of (T := ⟨S4x1024x2048, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4x1024x2048, .f32⟩) main_call3_v2) (broadcastInDim S4x1024x2048 ![] bcast_S_S4x1024x2048),
    TRef.binary (TRef.of (T := ⟨S4x1024x2048, .f32⟩) main_call3_v2) (TRef.of (T := ⟨S4x1024x2048, .f32⟩) main_call3_v1) (TRef.of (T := ⟨S4x1024x2048, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4x1024x2048, .f32⟩) main_call3_v4) (broadcastInDim S4x1024x2048 ![] bcast_S_S4x1024x2048),
    TRef.binary (TRef.of (T := ⟨S4x1024x2048, .f32⟩) main_call3_v4) (TRef.of (T := ⟨S4x1024x2048, .f32⟩) main_call3_v3) (TRef.of (T := ⟨S4x1024x2048, .f32⟩) main_call3_v5) Host.divf,
    TRef.binary (TRef.of (T := ⟨S4x1024x2048, .f32⟩) main_v16) (TRef.of (T := ⟨S4x1024x2048, .f32⟩) main_call3_v5) (TRef.of (T := ⟨S4x1024x2048, .f32⟩) main_v62) mulf ]

/-- The reference's operations, in order: the results. -/
abbrev ops5 : List (HloOp τ sig (Elt F)) :=
  [ binary main_v54 main_v55 main_v63 (catBC (F := F)),
    unary main_v63 main_v64 ((transpose S4x32x1024 [0, 2, 1] · transposes_S4x1024x32_S4x32x1024_0_2_1) : (⟨S4x1024x32, .f32⟩ : BufTy).Contents (Elt F) → (⟨S4x32x1024, .f32⟩ : BufTy).Contents (Elt F)),
    unary main_v61 main_v65 ((truncf .bf16 · bitsLt_bf16_f32) : (⟨S4x1024x2048, .f32⟩ : BufTy).Contents (Elt F) → (⟨S4x1024x2048, .bf16⟩ : BufTy).Contents (Elt F)),
    binary main_v61 main_v50 main_v66 (mulf : (⟨S4x1024x2048, .f32⟩ : BufTy).Contents (Elt F) → (⟨S4x1024x2048, .f32⟩ : BufTy).Contents (Elt F) → (⟨S4x1024x2048, .f32⟩ : BufTy).Contents (Elt F)),
    unary main_v66 main_v67 ((truncf .bf16 · bitsLt_bf16_f32) : (⟨S4x1024x2048, .f32⟩ : BufTy).Contents (Elt F) → (⟨S4x1024x2048, .bf16⟩ : BufTy).Contents (Elt F)),
    unary main_v62 main_v68 ((truncf .bf16 · bitsLt_bf16_f32) : (⟨S4x1024x2048, .f32⟩ : BufTy).Contents (Elt F) → (⟨S4x1024x2048, .bf16⟩ : BufTy).Contents (Elt F)),
    unary main_arg7 main_v69 (broadcastInDim S1x1x2048 ![2] bcast_S2048_S1x1x2048_2 : (⟨S2048, .f32⟩ : BufTy).Contents (Elt F) → (⟨S1x1x2048, .f32⟩ : BufTy).Contents (Elt F)),
    unary main_v69 main_v70 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    binary main_v50 main_v70 main_v71 (mulf : (⟨S4x1024x2048, .f32⟩ : BufTy).Contents (Elt F) → (⟨S4x1024x2048, .f32⟩ : BufTy).Contents (Elt F) → (⟨S4x1024x2048, .f32⟩ : BufTy).Contents (Elt F)),
    binary main_v71 main_v62 main_v72 (mulf : (⟨S4x1024x2048, .f32⟩ : BufTy).Contents (Elt F) → (⟨S4x1024x2048, .f32⟩ : BufTy).Contents (Elt F) → (⟨S4x1024x2048, .f32⟩ : BufTy).Contents (Elt F)),
    unary main_v72 main_v73 ((truncf .bf16 · bitsLt_bf16_f32) : (⟨S4x1024x2048, .f32⟩ : BufTy).Contents (Elt F) → (⟨S4x1024x2048, .bf16⟩ : BufTy).Contents (Elt F)) ]

/-! What the operations write, and that they touch only the device's buffers -/

abbrev ops0_W : List (Ref sig .tc) := [main_v0, main_cst, main_v1, main_v2, main_cst_0, main_v3, main_v4, main_cst_1, main_v5, main_v6, main_v7, main_v8, main_v9, main_v10, main_v11, main_v12, main_v13, main_v14, main_v15, main_v16]
theorem ops0_writes : (ops0 : List (HloOp τ sig (Elt F))).Forall fun op => op.writes ⊆ (ops0_W.map (Proc.devRef (τ := τ) .tc)).toFinset :=
  StableHlo.forall_writes_sub_of_map rfl
abbrev ops1_W : List (Ref sig .tc) := [main_c, main_call0_v0, main_v17, main_v18, main_v19, main_v20, main_v21, main_v22, main_v23, main_cst_2, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49]
theorem ops1_writes : (ops1 : List (HloOp τ sig (Elt F))).Forall fun op => op.writes ⊆ (ops1_W.map (Proc.devRef (τ := τ) .tc)).toFinset :=
  StableHlo.forall_writes_sub_of_map rfl
abbrev ops2_W : List (Ref sig .tc) := [main_call1_v0, main_call1_v1, main_call1_cst, main_call1_v2, main_call1_v3, main_call1_cst_0, main_call1_v4, main_call1_v5, main_v50, main_v51, main_v52, main_v53, main_v54, main_v55]
theorem ops2_writes : (ops2 : List (HloOp τ sig (Elt F))).Forall fun op => op.writes ⊆ (ops2_W.map (Proc.devRef (τ := τ) .tc)).toFinset :=
  StableHlo.forall_writes_sub_of_map rfl
abbrev ops3_W : List (Ref sig .tc) := [main_v56, main_v57, main_v58, main_v59, main_v60]
theorem ops3_writes : (ops3 : List (HloOp τ sig (Elt F))).Forall fun op => op.writes ⊆ (ops3_W.map (Proc.devRef (τ := τ) .tc)).toFinset :=
  StableHlo.forall_writes_sub_of_map rfl
abbrev ops4_W : List (Ref sig .tc) := [main_call2_cst, main_call2_v0, main_call2_v1, main_call2_v2, main_call2_v3, main_call2_v4, main_call2_v5, main_call2_v6, main_call2_v7, main_call2_v8, main_call2_v9, main_call2_v10, main_call2_v11, main_v61, main_call3_v0, main_call3_v1, main_call3_cst, main_call3_v2, main_call3_v3, main_call3_cst_0, main_call3_v4, main_call3_v5, main_v62]
theorem ops4_writes : (ops4 : List (HloOp τ sig (Elt F))).Forall fun op => op.writes ⊆ (ops4_W.map (Proc.devRef (τ := τ) .tc)).toFinset :=
  StableHlo.forall_writes_sub_of_map rfl
abbrev ops5_W : List (Ref sig .tc) := [main_v63, main_v64, main_v65, main_v66, main_v67, main_v68, main_v69, main_v70, main_v71, main_v72, main_v73]
theorem ops5_writes : (ops5 : List (HloOp τ sig (Elt F))).Forall fun op => op.writes ⊆ (ops5_W.map (Proc.devRef (τ := τ) .tc)).toFinset :=
  StableHlo.forall_writes_sub_of_map rfl
theorem ops0_sub : (ops0 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub ..⟩
theorem ops1_sub : (ops1 : List (HloOp τ sig (Elt F))).Forall fun op => op.bufs ⊆ tcRefs τ sig :=
  ⟨nullary_bufs_sub .., unary_bufs_sub .., binary_bufs_sub .., unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., unary_bufs_sub ..⟩
theorem ops3_sub : (ops3 : List (HloOp τ sig (Elt F))).Forall fun op => op.bufs ⊆ tcRefs τ sig :=
  ⟨unary_bufs_sub .., binary_bufs_sub .., unary_bufs_sub .., unary_bufs_sub .., binary_bufs_sub ..⟩
theorem ops4_sub : (ops4 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., nullary_bufs_sub .., unary_bufs_sub .., binary_bufs_sub .., nullary_bufs_sub .., unary_bufs_sub .., binary_bufs_sub .., binary_bufs_sub ..⟩
theorem ops5_sub : (ops5 : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., unary_bufs_sub .., binary_bufs_sub .., binary_bufs_sub .., unary_bufs_sub ..⟩

/-- All the reference's operations, in order. -/
abbrev ops : List (HloOp τ sig (Elt F)) := ops0 ++ (ops1 ++ (ops2 ++ (ops3 ++ (ops4 ++ ops5))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ops1_sub, ops2_sub, ops3_sub, ops4_sub, ops5_sub⟩

variable (V : Valuation τ sig (Elt F))

theorem after_ops (b : DevRef τ sig) : after ops V b = after ops5 (after ops4 (after ops3 (after ops2 (after ops1 (after ops0 V))))) b := by
  simp only [ops, after_append]

end Cert.TokReferenceIdeal.Stages

end
-- ==== Proof.TokRef.lean ====
module

public import proofs.«01_k».proof.Proof.TokRefOps
public import Idealize.ShloMosaic.Lib.Pointwise

@[expose] public section

set_option maxRecDepth 16384

noncomputable section

namespace Cert.TokReferenceIdeal.Stages

open Cert.TokReferenceIdeal Cert.TokReferenceIdeal.Gen Cert.TokMath
open Idealize.ShloMosaic Idealize.ShloMosaic.TcCoe Idealize.ShloMosaic.StableHlo Idealize.SL Idealize.SL.Sem

variable (V : Valuation τ sig (Elt Ideal))

/-- The contents of the arrays the stages hand on, by name. -/
abbrev a0 : FVec Ideal S4x1024x1024 .f32 := V (Proc.devRef .tc main_arg0)
abbrev a1 : FVec Ideal S4096x1024 .f32 := V (Proc.devRef .tc main_arg1)
abbrev a2 : FVec Ideal S2048x4 .f32 := V (Proc.devRef .tc main_arg2)
abbrev a3 : FVec Ideal S2048 .f32 := V (Proc.devRef .tc main_arg3)
abbrev a4 : FVec Ideal S96x2048 .f32 := V (Proc.devRef .tc main_arg4)
abbrev a5 : FVec Ideal S2048x64 .f32 := V (Proc.devRef .tc main_arg5)
abbrev a6 : FVec Ideal S2048 .f32 := V (Proc.devRef .tc main_arg6)
abbrev a7 : FVec Ideal S2048 .f32 := V (Proc.devRef .tc main_arg7)
abbrev a8 : FVec Ideal S1024 .f32 := V (Proc.devRef .tc main_arg8)
abbrev v14 : FVec Ideal S4x1024x4096 .f32 := V (Proc.devRef .tc main_v14)
abbrev v15 : FVec Ideal S4x1024x2048 .f32 := V (Proc.devRef .tc main_v15)
abbrev v16 : FVec Ideal S4x1024x2048 .f32 := V (Proc.devRef .tc main_v16)
abbrev v49 : FVec Ideal S4x1024x2048 .f32 := V (Proc.devRef .tc main_v49)
abbrev v50 : FVec Ideal S4x1024x2048 .f32 := V (Proc.devRef .tc main_v50)
abbrev v52 : FVec Ideal S4x1024x96 .f32 := V (Proc.devRef .tc main_v52)
abbrev v53 : FVec Ideal S4x1024x64 .f32 := V (Proc.devRef .tc main_v53)
abbrev v54 : FVec Ideal S4x1024x16 .f32 := V (Proc.devRef .tc main_v54)
abbrev v55 : FVec Ideal S4x1024x16 .f32 := V (Proc.devRef .tc main_v55)
abbrev v60 : FVec Ideal S4x1024x2048 .f32 := V (Proc.devRef .tc main_v60)
abbrev v61 : FVec Ideal S4x1024x2048 .f32 := V (Proc.devRef .tc main_v61)
abbrev v62 : FVec Ideal S4x1024x2048 .f32 := V (Proc.devRef .tc main_v62)
abbrev v64 : FVec Ideal S4x32x1024 .f32 := V (Proc.devRef .tc main_v64)
abbrev v65 : FVec Ideal S4x1024x2048 .bf16 := V (Proc.devRef .tc main_v65)
abbrev v67 : FVec Ideal S4x1024x2048 .bf16 := V (Proc.devRef .tc main_v67)
abbrev v68 : FVec Ideal S4x1024x2048 .bf16 := V (Proc.devRef .tc main_v68)
abbrev v73 : FVec Ideal S4x1024x2048 .bf16 := V (Proc.devRef .tc main_v73)

/-- The projection of the normalised rows, cut in two. -/
theorem v15_at (b : Fin 4) (t : Fin 1024) (L : Fin 2048) :
    v15 (after ops0 V) (ix3 b t L) = proj (fun d => a0 V (ix3 b t d)) (fun d => a8 V (ix1 d)) (fun j d => a1 V (ix2 j d)) ⟨L.val, by omega⟩ := by
  unfold v15
  after_results
  pointwise [proj, nrm]

theorem v16_at (b : Fin 4) (t : Fin 1024) (L : Fin 2048) :
    v16 (after ops0 V) (ix3 b t L) = proj (fun d => a0 V (ix3 b t d)) (fun d => a8 V (ix1 d)) (fun j d => a1 V (ix2 j d)) ⟨2048 + L.val, by omega⟩ := by
  unfold v16
  after_results
  pointwise [proj, nrm]

/-- The convolution with its bias, three zero rows in front. -/
theorem v49_at (b : Fin 4) (t : Fin 1024) (L : Fin 2048) (X : ℕ → EReal)
    (hX : ∀ i, X i = if h : 3 ≤ i ∧ i < 1027 then v15 V (ix3 b ⟨i - 3, by omega⟩ L) else 0) :
    v49 (after ops1 V) (ix3 b t L) = X t.val * a2 V (ix2 L 0) + X (t.val + 1) * a2 V (ix2 L 1) + X (t.val + 2) * a2 V (ix2 L 2) + X (t.val + 3) * a2 V (ix2 L 3) + a3 V (ix1 L) := by
  unfold v49
  simp only [ops1, TRef.binary, TRef.nullary, TRef.ternary, TRef.unary, TRef.toBuf, TRef.ofBuf, cast_eq]
  after_results_simp
  pointwise []
  have h0 : (FloatOps.sitofp FTy.f32 0#32 : Ideal .f32) = (0 : EReal) := by
    show (((0#32 : BitVec 32).toInt : ℝ) : EReal) = 0
    simp
  have hz : ∀ i, (if h : 3 ≤ i ∧ i - 3 < 1024 then V (Proc.devRef .tc main_v15) (ix3 b ⟨i - 3, h.2⟩ L) else (FloatOps.sitofp FTy.f32 0#32 : Ideal .f32)) = X i := by
    intro i
    rw [hX i, h0]
    by_cases h : 3 ≤ i ∧ i < 1027
    · rw [dif_pos h, dif_pos ⟨h.1, by omega⟩]
    · rw [dif_neg h, dif_neg fun e => h ⟨e.1, by omega⟩]
  have h3 : X (t.val + 3) = v15 V (ix3 b t L) := by
    rw [hX, dif_pos ⟨by omega, by omega⟩]
    rfl
  rw [hz, hz, hz, h3, Nat.add_comm 1 t.val, Nat.add_comm 2 t.val]

theorem v50_at (b : Fin 4) (t : Fin 1024) (L : Fin 2048) : v50 (after ops2 V) (ix3 b t L) = silu (v49 V (ix3 b t L)) := by
  unfold v50
  simp only [ops2, TRef.binary, TRef.nullary, TRef.ternary, TRef.unary, TRef.toBuf, TRef.ofBuf, cast_eq]
  after_results_simp
  pointwise [silu]

theorem v53_at (b : Fin 4) (t : Fin 1024) (k : Fin 64) : v53 (after ops2 V) (ix3 b t k) = ∑ L : Fin 2048, silu (v49 V (ix3 b t L)) * a4 V (ix2 ⟨k.val, by omega⟩ L) := by
  unfold v53
  simp only [ops2, TRef.binary, TRef.nullary, TRef.ternary, TRef.unary, TRef.toBuf, TRef.ofBuf, cast_eq]
  after_results_simp
  pointwise [silu]

theorem v54_at (b : Fin 4) (t : Fin 1024) (k : Fin 16) : v54 (after ops2 V) (ix3 b t k) = ∑ L : Fin 2048, silu (v49 V (ix3 b t L)) * a4 V (ix2 ⟨64 + k.val, by omega⟩ L) := by
  unfold v54
  simp only [ops2, TRef.binary, TRef.nullary, TRef.ternary, TRef.unary, TRef.toBuf, TRef.ofBuf, cast_eq]
  after_results_simp
  pointwise [silu]

theorem v55_at (b : Fin 4) (t : Fin 1024) (k : Fin 16) : v55 (after ops2 V) (ix3 b t k) = ∑ L : Fin 2048, silu (v49 V (ix3 b t L)) * a4 V (ix2 ⟨80 + k.val, by omega⟩ L) := by
  unfold v55
  simp only [ops2, TRef.binary, TRef.nullary, TRef.ternary, TRef.unary, TRef.toBuf, TRef.ofBuf, cast_eq]
  after_results_simp
  pointwise [silu]

theorem v60_at (b : Fin 4) (t : Fin 1024) (L : Fin 2048) : v60 (after ops3 V) (ix3 b t L) = (∑ k : Fin 64, v53 V (ix3 b t k) * a5 V (ix2 L k)) + a6 V (ix1 L) := by
  unfold v60
  after_results
  pointwise []

theorem v61_at (b : Fin 4) (t : Fin 1024) (L : Fin 2048) : v61 (after ops4 V) (ix3 b t L) = softplus (v60 V (ix3 b t L)) := by
  unfold v61
  simp only [ops4, TRef.binary, TRef.nullary, TRef.ternary, TRef.unary, TRef.toBuf, TRef.ofBuf, cast_eq]
  after_results_simp
  pointwise [softplus]
  rw [if_neg (not_not.mpr rfl)]
  rfl

theorem v62_at (b : Fin 4) (t : Fin 1024) (L : Fin 2048) : v62 (after ops4 V) (ix3 b t L) = silu (v16 V (ix3 b t L)) := by
  unfold v62
  simp only [ops4, TRef.binary, TRef.nullary, TRef.ternary, TRef.unary, TRef.toBuf, TRef.ofBuf, cast_eq]
  after_results_simp
  pointwise [silu]

theorem v64_at (b : Fin 4) (q : Fin 32) (t : Fin 1024) : v64 (after ops5 V) (ix3 b q t) = if h : q.val < 16 then v54 V (ix3 b t ⟨q.val, h⟩) else v55 V (ix3 b t ⟨q.val - 16, by omega⟩) := by
  unfold v64
  after_results
  pointwise [catBC]

theorem v65_at (b : Fin 4) (t : Fin 1024) (L : Fin 2048) : v65 (after ops5 V) (ix3 b t L) = v61 V (ix3 b t L) := by
  unfold v65
  after_results
  pointwise []
theorem v67_at (b : Fin 4) (t : Fin 1024) (L : Fin 2048) : v67 (after ops5 V) (ix3 b t L) = v61 V (ix3 b t L) * v50 V (ix3 b t L) := by
  unfold v67
  after_results
  pointwise []
theorem v68_at (b : Fin 4) (t : Fin 1024) (L : Fin 2048) : v68 (after ops5 V) (ix3 b t L) = v62 V (ix3 b t L) := by
  unfold v68
  after_results
  pointwise []
theorem v73_at (b : Fin 4) (t : Fin 1024) (L : Fin 2048) : v73 (after ops5 V) (ix3 b t L) = v50 V (ix3 b t L) * a7 V (ix1 L) * v62 V (ix3 b t L) := by
  unfold v73
  after_results
  pointwise []

/-! ## The stages together -/

variable (m : (ℓ : Loc nD τ sig) → Buf (Elt Ideal) ℓ) (c : Dev nD)

/-- The device's buffers at launch and after each stage. -/
abbrev V0 : Valuation τ sig (Elt Ideal) := fun b => m (c, b)
abbrev V1 : Valuation τ sig (Elt Ideal) := after ops0 (V0 m c)
abbrev V2 : Valuation τ sig (Elt Ideal) := after ops1 (V1 m c)
abbrev V3 : Valuation τ sig (Elt Ideal) := after ops2 (V2 m c)
abbrev V4 : Valuation τ sig (Elt Ideal) := after ops3 (V3 m c)
abbrev V5 : Valuation τ sig (Elt Ideal) := after ops4 (V4 m c)
abbrev V6 : Valuation τ sig (Elt Ideal) := after ops5 (V5 m c)

theorem keep0 (r : Ref sig .tc) (h : r ∉ ops0_W) : V1 m c (Proc.devRef .tc r) = V0 m c (Proc.devRef .tc r) := after_of_writes_sub ops0 _ ops0_writes h
theorem keep1 (r : Ref sig .tc) (h : r ∉ ops1_W) : V2 m c (Proc.devRef .tc r) = V1 m c (Proc.devRef .tc r) := after_of_writes_sub ops1 _ ops1_writes h
theorem keep2 (r : Ref sig .tc) (h : r ∉ ops2_W) : V3 m c (Proc.devRef .tc r) = V2 m c (Proc.devRef .tc r) := after_of_writes_sub ops2 _ ops2_writes h
theorem keep3 (r : Ref sig .tc) (h : r ∉ ops3_W) : V4 m c (Proc.devRef .tc r) = V3 m c (Proc.devRef .tc r) := after_of_writes_sub ops3 _ ops3_writes h
theorem keep4 (r : Ref sig .tc) (h : r ∉ ops4_W) : V5 m c (Proc.devRef .tc r) = V4 m c (Proc.devRef .tc r) := after_of_writes_sub ops4 _ ops4_writes h
theorem keep5 (r : Ref sig .tc) (h : r ∉ ops5_W) : V6 m c (Proc.devRef .tc r) = V5 m c (Proc.devRef .tc r) := after_of_writes_sub ops5 _ ops5_writes h

/-- The arguments, as functions of their coordinates. -/
abbrev fX (b : Fin 4) : Fin 1024 → Fin 1024 → EReal := fun t d => a0 (V0 m c) (ix3 b t d)
abbrev fnw : Fin 1024 → EReal := fun d => a8 (V0 m c) (ix1 d)
abbrev fW : Fin 4096 → Fin 1024 → EReal := fun j d => a1 (V0 m c) (ix2 j d)
abbrev fcw : Fin 2048 → Fin 4 → EReal := fun L k => a2 (V0 m c) (ix2 L k)
abbrev fcb : Fin 2048 → EReal := fun L => a3 (V0 m c) (ix1 L)
abbrev fxw : Fin 96 → Fin 2048 → EReal := fun q L => a4 (V0 m c) (ix2 q L)
abbrev fdw : Fin 2048 → Fin 64 → EReal := fun L k => a5 (V0 m c) (ix2 L k)
abbrev fdb : Fin 2048 → EReal := fun L => a6 (V0 m c) (ix1 L)
abbrev fdd : Fin 2048 → EReal := fun L => a7 (V0 m c) (ix1 L)

variable (b : Fin 4) (t : Fin 1024)

theorem conv_eq (L : Fin 2048) : v49 (V2 m c) (ix3 b t L) = conv (fX m c b) (fnw m c) (fW m c) (fcw m c) (fcb m c) t L := by
  have h2 : a2 (V1 m c) = a2 (V0 m c) := keep0 m c main_arg2 (by decide)
  have h3 : a3 (V1 m c) = a3 (V0 m c) := keep0 m c main_arg3 (by decide)
  rw [v49_at (V1 m c) b t L (hp (fX m c b) (fnw m c) (fW m c) L) (fun i => ?_), h2, h3]
  · rfl
  · rw [hp]
    by_cases h : 3 ≤ i ∧ i < 1027
    · rw [dif_pos h, dif_pos h, v15_at]
    · rw [dif_neg h, dif_neg h]

theorem u_eq (L : Fin 2048) : v50 (V3 m c) (ix3 b t L) = u (fX m c b) (fnw m c) (fW m c) (fcw m c) (fcb m c) t L := by
  rw [v50_at, conv_eq]; rfl

theorem ssm_eq (q : Fin 96) : (∑ L : Fin 2048, silu (v49 (V2 m c) (ix3 b t L)) * a4 (V2 m c) (ix2 q L))
    = ssm (fX m c b) (fnw m c) (fW m c) (fcw m c) (fcb m c) (fxw m c) t q := by
  have h4 : a4 (V2 m c) = a4 (V0 m c) := (keep1 m c main_arg4 (by decide)).trans (keep0 m c main_arg4 (by decide))
  rw [h4]
  refine Finset.sum_congr rfl fun L _ => ?_
  rw [conv_eq]; rfl

theorem dt_eq (L : Fin 2048) : v61 (V5 m c) (ix3 b t L) = dt (fX m c b) (fnw m c) (fW m c) (fcw m c) (fcb m c) (fxw m c) (fdw m c) (fdb m c) t L := by
  have h5 : a5 (V3 m c) = a5 (V0 m c) := (keep2 m c main_arg5 (by decide)).trans ((keep1 m c main_arg5 (by decide)).trans (keep0 m c main_arg5 (by decide)))
  have h6 : a6 (V3 m c) = a6 (V0 m c) := (keep2 m c main_arg6 (by decide)).trans ((keep1 m c main_arg6 (by decide)).trans (keep0 m c main_arg6 (by decide)))
  rw [v61_at, v60_at, h5, h6, dt]
  refine congrArg softplus (congrArg (· + _) (Finset.sum_congr rfl fun k _ => congrArg (· * _) ?_))
  rw [v53_at, ssm_eq]

theorem gate_eq (L : Fin 2048) : v62 (V5 m c) (ix3 b t L) = gate (fX m c b) (fnw m c) (fW m c) t L := by
  have h : v16 (V4 m c) = v16 (V1 m c) := (keep3 m c main_v16 (by decide)).trans ((keep2 m c main_v16 (by decide)).trans (keep1 m c main_v16 (by decide)))
  rw [v62_at, h, v16_at]; rfl

theorem u_kept : v50 (V5 m c) = v50 (V3 m c) := (keep4 m c main_v50 (by decide)).trans (keep3 m c main_v50 (by decide))

/-- The five results at coordinates. -/
theorem res_dt (L : Fin 2048) : v65 (V6 m c) (ix3 b t L) = dt (fX m c b) (fnw m c) (fW m c) (fcw m c) (fcb m c) (fxw m c) (fdw m c) (fdb m c) t L := by
  rw [v65_at, dt_eq]
theorem res_dtu (L : Fin 2048) : v67 (V6 m c) (ix3 b t L)
    = dt (fX m c b) (fnw m c) (fW m c) (fcw m c) (fcb m c) (fxw m c) (fdw m c) (fdb m c) t L * u (fX m c b) (fnw m c) (fW m c) (fcw m c) (fcb m c) t L := by
  rw [v67_at, dt_eq, u_kept, u_eq]
theorem res_gate (L : Fin 2048) : v68 (V6 m c) (ix3 b t L) = gate (fX m c b) (fnw m c) (fW m c) t L := by
  rw [v68_at, gate_eq]
theorem res_skip (L : Fin 2048) : v73 (V6 m c) (ix3 b t L) = skip (fX m c b) (fnw m c) (fW m c) (fcw m c) (fcb m c) (fdd m c) t L := by
  have h7 : a7 (V5 m c) = a7 (V0 m c) := (keep4 m c main_arg7 (by decide)).trans ((keep3 m c main_arg7 (by decide)).trans ((keep2 m c main_arg7 (by decide)).trans ((keep1 m c main_arg7 (by decide)).trans (keep0 m c main_arg7 (by decide)))))
  rw [v73_at, gate_eq, u_kept, u_eq, h7]; rfl
theorem res_bc (q : Fin 32) : v64 (V6 m c) (ix3 b q t) = ssm (fX m c b) (fnw m c) (fW m c) (fcw m c) (fcb m c) (fxw m c) t ⟨64 + q.val, by omega⟩ := by
  have h54 : v54 (V5 m c) = v54 (V3 m c) := (keep4 m c main_v54 (by decide)).trans (keep3 m c main_v54 (by decide))
  have h55 : v55 (V5 m c) = v55 (V3 m c) := (keep4 m c main_v55 (by decide)).trans (keep3 m c main_v55 (by decide))
  rw [v64_at, h54, h55]
  by_cases h : q.val < 16
  · rw [dif_pos h, v54_at, ssm_eq]
  · rw [dif_neg h, v55_at, ssm_eq]
    exact congrArg _ (Fin.ext (by show 80 + (q.val - 16) = 64 + q.val; omega))

/-- An argument is as at launch in the end. -/
theorem kept (r : Ref sig .tc) (h0 : r ∉ ops0_W) (h1 : r ∉ ops1_W) (h2 : r ∉ ops2_W) (h3 : r ∉ ops3_W) (h4 : r ∉ ops4_W) (h5 : r ∉ ops5_W) :
    V6 m c (Proc.devRef .tc r) = m ((c.tc : Thread nD τ).loc r) :=
  (keep5 m c r h5).trans ((keep4 m c r h4).trans ((keep3 m c r h3).trans ((keep2 m c r h2).trans ((keep1 m c r h1).trans (keep0 m c r h0)))))

/-- Every fair run of the reference ends with the stages' results in its result arrays and its arguments as at launch. -/
theorem run (ρ : Dev nD → PrngReg) :
    θ_run defs (onTc (τ := τ) (main (F := Ideal))) ⟨m, fun _ => 0, ρ⟩ fun r => ∀ c : Dev nD,
      r.2.mem ((c.tc : Thread nD τ).loc main_v65) = v65 (V6 m c)
      ∧ r.2.mem ((c.tc : Thread nD τ).loc main_v67) = v67 (V6 m c)
      ∧ r.2.mem ((c.tc : Thread nD τ).loc main_v68) = v68 (V6 m c)
      ∧ r.2.mem ((c.tc : Thread nD τ).loc main_v73) = v73 (V6 m c)
      ∧ r.2.mem ((c.tc : Thread nD τ).loc main_v64) = v64 (V6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run_seq scopedRefs_eq scopedSems_eq defs main (fun _ => ops) main_eq (fun _ => ops_sub) m ρ)
  have e : ∀ b : Ref sig .tc, r.2.mem ((c.tc : Thread nD τ).loc b) = V6 m c (Proc.devRef .tc b) := fun b => (h c b).trans (after_ops _ _)
  have k : ∀ (b : Ref sig .tc) (h0 : b ∉ ops0_W) (h1 : b ∉ ops1_W) (h2 : b ∉ ops2_W) (h3 : b ∉ ops3_W) (h4 : b ∉ ops4_W) (h5 : b ∉ ops5_W),
      r.2.mem ((c.tc : Thread nD τ).loc b) = m ((c.tc : Thread nD τ).loc b) := fun b h0 h1 h2 h3 h4 h5 => (e b).trans (kept m c b h0 h1 h2 h3 h4 h5)
  refine ⟨e main_v65, e main_v67, e main_v68, e main_v73, e main_v64, ?_, ?_, ?_, ?_, ?_, ?_, ?_, ?_, ?_⟩
  all_goals exact k _ (by decide) (by decide) (by decide) (by decide) (by decide) (by decide)

end Cert.TokReferenceIdeal.Stages

end
-- ==== Proof.TokAlg.lean ====
module

public import proofs.«01_k».proof.Proof.TokFinal
public import proofs.«01_k».proof.Proof.TokRef
public import proofs.«01_k».proof.Proof.Gen.Tok.Frame
public import proofs.«01_k».proof.Defs
public import Idealize.ShloMosaic.Lib.Claim
public import Idealize.ShloMosaic.Lib.Quiescent

@[expose] public section

set_option maxRecDepth 16384

noncomputable section

namespace Cert.Proof.Tok

open Idealize.ShloMosaic Idealize.ShloMosaic.TcCoe Idealize.SL.Sem
open Cert.TokMath
open Cert.TokReferenceIdeal.Stages (V6 V0 v64 v65 v67 v68 v73 fX fnw fW fcw fcb fxw fdw fdb fdd)
open Cert.TokIdeal.Rows (gX gnw gW gcw gcb gxw gdw gdb gdd rDt rDtu rGate rSkip rBC)

theorem frame_Tok : Cert.quiescent_Tok := fun m g _ => Cert.Tok.Gen.frame m g
theorem frame_TokIdeal : Cert.quiescent_TokIdeal := fun m g _ => Cert.TokIdeal.Gen.frame m g
theorem frame_TokReferenceIdeal : Cert.quiescent_TokReferenceIdeal := fun m g _ =>
  (θ_run Cert.TokReferenceIdeal.defs _ _).mono (fun r h => ⟨fun c => (h c).2.2.2.2.2, sem_eq_zero_of_no_sems (by decide) r.2⟩)
    (Cert.TokReferenceIdeal.Stages.run m g)

theorem preserves : Cert.preserves_Tok_TokIdeal := by
  trivial

section
variable (m : (ℓ : Loc Cert.TokIdeal.nD Cert.TokIdeal.τ Cert.TokIdeal.sig) → Buf (Elt Ideal) ℓ)
  (m' : (ℓ : Loc Cert.TokReferenceIdeal.nD Cert.TokReferenceIdeal.τ Cert.TokReferenceIdeal.sig) → Buf (Elt Ideal) ℓ) (c : Dev Cert.TokIdeal.nD)

/-- The two programs are launched with the same arguments. -/
structure Agree : Prop where
  X : ∀ b, fX m' c b = gX m c b
  nw : fnw m' c = gnw m c
  W : fW m' c = gW m c
  cw : fcw m' c = gcw m c
  cb : fcb m' c = gcb m c
  xw : fxw m' c = gxw m c
  dw : fdw m' c = gdw m c
  db : fdb m' c = gdb m c
  dd : fdd m' c = gdd m c

variable {m m' c} (A : Agree m m' c)
include A

/-- The reference's step sizes are the kernel's. -/
theorem same_dt : v65 (V6 m' c) = rDt m c := by
  funext i
  idx_vars i
  refine (Cert.TokReferenceIdeal.Stages.res_dt m' c i0 i1 i2).trans ?_
  rw [A.X, A.nw, A.W, A.cw, A.cb, A.xw, A.dw, A.db]
  rfl

/-- The reference's step sizes times inputs are the kernel's. -/
theorem same_dtu : v67 (V6 m' c) = rDtu m c := by
  funext i
  idx_vars i
  refine (Cert.TokReferenceIdeal.Stages.res_dtu m' c i0 i1 i2).trans ?_
  rw [A.X, A.nw, A.W, A.cw, A.cb, A.xw, A.dw, A.db]
  rfl

/-- The reference's gates are the kernel's. -/
theorem same_gate : v68 (V6 m' c) = rGate m c := by
  funext i
  idx_vars i
  refine (Cert.TokReferenceIdeal.Stages.res_gate m' c i0 i1 i2).trans ?_
  rw [A.X, A.nw, A.W]
  rfl

/-- The reference's gated skip terms are the kernel's. -/
theorem same_skip : v73 (V6 m' c) = rSkip m c := by
  funext i
  idx_vars i
  refine (Cert.TokReferenceIdeal.Stages.res_skip m' c i0 i1 i2).trans ?_
  rw [A.X, A.nw, A.W, A.cw, A.cb, A.dd]
  rfl

/-- The reference's rows `B` and `C` are the kernel's. -/
theorem same_bc : v64 (V6 m' c) = rBC m c := by
  funext i
  idx_vars i
  refine (Cert.TokReferenceIdeal.Stages.res_bc m' c i0 i2 i1).trans ?_
  rw [A.X, A.nw, A.W, A.cw, A.cb, A.xw]
  rfl
end

theorem algebraic : Cert.algebraic_TokIdeal_TokReferenceIdeal := by
  pair_intro
  · run_from Cert.TokIdeal.Value.run_blocks m g
  · have A : ∀ c, Agree m m' c := fun c => by
      have h := hagree c
      exact {
        X := fun b => funext fun t => funext fun d => congrFun h.1 (ix3 b t d)
        W := funext fun j => funext fun d => congrFun h.2.1 (ix2 j d)
        cw := funext fun L => funext fun k => congrFun h.2.2.1 (ix2 L k)
        cb := funext fun L => congrFun h.2.2.2.1 (ix1 L)
        xw := funext fun q => funext fun L => congrFun h.2.2.2.2.1 (ix2 q L)
        dw := funext fun L => funext fun k => congrFun h.2.2.2.2.2.1 (ix2 L k)
        db := funext fun L => congrFun h.2.2.2.2.2.2.1 (ix1 L)
        dd := funext fun L => congrFun h.2.2.2.2.2.2.2.1 (ix1 L)
        nw := funext fun d => congrFun h.2.2.2.2.2.2.2.2 (ix1 d) }
    refine (θ_run Cert.TokReferenceIdeal.defs _ _).mono (fun r h c => ?_) (Cert.TokReferenceIdeal.Stages.run m' g')
    exact ⟨(h c).1.trans ((same_dt (A c)).trans (Cert.TokIdeal.Rows.final10 m c).symm),
      (h c).2.1.trans ((same_dtu (A c)).trans (Cert.TokIdeal.Rows.final11 m c).symm),
      (h c).2.2.1.trans ((same_gate (A c)).trans (Cert.TokIdeal.Rows.final12 m c).symm),
      (h c).2.2.2.1.trans ((same_skip (A c)).trans (Cert.TokIdeal.Rows.final13 m c).symm),
      (h c).2.2.2.2.1.trans ((same_bc (A c)).trans (Cert.TokIdeal.Rows.final14 m c).symm),
      (h c).2.2.2.2.2⟩

end Cert.Proof.Tok

end
-- ==== Proof.lean ====
/- The proof of the certificate's claim: every part is proved in the modules imported here. -/
module

public import proofs.«01_k».proof.Defs
public import proofs.«01_k».proof.Proof.ScanAlg
public import proofs.«01_k».proof.Proof.ScanFinalAlg
public import proofs.«01_k».proof.Proof.TokAlg

@[expose] public section

noncomputable section

namespace Cert.Proof

/-- The facts the programs state, and the claims one after the other. -/
theorem claim : Cert.Claim := ⟨Cert.Scan.Gen.facts, Cert.ScanIdeal.Gen.facts, Cert.ScanReferenceIdeal.Gen.facts,
  Cert.ScanFinal.Gen.facts, Cert.ScanFinalIdeal.Gen.facts, Cert.ScanFinalReferenceIdeal.Gen.facts,
  Cert.Tok.Gen.facts, Cert.TokIdeal.Gen.facts, Cert.TokReferenceIdeal.Gen.facts,
  Scan.frame_Scan, Scan.frame_ScanIdeal, Scan.frame_ScanReferenceIdeal,
  ScanFinal.frame_ScanFinal, ScanFinal.frame_ScanFinalIdeal, ScanFinal.frame_ScanFinalReferenceIdeal,
  Tok.frame_Tok, Tok.frame_TokIdeal, Tok.frame_TokReferenceIdeal,
  Scan.preserves, Scan.algebraic, ScanFinal.preserves, ScanFinal.algebraic, Tok.preserves, Tok.algebraic⟩

end Cert.Proof

end
